-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_is_finite [hPre_largest_is_finite : Cert.Pre_largest_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_largest_is_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_is_finite [hPre_largest_is_finite : Cert.Pre_largest_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_is_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_largest_is_finite [hKernelIdeal : Cert.KernelIdeal.Facts] [hPre_largest_is_finite : Cert.Pre_largest_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_is_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_largest_is_finite [hReferenceIdeal : Cert.ReferenceIdeal.Facts] [hPre_largest_is_finite : Cert.Pre_largest_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_largest_is_finite [hKernelIdeal : Cert.KernelIdeal.Facts] [hReferenceIdeal : Cert.ReferenceIdeal.Facts] [hPre_largest_is_finite : Cert.Pre_largest_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_largest_is_finite : Cert.Pre_largest_is_finite.Facts),
    quiescent_Kernel (hKernel := hKernel)
    ∧ quiescent_KernelIdeal (hKernelIdeal := hKernelIdeal)
    ∧ quiescent_KernelIdeal_pre_largest_is_finite (hKernelIdeal := hKernelIdeal) (hPre_largest_is_finite := hPre_largest_is_finite)
    ∧ quiescent_ReferenceIdeal (hReferenceIdeal := hReferenceIdeal)
    ∧ quiescent_ReferenceIdeal_pre_largest_is_finite (hReferenceIdeal := hReferenceIdeal) (hPre_largest_is_finite := hPre_largest_is_finite)
    ∧ preserves_Kernel_KernelIdeal
    ∧ algebraic_KernelIdeal_ReferenceIdeal_pre_largest_is_finite (hKernelIdeal := hKernelIdeal) (hReferenceIdeal := hReferenceIdeal) (hPre_largest_is_finite := hPre_largest_is_finite)
-- ==== Pre_largest_is_finite.lean ====
abbrev S4x65536x192 : Shape := ⟨3, ![4, 65536, 192]⟩
abbrev S_ : Shape := ⟨0, ![]⟩
abbrev S4x65536 : Shape := ⟨2, ![4, 65536]⟩

class Facts : Prop where
  reducesTo_S4x65536x192_S4x65536_d2 : S4x65536x192.ReducesTo [2] S4x65536
  h_S_ : 0 < S_.numel
  bcast_S_S4x65536 : S_.BroadcastsInDim S4x65536 (![] : Fin 0 → Fin S4x65536.rank)
  reducesTo_S4x65536_S_d0_1 : S4x65536.ReducesTo [0, 1] S_

variable [Facts]

def fn {F : FTy → Type} [FloatOps F] (main_arg0 : FVec F S4x65536x192 .f32) : IVec S_ 1 :=
  let main_cst : FVec F S_ .f32 := constant S_ .f32 0xFF800000#32
  let main_v0 : FVec F S4x65536 .f32 := (fun x v => Host.reduce FloatOps.maximumf x v reducesTo_S4x65536x192_S4x65536_d2 h_S_) main_arg0 main_cst
  let main_cst_0 : FVec F S_ .f32 := constant S_ .f32 0xFF800000#32
  let main_v1 : FVec F S4x65536 .f32 := broadcastInDim S4x65536 ![] bcast_S_S4x65536 main_cst_0
  let main_v2 : IVec S4x65536 1 := cmpf .ogt main_v0 main_v1
  let main_cst_1 : FVec F S_ .f32 := constant S_ .f32 0x7F800000#32
  let main_v3 : FVec F S4x65536 .f32 := broadcastInDim S4x65536 ![] bcast_S_S4x65536 main_cst_1
  let main_v4 : IVec S4x65536 1 := cmpf .olt main_v0 main_v3
  let main_v5 : IVec S4x65536 1 := andi main_v2 main_v4
  let main_c : IVec S_ 1 := constantI S_ 1 1#1
  let main_v6 : IVec S_ 1 := (fun x v => Host.reduce IntOp.andi x v reducesTo_S4x65536_S_d0_1 h_S_) main_v5 main_c
  main_v6
-- ==== Kernel.lean ====
abbrev S4x65536x192 : Shape := ⟨3, ![4, 65536, 192]⟩
abbrev S4x192x65536 : Shape := ⟨3, ![4, 192, 65536]⟩
abbrev S4x24x8x65536 : Shape := ⟨4, ![4, 24, 8, 65536]⟩
abbrev S98304 : Shape := ⟨1, ![98304]⟩
abbrev S24x8x128 : Shape := ⟨3, ![24, 8, 128]⟩
abbrev S3072 : Shape := ⟨1, ![3072]⟩
abbrev S_ : Shape := ⟨0, ![]⟩
abbrev S16 : Shape := ⟨1, ![16]⟩
abbrev S1x24x8x128 : Shape := ⟨4, ![1, 24, 8, 128]⟩
abbrev S1x1x16 : Shape := ⟨3, ![1, 1, 16]⟩
abbrev S4x24576 : Shape := ⟨2, ![4, 24576]⟩
abbrev S163840 : Shape := ⟨1, ![163840]⟩
abbrev S1x24x8x8192 : Shape := ⟨4, ![1, 24, 8, 8192]⟩
abbrev S8192 : Shape := ⟨1, ![8192]⟩
abbrev S24x8x8192 : Shape := ⟨3, ![24, 8, 8192]⟩
abbrev S192x8192 : Shape := ⟨2, ![192, 8192]⟩
abbrev S1x8192 : Shape := ⟨2, ![1, 8192]⟩
abbrev S4x40960 : Shape := ⟨2, ![4, 40960]⟩
abbrev S4x65536 : Shape := ⟨2, ![4, 65536]⟩

abbrev nBuf : Table → Nat
  | .hbm => 8
  | .local .tc .vmem => 4
  | .local .scVector .vmem => 3
  | _ => 0

abbrev bufTy : (tb : Table) → Fin (nBuf tb) → BufTy
  | .hbm, ⟨0, _⟩ => ⟨S4x65536x192, .f32⟩
  | .hbm, ⟨1, _⟩ => ⟨S4x192x65536, .f32⟩
  | .hbm, ⟨2, _⟩ => ⟨S4x24x8x65536, .f32⟩
  | .hbm, ⟨3, _⟩ => ⟨S98304, .f32⟩
  | .hbm, ⟨4, _⟩ => ⟨S4x24576, .f32⟩
  | .hbm, ⟨5, _⟩ => ⟨S163840, .f32⟩
  | .hbm, ⟨6, _⟩ => ⟨S4x40960, .f32⟩
  | .hbm, ⟨7, _⟩ => ⟨S4x65536, .f32⟩
  | .local .tc .vmem, ⟨0, _⟩ => ⟨S1x24x8x8192, .f32⟩
  | .local .tc .vmem, ⟨1, _⟩ => ⟨S1x24x8x8192, .f32⟩
  | .local .tc .vmem, ⟨2, _⟩ => ⟨S8192, .f32⟩
  | .local .tc .vmem, ⟨3, _⟩ => ⟨S8192, .f32⟩
  | .local .scVector .vmem, ⟨0, _⟩ => ⟨S24x8x128, .f32⟩
  | .local .scVector .vmem, ⟨1, _⟩ => ⟨S24x8x128, .f32⟩
  | .local .scVector .vmem, ⟨2, _⟩ => ⟨S3072, .f32⟩
  | _, _ => ⟨S4x65536x192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v1_scv : Ref sig .scVector := ⟨.hbm, 2, rfl⟩
abbrev main_v2_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_13 : BitVec 32 := 0#32
  let c0_i32_14 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let c0_i32_12 : BitVec 32 := 0#32
  let v33 : BitVec 32 := Scalar.addi v29 c0_i32_12
  let c128_i32 : BitVec 32 := 128#32
  let v34 : BitVec 32 := Scalar.muli v33 c128_i32
  ![v18.toNat, 0, 0, v34.toNat]
@[reducible] def k0_t1_loop : Scf.Loop 32 :=
  let c0_i32_18 : BitVec 32 := 0#32
  let c12_i32 : BitVec 32 := 12#32
  let v39 : BitVec 32 := Scalar.addi c0_i32_18 c12_i32
  let c1_i32_19 : BitVec 32 := 1#32
  ⟨c0_i32_18, v39, c1_i32_19⟩
def k0_off2 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_24 : BitVec 32 := 0#32
  let c0_i32_25 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let c0_i32_18 : BitVec 32 := 0#32
  let c1_i32_19 : BitVec 32 := 1#32
  let arg9 : BitVec 32 := Scf.iv c0_i32_18 c1_i32_19 k0_t1
  let c2_i32_21 : BitVec 32 := 2#32
  let v42 : BitVec 32 := Scalar.muli arg9 c2_i32_21
  let c1_i32_22 : BitVec 32 := 1#32
  let v43 : BitVec 32 := Scalar.addi v42 c1_i32_22
  let v44 : BitVec 32 := Scalar.addi v29 v43
  let c128_i32_23 : BitVec 32 := 128#32
  let v45 : BitVec 32 := Scalar.muli v44 c128_i32_23
  ![v18.toNat, 0, 0, v45.toNat]
@[reducible] def k0_t2_loop : Scf.Loop 32 :=
  let c0_i32_35 : BitVec 32 := 0#32
  let c24_i32_36 : BitVec 32 := 24#32
  let v54 : BitVec 32 := Scalar.addi c0_i32_35 c24_i32_36
  let c1_i32_37 : BitVec 32 := 1#32
  ⟨c0_i32_35, v54, c1_i32_37⟩
def k0_off3 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v274 : Index := Scalar.indexCast arg11
  let c0_i32_94 : BitVec 32 := 0#32
  let v275 : Index := Scalar.indexCast c0_i32_94
  let c0 : Index := 0#32
  ![v274.toNat, 0, 0]
def k0_off4 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v285 : Index := Scalar.indexCast arg11
  let c0_i32_95 : BitVec 32 := 0#32
  let v286 : Index := Scalar.indexCast c0_i32_95
  let c16 : Index := 16#32
  ![v285.toNat, 0, 16]
def k0_off5 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v296 : Index := Scalar.indexCast arg11
  let c0_i32_96 : BitVec 32 := 0#32
  let v297 : Index := Scalar.indexCast c0_i32_96
  let c32 : Index := 32#32
  ![v296.toNat, 0, 32]
def k0_off6 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v307 : Index := Scalar.indexCast arg11
  let c0_i32_97 : BitVec 32 := 0#32
  let v308 : Index := Scalar.indexCast c0_i32_97
  let c48 : Index := 48#32
  ![v307.toNat, 0, 48]
def k0_off7 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v318 : Index := Scalar.indexCast arg11
  let c0_i32_98 : BitVec 32 := 0#32
  let v319 : Index := Scalar.indexCast c0_i32_98
  let c64 : Index := 64#32
  ![v318.toNat, 0, 64]
def k0_off8 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v329 : Index := Scalar.indexCast arg11
  let c0_i32_99 : BitVec 32 := 0#32
  let v330 : Index := Scalar.indexCast c0_i32_99
  let c80 : Index := 80#32
  ![v329.toNat, 0, 80]
def k0_off9 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v340 : Index := Scalar.indexCast arg11
  let c0_i32_100 : BitVec 32 := 0#32
  let v341 : Index := Scalar.indexCast c0_i32_100
  let c96 : Index := 96#32
  ![v340.toNat, 0, 96]
def k0_off10 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v351 : Index := Scalar.indexCast arg11
  let c0_i32_101 : BitVec 32 := 0#32
  let v352 : Index := Scalar.indexCast c0_i32_101
  let c112 : Index := 112#32
  ![v351.toNat, 0, 112]
def k0_off11 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v363 : Index := Scalar.indexCast arg11
  let c1_i32_102 : BitVec 32 := 1#32
  let v364 : Index := Scalar.indexCast c1_i32_102
  let c0_103 : Index := 0#32
  ![v363.toNat, 1, 0]
def k0_off12 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v374 : Index := Scalar.indexCast arg11
  let c1_i32_104 : BitVec 32 := 1#32
  let v375 : Index := Scalar.indexCast c1_i32_104
  let c16_105 : Index := 16#32
  ![v374.toNat, 1, 16]
def k0_off13 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v385 : Index := Scalar.indexCast arg11
  let c1_i32_106 : BitVec 32 := 1#32
  let v386 : Index := Scalar.indexCast c1_i32_106
  let c32_107 : Index := 32#32
  ![v385.toNat, 1, 32]
def k0_off14 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v396 : Index := Scalar.indexCast arg11
  let c1_i32_108 : BitVec 32 := 1#32
  let v397 : Index := Scalar.indexCast c1_i32_108
  let c48_109 : Index := 48#32
  ![v396.toNat, 1, 48]
def k0_off15 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v407 : Index := Scalar.indexCast arg11
  let c1_i32_110 : BitVec 32 := 1#32
  let v408 : Index := Scalar.indexCast c1_i32_110
  let c64_111 : Index := 64#32
  ![v407.toNat, 1, 64]
def k0_off16 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v418 : Index := Scalar.indexCast arg11
  let c1_i32_112 : BitVec 32 := 1#32
  let v419 : Index := Scalar.indexCast c1_i32_112
  let c80_113 : Index := 80#32
  ![v418.toNat, 1, 80]
def k0_off17 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v429 : Index := Scalar.indexCast arg11
  let c1_i32_114 : BitVec 32 := 1#32
  let v430 : Index := Scalar.indexCast c1_i32_114
  let c96_115 : Index := 96#32
  ![v429.toNat, 1, 96]
def k0_off18 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v440 : Index := Scalar.indexCast arg11
  let c1_i32_116 : BitVec 32 := 1#32
  let v441 : Index := Scalar.indexCast c1_i32_116
  let c112_117 : Index := 112#32
  ![v440.toNat, 1, 112]
def k0_off19 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v452 : Index := Scalar.indexCast arg11
  let c2_i32_118 : BitVec 32 := 2#32
  let v453 : Index := Scalar.indexCast c2_i32_118
  let c0_119 : Index := 0#32
  ![v452.toNat, 2, 0]
def k0_off20 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v463 : Index := Scalar.indexCast arg11
  let c2_i32_120 : BitVec 32 := 2#32
  let v464 : Index := Scalar.indexCast c2_i32_120
  let c16_121 : Index := 16#32
  ![v463.toNat, 2, 16]
def k0_off21 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v474 : Index := Scalar.indexCast arg11
  let c2_i32_122 : BitVec 32 := 2#32
  let v475 : Index := Scalar.indexCast c2_i32_122
  let c32_123 : Index := 32#32
  ![v474.toNat, 2, 32]
def k0_off22 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v485 : Index := Scalar.indexCast arg11
  let c2_i32_124 : BitVec 32 := 2#32
  let v486 : Index := Scalar.indexCast c2_i32_124
  let c48_125 : Index := 48#32
  ![v485.toNat, 2, 48]
def k0_off23 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v496 : Index := Scalar.indexCast arg11
  let c2_i32_126 : BitVec 32 := 2#32
  let v497 : Index := Scalar.indexCast c2_i32_126
  let c64_127 : Index := 64#32
  ![v496.toNat, 2, 64]
def k0_off24 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v507 : Index := Scalar.indexCast arg11
  let c2_i32_128 : BitVec 32 := 2#32
  let v508 : Index := Scalar.indexCast c2_i32_128
  let c80_129 : Index := 80#32
  ![v507.toNat, 2, 80]
def k0_off25 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v518 : Index := Scalar.indexCast arg11
  let c2_i32_130 : BitVec 32 := 2#32
  let v519 : Index := Scalar.indexCast c2_i32_130
  let c96_131 : Index := 96#32
  ![v518.toNat, 2, 96]
def k0_off26 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v529 : Index := Scalar.indexCast arg11
  let c2_i32_132 : BitVec 32 := 2#32
  let v530 : Index := Scalar.indexCast c2_i32_132
  let c112_133 : Index := 112#32
  ![v529.toNat, 2, 112]
def k0_off27 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v541 : Index := Scalar.indexCast arg11
  let c3_i32 : BitVec 32 := 3#32
  let v542 : Index := Scalar.indexCast c3_i32
  let c0_134 : Index := 0#32
  ![v541.toNat, 3, 0]
def k0_off28 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v552 : Index := Scalar.indexCast arg11
  let c3_i32_135 : BitVec 32 := 3#32
  let v553 : Index := Scalar.indexCast c3_i32_135
  let c16_136 : Index := 16#32
  ![v552.toNat, 3, 16]
def k0_off29 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v563 : Index := Scalar.indexCast arg11
  let c3_i32_137 : BitVec 32 := 3#32
  let v564 : Index := Scalar.indexCast c3_i32_137
  let c32_138 : Index := 32#32
  ![v563.toNat, 3, 32]
def k0_off30 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v574 : Index := Scalar.indexCast arg11
  let c3_i32_139 : BitVec 32 := 3#32
  let v575 : Index := Scalar.indexCast c3_i32_139
  let c48_140 : Index := 48#32
  ![v574.toNat, 3, 48]
def k0_off31 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v585 : Index := Scalar.indexCast arg11
  let c3_i32_141 : BitVec 32 := 3#32
  let v586 : Index := Scalar.indexCast c3_i32_141
  let c64_142 : Index := 64#32
  ![v585.toNat, 3, 64]
def k0_off32 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v596 : Index := Scalar.indexCast arg11
  let c3_i32_143 : BitVec 32 := 3#32
  let v597 : Index := Scalar.indexCast c3_i32_143
  let c80_144 : Index := 80#32
  ![v596.toNat, 3, 80]
def k0_off33 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v607 : Index := Scalar.indexCast arg11
  let c3_i32_145 : BitVec 32 := 3#32
  let v608 : Index := Scalar.indexCast c3_i32_145
  let c96_146 : Index := 96#32
  ![v607.toNat, 3, 96]
def k0_off34 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v618 : Index := Scalar.indexCast arg11
  let c3_i32_147 : BitVec 32 := 3#32
  let v619 : Index := Scalar.indexCast c3_i32_147
  let c112_148 : Index := 112#32
  ![v618.toNat, 3, 112]
def k0_off35 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v630 : Index := Scalar.indexCast arg11
  let c4_i32 : BitVec 32 := 4#32
  let v631 : Index := Scalar.indexCast c4_i32
  let c0_149 : Index := 0#32
  ![v630.toNat, 4, 0]
def k0_off36 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v641 : Index := Scalar.indexCast arg11
  let c4_i32_150 : BitVec 32 := 4#32
  let v642 : Index := Scalar.indexCast c4_i32_150
  let c16_151 : Index := 16#32
  ![v641.toNat, 4, 16]
def k0_off37 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v652 : Index := Scalar.indexCast arg11
  let c4_i32_152 : BitVec 32 := 4#32
  let v653 : Index := Scalar.indexCast c4_i32_152
  let c32_153 : Index := 32#32
  ![v652.toNat, 4, 32]
def k0_off38 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v663 : Index := Scalar.indexCast arg11
  let c4_i32_154 : BitVec 32 := 4#32
  let v664 : Index := Scalar.indexCast c4_i32_154
  let c48_155 : Index := 48#32
  ![v663.toNat, 4, 48]
def k0_off39 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v674 : Index := Scalar.indexCast arg11
  let c4_i32_156 : BitVec 32 := 4#32
  let v675 : Index := Scalar.indexCast c4_i32_156
  let c64_157 : Index := 64#32
  ![v674.toNat, 4, 64]
def k0_off40 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v685 : Index := Scalar.indexCast arg11
  let c4_i32_158 : BitVec 32 := 4#32
  let v686 : Index := Scalar.indexCast c4_i32_158
  let c80_159 : Index := 80#32
  ![v685.toNat, 4, 80]
def k0_off41 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v696 : Index := Scalar.indexCast arg11
  let c4_i32_160 : BitVec 32 := 4#32
  let v697 : Index := Scalar.indexCast c4_i32_160
  let c96_161 : Index := 96#32
  ![v696.toNat, 4, 96]
def k0_off42 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v707 : Index := Scalar.indexCast arg11
  let c4_i32_162 : BitVec 32 := 4#32
  let v708 : Index := Scalar.indexCast c4_i32_162
  let c112_163 : Index := 112#32
  ![v707.toNat, 4, 112]
def k0_off43 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v719 : Index := Scalar.indexCast arg11
  let c5_i32 : BitVec 32 := 5#32
  let v720 : Index := Scalar.indexCast c5_i32
  let c0_164 : Index := 0#32
  ![v719.toNat, 5, 0]
def k0_off44 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v730 : Index := Scalar.indexCast arg11
  let c5_i32_165 : BitVec 32 := 5#32
  let v731 : Index := Scalar.indexCast c5_i32_165
  let c16_166 : Index := 16#32
  ![v730.toNat, 5, 16]
def k0_off45 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v741 : Index := Scalar.indexCast arg11
  let c5_i32_167 : BitVec 32 := 5#32
  let v742 : Index := Scalar.indexCast c5_i32_167
  let c32_168 : Index := 32#32
  ![v741.toNat, 5, 32]
def k0_off46 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v752 : Index := Scalar.indexCast arg11
  let c5_i32_169 : BitVec 32 := 5#32
  let v753 : Index := Scalar.indexCast c5_i32_169
  let c48_170 : Index := 48#32
  ![v752.toNat, 5, 48]
def k0_off47 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v763 : Index := Scalar.indexCast arg11
  let c5_i32_171 : BitVec 32 := 5#32
  let v764 : Index := Scalar.indexCast c5_i32_171
  let c64_172 : Index := 64#32
  ![v763.toNat, 5, 64]
def k0_off48 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v774 : Index := Scalar.indexCast arg11
  let c5_i32_173 : BitVec 32 := 5#32
  let v775 : Index := Scalar.indexCast c5_i32_173
  let c80_174 : Index := 80#32
  ![v774.toNat, 5, 80]
def k0_off49 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v785 : Index := Scalar.indexCast arg11
  let c5_i32_175 : BitVec 32 := 5#32
  let v786 : Index := Scalar.indexCast c5_i32_175
  let c96_176 : Index := 96#32
  ![v785.toNat, 5, 96]
def k0_off50 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v796 : Index := Scalar.indexCast arg11
  let c5_i32_177 : BitVec 32 := 5#32
  let v797 : Index := Scalar.indexCast c5_i32_177
  let c112_178 : Index := 112#32
  ![v796.toNat, 5, 112]
def k0_off51 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v808 : Index := Scalar.indexCast arg11
  let c6_i32 : BitVec 32 := 6#32
  let v809 : Index := Scalar.indexCast c6_i32
  let c0_179 : Index := 0#32
  ![v808.toNat, 6, 0]
def k0_off52 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v819 : Index := Scalar.indexCast arg11
  let c6_i32_180 : BitVec 32 := 6#32
  let v820 : Index := Scalar.indexCast c6_i32_180
  let c16_181 : Index := 16#32
  ![v819.toNat, 6, 16]
def k0_off53 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v830 : Index := Scalar.indexCast arg11
  let c6_i32_182 : BitVec 32 := 6#32
  let v831 : Index := Scalar.indexCast c6_i32_182
  let c32_183 : Index := 32#32
  ![v830.toNat, 6, 32]
def k0_off54 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v841 : Index := Scalar.indexCast arg11
  let c6_i32_184 : BitVec 32 := 6#32
  let v842 : Index := Scalar.indexCast c6_i32_184
  let c48_185 : Index := 48#32
  ![v841.toNat, 6, 48]
def k0_off55 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v852 : Index := Scalar.indexCast arg11
  let c6_i32_186 : BitVec 32 := 6#32
  let v853 : Index := Scalar.indexCast c6_i32_186
  let c64_187 : Index := 64#32
  ![v852.toNat, 6, 64]
def k0_off56 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v863 : Index := Scalar.indexCast arg11
  let c6_i32_188 : BitVec 32 := 6#32
  let v864 : Index := Scalar.indexCast c6_i32_188
  let c80_189 : Index := 80#32
  ![v863.toNat, 6, 80]
def k0_off57 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v874 : Index := Scalar.indexCast arg11
  let c6_i32_190 : BitVec 32 := 6#32
  let v875 : Index := Scalar.indexCast c6_i32_190
  let c96_191 : Index := 96#32
  ![v874.toNat, 6, 96]
def k0_off58 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v885 : Index := Scalar.indexCast arg11
  let c6_i32_192 : BitVec 32 := 6#32
  let v886 : Index := Scalar.indexCast c6_i32_192
  let c112_193 : Index := 112#32
  ![v885.toNat, 6, 112]
def k0_off59 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v897 : Index := Scalar.indexCast arg11
  let c7_i32 : BitVec 32 := 7#32
  let v898 : Index := Scalar.indexCast c7_i32
  let c0_194 : Index := 0#32
  ![v897.toNat, 7, 0]
def k0_off60 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v908 : Index := Scalar.indexCast arg11
  let c7_i32_195 : BitVec 32 := 7#32
  let v909 : Index := Scalar.indexCast c7_i32_195
  let c16_196 : Index := 16#32
  ![v908.toNat, 7, 16]
def k0_off61 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v919 : Index := Scalar.indexCast arg11
  let c7_i32_197 : BitVec 32 := 7#32
  let v920 : Index := Scalar.indexCast c7_i32_197
  let c32_198 : Index := 32#32
  ![v919.toNat, 7, 32]
def k0_off62 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v930 : Index := Scalar.indexCast arg11
  let c7_i32_199 : BitVec 32 := 7#32
  let v931 : Index := Scalar.indexCast c7_i32_199
  let c48_200 : Index := 48#32
  ![v930.toNat, 7, 48]
def k0_off63 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v941 : Index := Scalar.indexCast arg11
  let c7_i32_201 : BitVec 32 := 7#32
  let v942 : Index := Scalar.indexCast c7_i32_201
  let c64_202 : Index := 64#32
  ![v941.toNat, 7, 64]
def k0_off64 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v952 : Index := Scalar.indexCast arg11
  let c7_i32_203 : BitVec 32 := 7#32
  let v953 : Index := Scalar.indexCast c7_i32_203
  let c80_204 : Index := 80#32
  ![v952.toNat, 7, 80]
def k0_off65 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v963 : Index := Scalar.indexCast arg11
  let c7_i32_205 : BitVec 32 := 7#32
  let v964 : Index := Scalar.indexCast c7_i32_205
  let c96_206 : Index := 96#32
  ![v963.toNat, 7, 96]
def k0_off66 (k0_t2 : Fin k0_t2_loop.trips) : Fin 3 → Nat :=
  let c0_i32_35 : BitVec 32 := 0#32
  let c1_i32_37 : BitVec 32 := 1#32
  let arg11 : BitVec 32 := Scf.iv c0_i32_35 c1_i32_37 k0_t2
  let v974 : Index := Scalar.indexCast arg11
  let c7_i32_207 : BitVec 32 := 7#32
  let v975 : Index := Scalar.indexCast c7_i32_207
  let c112_208 : Index := 112#32
  ![v974.toNat, 7, 112]
def k0_off67 (k0_t1 : Fin k0_t1_loop.trips) (c0_i32_41 : BitVec 32) : Fin 1 → Nat :=
  let c0_i32_18 : BitVec 32 := 0#32
  let c1_i32_19 : BitVec 32 := 1#32
  let arg9 : BitVec 32 := Scf.iv c0_i32_18 c1_i32_19 k0_t1
  let c2_i32_21 : BitVec 32 := 2#32
  let v42 : BitVec 32 := Scalar.muli arg9 c2_i32_21
  let c128_i32_40 : BitVec 32 := 128#32
  let v65 : BitVec 32 := Scalar.muli v42 c128_i32_40
  let v66 : BitVec 32 := Scalar.addi v65 c0_i32_41
  let v67 : Index := Scalar.indexCast v66
  ![v67.toNat]
def k0_cond1 (k0_t1 : Fin k0_t1_loop.trips) : BitVec 1 :=
  let c0_i32_18 : BitVec 32 := 0#32
  let c1_i32_19 : BitVec 32 := 1#32
  let arg9 : BitVec 32 := Scf.iv c0_i32_18 c1_i32_19 k0_t1
  let c11_i32 : BitVec 32 := 11#32
  let v160 : BitVec 1 := Scalar.cmpi .slt arg9 c11_i32
  let v161 : BitVec 32 := Scalar.extui v160
  let c0_i32_56 : BitVec 32 := 0#32
  let v162 : BitVec 1 := Scalar.cmpi .ne v161 c0_i32_56
  v162

def k0_off68 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_96 : BitVec 32 := 0#32
  let c0_i32_97 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.muli v28 c24_i32
  let c0_i32_18 : BitVec 32 := 0#32
  let c1_i32_19 : BitVec 32 := 1#32
  let arg9 : BitVec 32 := Scf.iv c0_i32_18 c1_i32_19 k0_t1
  let c2_i32_21 : BitVec 32 := 2#32
  let v42 : BitVec 32 := Scalar.muli arg9 c2_i32_21
  let c2_i32_94 : BitVec 32 := 2#32
  let v274 : BitVec 32 := Scalar.addi v42 c2_i32_94
  let v275 : BitVec 32 := Scalar.addi v29 v274
  let c128_i32_95 : BitVec 32 := 128#32
  let v276 : BitVec 32 := Scalar.muli v275 c128_i32_95
  ![v18.toNat, 0, 0, v276.toNat]
@[reducible] def k0_t3_loop : Scf.Loop 32 :=
  let c0_i32_65 : BitVec 32 := 0#32
  let c24_i32_66 : BitVec 32 := 24#32
  let v168 : BitVec 32 := Scalar.addi c0_i32_65 c24_i32_66
  let c1_i32_67 : BitVec 32 := 1#32
  ⟨c0_i32_65, v168, c1_i32_67⟩
def k0_off69 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v274 : Index := Scalar.indexCast arg11
  let c0_i32_94 : BitVec 32 := 0#32
  let v275 : Index := Scalar.indexCast c0_i32_94
  let c0 : Index := 0#32
  ![v274.toNat, 0, 0]
def k0_off70 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v285 : Index := Scalar.indexCast arg11
  let c0_i32_95 : BitVec 32 := 0#32
  let v286 : Index := Scalar.indexCast c0_i32_95
  let c16 : Index := 16#32
  ![v285.toNat, 0, 16]
def k0_off71 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v296 : Index := Scalar.indexCast arg11
  let c0_i32_96 : BitVec 32 := 0#32
  let v297 : Index := Scalar.indexCast c0_i32_96
  let c32 : Index := 32#32
  ![v296.toNat, 0, 32]
def k0_off72 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v307 : Index := Scalar.indexCast arg11
  let c0_i32_97 : BitVec 32 := 0#32
  let v308 : Index := Scalar.indexCast c0_i32_97
  let c48 : Index := 48#32
  ![v307.toNat, 0, 48]
def k0_off73 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v318 : Index := Scalar.indexCast arg11
  let c0_i32_98 : BitVec 32 := 0#32
  let v319 : Index := Scalar.indexCast c0_i32_98
  let c64 : Index := 64#32
  ![v318.toNat, 0, 64]
def k0_off74 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v329 : Index := Scalar.indexCast arg11
  let c0_i32_99 : BitVec 32 := 0#32
  let v330 : Index := Scalar.indexCast c0_i32_99
  let c80 : Index := 80#32
  ![v329.toNat, 0, 80]
def k0_off75 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v340 : Index := Scalar.indexCast arg11
  let c0_i32_100 : BitVec 32 := 0#32
  let v341 : Index := Scalar.indexCast c0_i32_100
  let c96 : Index := 96#32
  ![v340.toNat, 0, 96]
def k0_off76 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v351 : Index := Scalar.indexCast arg11
  let c0_i32_101 : BitVec 32 := 0#32
  let v352 : Index := Scalar.indexCast c0_i32_101
  let c112 : Index := 112#32
  ![v351.toNat, 0, 112]
def k0_off77 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v363 : Index := Scalar.indexCast arg11
  let c1_i32_102 : BitVec 32 := 1#32
  let v364 : Index := Scalar.indexCast c1_i32_102
  let c0_103 : Index := 0#32
  ![v363.toNat, 1, 0]
def k0_off78 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v374 : Index := Scalar.indexCast arg11
  let c1_i32_104 : BitVec 32 := 1#32
  let v375 : Index := Scalar.indexCast c1_i32_104
  let c16_105 : Index := 16#32
  ![v374.toNat, 1, 16]
def k0_off79 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v385 : Index := Scalar.indexCast arg11
  let c1_i32_106 : BitVec 32 := 1#32
  let v386 : Index := Scalar.indexCast c1_i32_106
  let c32_107 : Index := 32#32
  ![v385.toNat, 1, 32]
def k0_off80 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v396 : Index := Scalar.indexCast arg11
  let c1_i32_108 : BitVec 32 := 1#32
  let v397 : Index := Scalar.indexCast c1_i32_108
  let c48_109 : Index := 48#32
  ![v396.toNat, 1, 48]
def k0_off81 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v407 : Index := Scalar.indexCast arg11
  let c1_i32_110 : BitVec 32 := 1#32
  let v408 : Index := Scalar.indexCast c1_i32_110
  let c64_111 : Index := 64#32
  ![v407.toNat, 1, 64]
def k0_off82 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v418 : Index := Scalar.indexCast arg11
  let c1_i32_112 : BitVec 32 := 1#32
  let v419 : Index := Scalar.indexCast c1_i32_112
  let c80_113 : Index := 80#32
  ![v418.toNat, 1, 80]
def k0_off83 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v429 : Index := Scalar.indexCast arg11
  let c1_i32_114 : BitVec 32 := 1#32
  let v430 : Index := Scalar.indexCast c1_i32_114
  let c96_115 : Index := 96#32
  ![v429.toNat, 1, 96]
def k0_off84 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v440 : Index := Scalar.indexCast arg11
  let c1_i32_116 : BitVec 32 := 1#32
  let v441 : Index := Scalar.indexCast c1_i32_116
  let c112_117 : Index := 112#32
  ![v440.toNat, 1, 112]
def k0_off85 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v452 : Index := Scalar.indexCast arg11
  let c2_i32_118 : BitVec 32 := 2#32
  let v453 : Index := Scalar.indexCast c2_i32_118
  let c0_119 : Index := 0#32
  ![v452.toNat, 2, 0]
def k0_off86 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v463 : Index := Scalar.indexCast arg11
  let c2_i32_120 : BitVec 32 := 2#32
  let v464 : Index := Scalar.indexCast c2_i32_120
  let c16_121 : Index := 16#32
  ![v463.toNat, 2, 16]
def k0_off87 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v474 : Index := Scalar.indexCast arg11
  let c2_i32_122 : BitVec 32 := 2#32
  let v475 : Index := Scalar.indexCast c2_i32_122
  let c32_123 : Index := 32#32
  ![v474.toNat, 2, 32]
def k0_off88 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v485 : Index := Scalar.indexCast arg11
  let c2_i32_124 : BitVec 32 := 2#32
  let v486 : Index := Scalar.indexCast c2_i32_124
  let c48_125 : Index := 48#32
  ![v485.toNat, 2, 48]
def k0_off89 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v496 : Index := Scalar.indexCast arg11
  let c2_i32_126 : BitVec 32 := 2#32
  let v497 : Index := Scalar.indexCast c2_i32_126
  let c64_127 : Index := 64#32
  ![v496.toNat, 2, 64]
def k0_off90 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v507 : Index := Scalar.indexCast arg11
  let c2_i32_128 : BitVec 32 := 2#32
  let v508 : Index := Scalar.indexCast c2_i32_128
  let c80_129 : Index := 80#32
  ![v507.toNat, 2, 80]
def k0_off91 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v518 : Index := Scalar.indexCast arg11
  let c2_i32_130 : BitVec 32 := 2#32
  let v519 : Index := Scalar.indexCast c2_i32_130
  let c96_131 : Index := 96#32
  ![v518.toNat, 2, 96]
def k0_off92 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v529 : Index := Scalar.indexCast arg11
  let c2_i32_132 : BitVec 32 := 2#32
  let v530 : Index := Scalar.indexCast c2_i32_132
  let c112_133 : Index := 112#32
  ![v529.toNat, 2, 112]
def k0_off93 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v541 : Index := Scalar.indexCast arg11
  let c3_i32 : BitVec 32 := 3#32
  let v542 : Index := Scalar.indexCast c3_i32
  let c0_134 : Index := 0#32
  ![v541.toNat, 3, 0]
def k0_off94 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v552 : Index := Scalar.indexCast arg11
  let c3_i32_135 : BitVec 32 := 3#32
  let v553 : Index := Scalar.indexCast c3_i32_135
  let c16_136 : Index := 16#32
  ![v552.toNat, 3, 16]
def k0_off95 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v563 : Index := Scalar.indexCast arg11
  let c3_i32_137 : BitVec 32 := 3#32
  let v564 : Index := Scalar.indexCast c3_i32_137
  let c32_138 : Index := 32#32
  ![v563.toNat, 3, 32]
def k0_off96 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v574 : Index := Scalar.indexCast arg11
  let c3_i32_139 : BitVec 32 := 3#32
  let v575 : Index := Scalar.indexCast c3_i32_139
  let c48_140 : Index := 48#32
  ![v574.toNat, 3, 48]
def k0_off97 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v585 : Index := Scalar.indexCast arg11
  let c3_i32_141 : BitVec 32 := 3#32
  let v586 : Index := Scalar.indexCast c3_i32_141
  let c64_142 : Index := 64#32
  ![v585.toNat, 3, 64]
def k0_off98 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v596 : Index := Scalar.indexCast arg11
  let c3_i32_143 : BitVec 32 := 3#32
  let v597 : Index := Scalar.indexCast c3_i32_143
  let c80_144 : Index := 80#32
  ![v596.toNat, 3, 80]
def k0_off99 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v607 : Index := Scalar.indexCast arg11
  let c3_i32_145 : BitVec 32 := 3#32
  let v608 : Index := Scalar.indexCast c3_i32_145
  let c96_146 : Index := 96#32
  ![v607.toNat, 3, 96]
def k0_off100 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v618 : Index := Scalar.indexCast arg11
  let c3_i32_147 : BitVec 32 := 3#32
  let v619 : Index := Scalar.indexCast c3_i32_147
  let c112_148 : Index := 112#32
  ![v618.toNat, 3, 112]
def k0_off101 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v630 : Index := Scalar.indexCast arg11
  let c4_i32 : BitVec 32 := 4#32
  let v631 : Index := Scalar.indexCast c4_i32
  let c0_149 : Index := 0#32
  ![v630.toNat, 4, 0]
def k0_off102 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v641 : Index := Scalar.indexCast arg11
  let c4_i32_150 : BitVec 32 := 4#32
  let v642 : Index := Scalar.indexCast c4_i32_150
  let c16_151 : Index := 16#32
  ![v641.toNat, 4, 16]
def k0_off103 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v652 : Index := Scalar.indexCast arg11
  let c4_i32_152 : BitVec 32 := 4#32
  let v653 : Index := Scalar.indexCast c4_i32_152
  let c32_153 : Index := 32#32
  ![v652.toNat, 4, 32]
def k0_off104 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v663 : Index := Scalar.indexCast arg11
  let c4_i32_154 : BitVec 32 := 4#32
  let v664 : Index := Scalar.indexCast c4_i32_154
  let c48_155 : Index := 48#32
  ![v663.toNat, 4, 48]
def k0_off105 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v674 : Index := Scalar.indexCast arg11
  let c4_i32_156 : BitVec 32 := 4#32
  let v675 : Index := Scalar.indexCast c4_i32_156
  let c64_157 : Index := 64#32
  ![v674.toNat, 4, 64]
def k0_off106 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v685 : Index := Scalar.indexCast arg11
  let c4_i32_158 : BitVec 32 := 4#32
  let v686 : Index := Scalar.indexCast c4_i32_158
  let c80_159 : Index := 80#32
  ![v685.toNat, 4, 80]
def k0_off107 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v696 : Index := Scalar.indexCast arg11
  let c4_i32_160 : BitVec 32 := 4#32
  let v697 : Index := Scalar.indexCast c4_i32_160
  let c96_161 : Index := 96#32
  ![v696.toNat, 4, 96]
def k0_off108 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v707 : Index := Scalar.indexCast arg11
  let c4_i32_162 : BitVec 32 := 4#32
  let v708 : Index := Scalar.indexCast c4_i32_162
  let c112_163 : Index := 112#32
  ![v707.toNat, 4, 112]
def k0_off109 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v719 : Index := Scalar.indexCast arg11
  let c5_i32 : BitVec 32 := 5#32
  let v720 : Index := Scalar.indexCast c5_i32
  let c0_164 : Index := 0#32
  ![v719.toNat, 5, 0]
def k0_off110 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v730 : Index := Scalar.indexCast arg11
  let c5_i32_165 : BitVec 32 := 5#32
  let v731 : Index := Scalar.indexCast c5_i32_165
  let c16_166 : Index := 16#32
  ![v730.toNat, 5, 16]
def k0_off111 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v741 : Index := Scalar.indexCast arg11
  let c5_i32_167 : BitVec 32 := 5#32
  let v742 : Index := Scalar.indexCast c5_i32_167
  let c32_168 : Index := 32#32
  ![v741.toNat, 5, 32]
def k0_off112 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v752 : Index := Scalar.indexCast arg11
  let c5_i32_169 : BitVec 32 := 5#32
  let v753 : Index := Scalar.indexCast c5_i32_169
  let c48_170 : Index := 48#32
  ![v752.toNat, 5, 48]
def k0_off113 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v763 : Index := Scalar.indexCast arg11
  let c5_i32_171 : BitVec 32 := 5#32
  let v764 : Index := Scalar.indexCast c5_i32_171
  let c64_172 : Index := 64#32
  ![v763.toNat, 5, 64]
def k0_off114 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v774 : Index := Scalar.indexCast arg11
  let c5_i32_173 : BitVec 32 := 5#32
  let v775 : Index := Scalar.indexCast c5_i32_173
  let c80_174 : Index := 80#32
  ![v774.toNat, 5, 80]
def k0_off115 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v785 : Index := Scalar.indexCast arg11
  let c5_i32_175 : BitVec 32 := 5#32
  let v786 : Index := Scalar.indexCast c5_i32_175
  let c96_176 : Index := 96#32
  ![v785.toNat, 5, 96]
def k0_off116 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v796 : Index := Scalar.indexCast arg11
  let c5_i32_177 : BitVec 32 := 5#32
  let v797 : Index := Scalar.indexCast c5_i32_177
  let c112_178 : Index := 112#32
  ![v796.toNat, 5, 112]
def k0_off117 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v808 : Index := Scalar.indexCast arg11
  let c6_i32 : BitVec 32 := 6#32
  let v809 : Index := Scalar.indexCast c6_i32
  let c0_179 : Index := 0#32
  ![v808.toNat, 6, 0]
def k0_off118 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v819 : Index := Scalar.indexCast arg11
  let c6_i32_180 : BitVec 32 := 6#32
  let v820 : Index := Scalar.indexCast c6_i32_180
  let c16_181 : Index := 16#32
  ![v819.toNat, 6, 16]
def k0_off119 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v830 : Index := Scalar.indexCast arg11
  let c6_i32_182 : BitVec 32 := 6#32
  let v831 : Index := Scalar.indexCast c6_i32_182
  let c32_183 : Index := 32#32
  ![v830.toNat, 6, 32]
def k0_off120 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v841 : Index := Scalar.indexCast arg11
  let c6_i32_184 : BitVec 32 := 6#32
  let v842 : Index := Scalar.indexCast c6_i32_184
  let c48_185 : Index := 48#32
  ![v841.toNat, 6, 48]
def k0_off121 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v852 : Index := Scalar.indexCast arg11
  let c6_i32_186 : BitVec 32 := 6#32
  let v853 : Index := Scalar.indexCast c6_i32_186
  let c64_187 : Index := 64#32
  ![v852.toNat, 6, 64]
def k0_off122 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v863 : Index := Scalar.indexCast arg11
  let c6_i32_188 : BitVec 32 := 6#32
  let v864 : Index := Scalar.indexCast c6_i32_188
  let c80_189 : Index := 80#32
  ![v863.toNat, 6, 80]
def k0_off123 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v874 : Index := Scalar.indexCast arg11
  let c6_i32_190 : BitVec 32 := 6#32
  let v875 : Index := Scalar.indexCast c6_i32_190
  let c96_191 : Index := 96#32
  ![v874.toNat, 6, 96]
def k0_off124 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v885 : Index := Scalar.indexCast arg11
  let c6_i32_192 : BitVec 32 := 6#32
  let v886 : Index := Scalar.indexCast c6_i32_192
  let c112_193 : Index := 112#32
  ![v885.toNat, 6, 112]
def k0_off125 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v897 : Index := Scalar.indexCast arg11
  let c7_i32 : BitVec 32 := 7#32
  let v898 : Index := Scalar.indexCast c7_i32
  let c0_194 : Index := 0#32
  ![v897.toNat, 7, 0]
def k0_off126 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v908 : Index := Scalar.indexCast arg11
  let c7_i32_195 : BitVec 32 := 7#32
  let v909 : Index := Scalar.indexCast c7_i32_195
  let c16_196 : Index := 16#32
  ![v908.toNat, 7, 16]
def k0_off127 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v919 : Index := Scalar.indexCast arg11
  let c7_i32_197 : BitVec 32 := 7#32
  let v920 : Index := Scalar.indexCast c7_i32_197
  let c32_198 : Index := 32#32
  ![v919.toNat, 7, 32]
def k0_off128 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v930 : Index := Scalar.indexCast arg11
  let c7_i32_199 : BitVec 32 := 7#32
  let v931 : Index := Scalar.indexCast c7_i32_199
  let c48_200 : Index := 48#32
  ![v930.toNat, 7, 48]
def k0_off129 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v941 : Index := Scalar.indexCast arg11
  let c7_i32_201 : BitVec 32 := 7#32
  let v942 : Index := Scalar.indexCast c7_i32_201
  let c64_202 : Index := 64#32
  ![v941.toNat, 7, 64]
def k0_off130 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v952 : Index := Scalar.indexCast arg11
  let c7_i32_203 : BitVec 32 := 7#32
  let v953 : Index := Scalar.indexCast c7_i32_203
  let c80_204 : Index := 80#32
  ![v952.toNat, 7, 80]
def k0_off131 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v963 : Index := Scalar.indexCast arg11
  let c7_i32_205 : BitVec 32 := 7#32
  let v964 : Index := Scalar.indexCast c7_i32_205
  let c96_206 : Index := 96#32
  ![v963.toNat, 7, 96]
def k0_off132 (k0_t3 : Fin k0_t3_loop.trips) : Fin 3 → Nat :=
  let c0_i32_65 : BitVec 32 := 0#32
  let c1_i32_67 : BitVec 32 := 1#32
  let arg11 : BitVec 32 := Scf.iv c0_i32_65 c1_i32_67 k0_t3
  let v974 : Index := Scalar.indexCast arg11
  let c7_i32_207 : BitVec 32 := 7#32
  let v975 : Index := Scalar.indexCast c7_i32_207
  let c112_208 : Index := 112#32
  ![v974.toNat, 7, 112]
def k0_off133 (k0_t1 : Fin k0_t1_loop.trips) (c0_i32_71 : BitVec 32) : Fin 1 → Nat :=
  let c0_i32_18 : BitVec 32 := 0#32
  let c1_i32_19 : BitVec 32 := 1#32
  let arg9 : BitVec 32 := Scf.iv c0_i32_18 c1_i32_19 k0_t1
  let c2_i32_21 : BitVec 32 := 2#32
  let v42 : BitVec 32 := Scalar.muli arg9 c2_i32_21
  let c1_i32_64 : BitVec 32 := 1#32
  let v167 : BitVec 32 := Scalar.addi v42 c1_i32_64
  let c128_i32_70 : BitVec 32 := 128#32
  let v179 : BitVec 32 := Scalar.muli v167 c128_i32_70
  let v180 : BitVec 32 := Scalar.addi v179 c0_i32_71
  let v181 : Index := Scalar.indexCast v180
  ![v181.toNat]
def k0_off134 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let v41 : BitVec 32 := Scalar.muli v1 c3072_i32
  ![v41.toNat]
abbrev grid1 : Pipeline.Grid := ⟨2, ![4, 5], ![false, false]⟩

def cc1_transform_0 (i : grid1.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  ![arg0.toNat, c0_i32.toNat, c0_i32_0.toNat, v0.toNat]

def cc1_transform_1 (i : grid1.Coords) : Fin 1 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  ![v1.toNat]

abbrev stage1_0 : Fin 2 → Memref sig .tc .vmem S1x24x8x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x65536x192 : Shape := ⟨3, ![4, 65536, 192]⟩
abbrev S192 : Shape := ⟨1, ![192]⟩
abbrev S1x1x192 : Shape := ⟨3, ![1, 1, 192]⟩
abbrev S4x65536x2 : Shape := ⟨3, ![4, 65536, 2]⟩
abbrev S_ : Shape := ⟨0, ![]⟩
abbrev S4x65536x2x1 : Shape := ⟨4, ![4, 65536, 2, 1]⟩
abbrev S1 : Shape := ⟨1, ![1]⟩
abbrev S1x1x1x1 : Shape := ⟨4, ![1, 1, 1, 1]⟩
abbrev S4x65536 : Shape := ⟨2, ![4, 65536]⟩
abbrev S4x65536x1 : Shape := ⟨3, ![4, 65536, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x65536x192, .f32⟩
  | .hbm, ⟨1, _⟩ => ⟨S192, .f32⟩
  | .hbm, ⟨2, _⟩ => ⟨S1x1x192, .f32⟩
  | .hbm, ⟨3, _⟩ => ⟨S4x65536x192, .f32⟩
  | .hbm, ⟨4, _⟩ => ⟨S4x65536x2, .f32⟩
  | .hbm, ⟨5, _⟩ => ⟨S4x65536x2, .i32⟩
  | .hbm, ⟨6, _⟩ => ⟨S_, .i32⟩
  | .hbm, ⟨7, _⟩ => ⟨S4x65536x2, .i32⟩
  | .hbm, ⟨8, _⟩ => ⟨S4x65536x2, .i1⟩
  | .hbm, ⟨9, _⟩ => ⟨S_, .i32⟩
  | .hbm, ⟨10, _⟩ => ⟨S4x65536x2, .i32⟩
  | .hbm, ⟨11, _⟩ => ⟨S4x65536x2, .i32⟩
  | .hbm, ⟨12, _⟩ => ⟨S4x65536x2, .i32⟩
  | .hbm, ⟨13, _⟩ => ⟨S4x65536x2x1, .i32⟩
  | .hbm, ⟨14, _⟩ => ⟨S1, .i32⟩
  | .hbm, ⟨15, _⟩ => ⟨S_, .i32⟩
  | .hbm, ⟨16, _⟩ => ⟨S4x65536x2x1, .i32⟩
  | .hbm, ⟨17, _⟩ => ⟨S4x65536x2x1, .i1⟩
  | .hbm, ⟨18, _⟩ => ⟨S1x1x1x1, .i32⟩
  | .hbm, ⟨19, _⟩ => ⟨S4x65536x2x1, .i32⟩
  | .hbm, ⟨20, _⟩ => ⟨S4x65536x2x1, .i1⟩
  | .hbm, ⟨21, _⟩ => ⟨S4x65536x2x1, .i1⟩
  | .hbm, ⟨22, _⟩ => ⟨S_, .i1⟩
  | .hbm, ⟨23, _⟩ => ⟨S4x65536x2, .i1⟩
  | .hbm, ⟨24, _⟩ => ⟨S4x65536x2, .f32⟩
  | .hbm, ⟨25, _⟩ => ⟨S_, .f32⟩
  | .hbm, ⟨26, _⟩ => ⟨S4x65536x2, .f32⟩
  | .hbm, ⟨27, _⟩ => ⟨S4x65536x2, .f32⟩
  | .hbm, ⟨28, _⟩ => ⟨S_, .f32⟩
  | .hbm, ⟨29, _⟩ => ⟨S4x65536, .f32⟩
  | .hbm, ⟨30, _⟩ => ⟨S_, .f32⟩
  | .hbm, ⟨31, _⟩ => ⟨S4x65536, .f32⟩
  | .hbm, ⟨32, _⟩ => ⟨S4x65536, .f32⟩
  | .hbm, ⟨33, _⟩ => ⟨S4x65536x1, .f32⟩
  | .hbm, ⟨34, _⟩ => ⟨S4x65536x2, .f32⟩
  | .hbm, ⟨35, _⟩ => ⟨S4x65536x2, .f32⟩
  | .hbm, ⟨36, _⟩ => ⟨S4x65536x2, .f32⟩
  | .hbm, ⟨37, _⟩ => ⟨S_, .f32⟩
  | .hbm, ⟨38, _⟩ => ⟨S4x65536, .f32⟩
  | .hbm, ⟨39, _⟩ => ⟨S4x65536x1, .f32⟩
  | .hbm, ⟨40, _⟩ => ⟨S4x65536x2, .f32⟩
  | .hbm, ⟨41, _⟩ => ⟨S4x65536x2, .f32⟩
  | .hbm, ⟨42, _⟩ => ⟨S_, .i32⟩
  | .hbm, ⟨43, _⟩ => ⟨S4x65536x2, .i32⟩
  | .hbm, ⟨44, _⟩ => ⟨S4x65536x2, .i1⟩
  | .hbm, ⟨45, _⟩ => ⟨S_, .i32⟩
  | .hbm, ⟨46, _⟩ => ⟨S4x65536x2, .i32⟩
  | .hbm, ⟨47, _⟩ => ⟨S4x65536x2, .i32⟩
  | .hbm, ⟨48, _⟩ => ⟨S4x65536x2, .i32⟩
  | .hbm, ⟨49, _⟩ => ⟨S4x65536x2x1, .i32⟩
  | .hbm, ⟨50, _⟩ => ⟨S1, .i32⟩
  | .hbm, ⟨51, _⟩ => ⟨S_, .i32⟩
  | .hbm, ⟨52, _⟩ => ⟨S4x65536x2x1, .i32⟩
  | .hbm, ⟨53, _⟩ => ⟨S4x65536x2x1, .i1⟩
  | .hbm, ⟨54, _⟩ => ⟨S1x1x1x1, .i32⟩
  | .hbm, ⟨55, _⟩ => ⟨S4x65536x2x1, .i32⟩
  | .hbm, ⟨56, _⟩ => ⟨S4x65536x2x1, .i1⟩
  | .hbm, ⟨57, _⟩ => ⟨S4x65536x2x1, .i1⟩
  | .hbm, ⟨58, _⟩ => ⟨S_, .i1⟩
  | .hbm, ⟨59, _⟩ => ⟨S4x65536x2, .i1⟩
  | .hbm, ⟨60, _⟩ => ⟨S4x65536x2, .f32⟩
  | .hbm, ⟨61, _⟩ => ⟨S_, .f32⟩
  | .hbm, ⟨62, _⟩ => ⟨S4x65536x2, .f32⟩
  | .hbm, ⟨63, _⟩ => ⟨S4x65536x2, .f32⟩
  | .hbm, ⟨64, _⟩ => ⟨S4x65536x2, .f32⟩
  | .hbm, ⟨65, _⟩ => ⟨S_, .f32⟩
  | .hbm, ⟨66, _⟩ => ⟨S4x65536, .f32⟩
  | _, _ => ⟨S4x65536x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v15 : Ref sig .tc := ⟨.hbm, 63, rfl⟩
abbrev main_v16 : Ref sig .tc := ⟨.hbm, 64, rfl⟩
abbrev main_cst_2 : Ref sig .tc := ⟨.hbm, 65, rfl⟩
abbrev main_v17 : Ref sig .tc := ⟨.hbm, 66, rfl⟩

abbrev nD : Nat := 1
abbrev τ : Topo := Topo.v7x

variable {F : FTy → Type} [FloatOps F]
-- ==== Proof.Base.lean ====
/-
  What every module of the KernelIdeal proof reads: the program as the launch theorem sees it, the resource algebra,
  and the lane state of the running two greatest — generic in the float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCore kernel has sixteen tasks on each SparseCore. -/
theorem nSub_zero [FloatOps F] : (K (F := F)).nSub 0 = 16 := rfl

/-- The handshakes' semaphores are distinct and outlive the kernels, and no task buffer is shared. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
/-- The pipeline's rounds, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## A vector subcore's coordinates -/

abbrev cV (L : grid0.Coords) : Fin τ.nSC := (L 0).castLE hcore0
abbrev jV (L : grid0.Coords) : Fin τ.nSub := (L 1).castLE hsub0

/-! ## The running two greatest of a lane, and where they were -/

/-- The greatest so far, the next, and the indices they were read at: of sixteen lanes at once. -/
structure ST (F : FTy → Type) where
  m1 : FVec F S16 .f32
  m2 : FVec F S16 .f32
  i1 : IVec S16 32
  i2 : IVec S16 32

section
variable [FloatOps F]

/-- Sixteen neighbours of plane `r`, row `d` of a chunk, from lane `16 g`. -/
def rowv (X : S24x8x128.Idx → F .f32) (r : ℕ) (d : ℕ) (g : ℕ) : Vec F S1x1x16 .f32 :=
  fun x => X (fun a => match a with
    | ⟨0, _⟩ => Fin.ofNat 24 r
    | ⟨1, _⟩ => Fin.ofNat 8 d
    | ⟨2, _⟩ => Fin.ofNat 128 (16 * g + (x 2).val))

/-- The same sixteen as a flat vector. -/
def lv (X : S24x8x128.Idx → F .f32) (r d g : ℕ) : FVec F S16 .f32 := shapeCast S16 (rowv X r d g) shapeCasts_S1x1x16_S16

/-- One more value `v`, at index `q`. -/
def stp (q : IVec S16 32) (v : FVec F S16 .f32) (s : ST F) : ST F where
  m1 := maximumf s.m1 v
  m2 := select (cmpf .ogt v s.m1) s.m1 (maximumf s.m2 v)
  i1 := select (cmpf .ogt v s.m1) q s.i1
  i2 := select (cmpf .ogt v s.m1) s.i1 (select (cmpf .ogt v s.m2) q s.i2)

/-- The index vector after `n` more ones. -/
def dv (d0 : IVec S16 32) : ℕ → IVec S16 32
  | 0 => d0
  | n + 1 => addi (dv d0 n) (broadcast S16 1#32)

/-- The state after the first `n` rows of plane `k`, group `g`, from `s`, the index vector beginning at `d0`. -/
def tr (X : S24x8x128.Idx → F .f32) (d0 : IVec S16 32) (k g : ℕ) (s : ST F) : ℕ → ST F
  | 0 => s
  | n + 1 => stp (dv d0 n) (lv X k n g) (tr X d0 k g s n)

/-- The index vector at plane `k`. -/
def dvs : ℕ → IVec S16 32
  | 0 => broadcast S16 0#32
  | k + 1 => dv (dvs k) 8

/-- No value read yet. -/
def st0 : ST F := ⟨broadcast S16 (Scalar.ofBits .f32 0xFF800000#32), broadcast S16 (Scalar.ofBits .f32 0xFF800000#32), broadcast S16 0#32, broadcast S16 0#32⟩

/-- The state of group `g` after the first `k` planes. -/
def sts (X : S24x8x128.Idx → F .f32) (g : ℕ) : ℕ → ST F
  | 0 => st0
  | k + 1 => tr X (dvs k) k g (sts X g k) 8

/-- The disparity of a state: the indices, weighted by the exponentials of the two values. -/
def disp (s : ST F) : FVec F S16 .f32 :=
  divf (addf (sitofp .f32 s.i1) (mulf (sitofp .f32 s.i2) (exp (subf s.m2 s.m1))))
    (addf (broadcast S16 (Scalar.ofBits .f32 0x3F800000#32)) (exp (subf s.m2 s.m1)))

/-- What a chunk's trip carries: the index vector and the eight groups' states. -/
abbrev Carry (F : FTy → Type) : Type := IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32 × FVec F S16 .f32 × FVec F S16 .f32 × IVec S16 32 × IVec S16 32

/-- Eight states as the carried tuple. -/
def pack (d : IVec S16 32) (s : ℕ → ST F) : Carry F :=
  (d, (s 0).m1, (s 0).m2, (s 0).i1, (s 0).i2, (s 1).m1, (s 1).m2, (s 1).i1, (s 1).i2, (s 2).m1, (s 2).m2, (s 2).i1, (s 2).i2, (s 3).m1, (s 3).m2, (s 3).i1, (s 3).i2, (s 4).m1, (s 4).m2, (s 4).i1, (s 4).i2, (s 5).m1, (s 5).m2, (s 5).i1, (s 5).i2, (s 6).m1, (s 6).m2, (s 6).i1, (s 6).i2, (s 7).m1, (s 7).m2, (s 7).i1, (s 7).i2)

/-- A load of sixteen neighbours reads `rowv`. -/
theorem readAt_row {κ : Kind} {sp : Space} (m : Memref sig κ sp S24x8x128 .f32) (f : m.view.ty.Contents (Elt F))
    (k d g : ℕ) (hk : k < 24) (hd : d < 8) (hg : g < 8)
    (off : Fin 3 → ℕ) (h : ∀ a, off a + S1x1x16.size a ≤ S24x8x128.size a) (ho : off = ![k, d, 16 * g]) :
    (m.view.readAt (Elt F) (Rect.unit (s := S24x8x128) off S1x1x16.size h).toLoadRect f : Vec F S1x1x16 .f32)
      = rowv (m.view.read (Elt F) f) k d g := by
  subst ho
  funext x
  rw [View.readAt_apply]
  show m.view.read (Elt F) f _ = m.view.read (Elt F) f _
  congr 1
  funext a
  apply Fin.ext
  rw [LoadRect.idx_apply]
  have hx0 : (x 0).val = 0 := by have := (x 0).isLt; exact Nat.lt_one_iff.mp this
  have hx1 : (x 1).val = 0 := by have := (x 1).isLt; exact Nat.lt_one_iff.mp this
  have hx2 : (x 2).val < 16 := (x 2).isLt
  match a with
  | ⟨0, _⟩ =>
    show k + 1 * (x 0).val = k % 24
    rw [hx0, Nat.mod_eq_of_lt hk, Nat.mul_zero, Nat.add_zero]
  | ⟨1, _⟩ =>
    show d + 1 * (x 1).val = d % 8
    rw [hx1, Nat.mod_eq_of_lt hd, Nat.mul_zero, Nat.add_zero]
  | ⟨2, _⟩ =>
    show 16 * g + 1 * (x 2).val = (16 * g + (x 2).val) % 128
    rw [Nat.mod_eq_of_lt (by omega), Nat.one_mul]

end

end Cert.Proof.KernelIdeal
-- ==== Proof.InnerA.lean ====
/-
  One trip of the chunk loop over `arg4`, part by part: every part reads its sixteen-lane groups and steps their states.
-/
module

public import proofs.«01_k».proof.Proof.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-- Part 1, from and to the states of the eight groups. -/
theorem part1_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (c0_i32_35 : BitVec 32) (c1_i32_37 : BitVec 32) (k0_t2 : Fin k0_t2_loop.trips)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨Scf.iv c0_i32_35 c1_i32_37 k0_t2, (tr X d0 k0_t2.val 0 (s 0) 1).i2, (tr X d0 k0_t2.val 0 (s 0) 1).m2, (tr X d0 k0_t2.val 0 (s 0) 1).i1, (tr X d0 k0_t2.val 0 (s 0) 1).m1, (tr X d0 k0_t2.val 1 (s 1) 1).i2, (tr X d0 k0_t2.val 1 (s 1) 1).m2, (tr X d0 k0_t2.val 1 (s 1) 1).i1, (tr X d0 k0_t2.val 1 (s 1) 1).m1, (tr X d0 k0_t2.val 2 (s 2) 1).i2, (tr X d0 k0_t2.val 2 (s 2) 1).m2, (tr X d0 k0_t2.val 2 (s 2) 1).i1, (tr X d0 k0_t2.val 2 (s 2) 1).m1, (tr X d0 k0_t2.val 3 (s 3) 1).i2, (tr X d0 k0_t2.val 3 (s 3) 1).m2, (tr X d0 k0_t2.val 3 (s 3) 1).i1, (tr X d0 k0_t2.val 3 (s 3) 1).m1⟩))
      ⊢ wp frame (wpE (defs₀ (F := F)) 𝒱₀ (V d (cV L) (jV L)) none) Set.univ
          (k0_part1 L arg2 harg2 arg3 harg3 arg4 harg4 arg5 harg5 arg6 harg6 arg7 arg8 v42_r0 c0_i32_35 c1_i32_37 k0_t2 d0 (s 0).m1 (s 0).m2 (s 0).i1 (s 0).i2 (s 1).m1 (s 1).m2 (s 1).i1 (s 1).i2 (s 2).m1 (s 2).m2 (s 2).i1 (s 2).i2 (s 3).m1 (s 3).m2 (s 3).i1 (s 3).i2) Φ := by
  rw [k0_part1_eq_skeleton]; unfold k0_part1_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 0 0 k0_t2.isLt (by decide) (by decide) _ _ (k0_off3_eq k0_t2), hX]
  iapply (wp_load 𝒱₀ _ none Set.univ (m := arg4) (S := Finset.univ) (Finset.subset_univ _)) $$ H; iintro H
  rw [readAt_row arg4 f k0_t2.val 0 1 k0_t2.isLt (by decide) (by decide) _ _ (k0_off4_eq k0_t2), hX]
  iapply (wp_load 𝒱₀ _ none Set.univ (m := arg4) (S := Finset.univ) (Finset.subset_univ _)) $$ H; iintro H
  rw [readAt_row arg4 f k0_t2.val 0 2 k0_t2.isLt (by decide) (by decide) _ _ (k0_off5_eq k0_t2), hX]
  iapply (wp_load 𝒱₀ _ none Set.univ (m := arg4) (S := Finset.univ) (Finset.subset_univ _)) $$ H; iintro H
  rw [readAt_row arg4 f k0_t2.val 0 3 k0_t2.isLt (by decide) (by decide) _ _ (k0_off6_eq k0_t2), hX]
  rw [wp_ret]
  imodintro
  ihave HQ := HΦ $$ H
  istop
  exact BI.Entails.refl _

/-- Part 2, from and to the states of the eight groups. -/
theorem part2_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 4 (s 4) 1).i2, (tr X d0 k0_t2.val 4 (s 4) 1).m2, (tr X d0 k0_t2.val 4 (s 4) 1).i1, (tr X d0 k0_t2.val 4 (s 4) 1).m1, (tr X d0 k0_t2.val 5 (s 5) 1).i2, (tr X d0 k0_t2.val 5 (s 5) 1).m2, (tr X d0 k0_t2.val 5 (s 5) 1).i1, (tr X d0 k0_t2.val 5 (s 5) 1).m1, (tr X d0 k0_t2.val 6 (s 6) 1).i2, (tr X d0 k0_t2.val 6 (s 6) 1).m2, (tr X d0 k0_t2.val 6 (s 6) 1).i1, (tr X d0 k0_t2.val 6 (s 6) 1).m1, (tr X d0 k0_t2.val 7 (s 7) 1).i2, (tr X d0 k0_t2.val 7 (s 7) 1).m2, (tr X d0 k0_t2.val 7 (s 7) 1).i1, (tr X d0 k0_t2.val 7 (s 7) 1).m1, (dv d0 1), (lv X k0_t2.val 1 0)⟩))
      ⊢ wp frame (wpE (defs₀ (F := F)) 𝒱₀ (V d (cV L) (jV L)) none) Set.univ
          (k0_part2 L arg2 harg2 arg3 harg3 arg4 harg4 arg5 harg5 arg6 harg6 arg7 arg8 v42_r0 (broadcast S16 1#32) k0_t2 d0 (s 4).m1 (s 4).m2 (s 4).i1 (s 4).i2 (s 5).m1 (s 5).m2 (s 5).i1 (s 5).i2 (s 6).m1 (s 6).m2 (s 6).i1 (s 6).i2 (s 7).m1 (s 7).m2 (s 7).i1 (s 7).i2 arg11) Φ := by
  rw [k0_part2_eq_skeleton]; unfold k0_part2_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 0 4 k0_t2.isLt (by decide) (by decide) _ _ (k0_off7_eq k0_t2), hX]
  iapply (wp_load 𝒱₀ _ none Set.univ (m := arg4) (S := Finset.univ) (Finset.subset_univ _)) $$ H; iintro H
  rw [readAt_row arg4 f k0_t2.val 0 5 k0_t2.isLt (by decide) (by decide) _ _ (k0_off8_eq k0_t2), hX]
  iapply (wp_load 𝒱₀ _ none Set.univ (m := arg4) (S := Finset.univ) (Finset.subset_univ _)) $$ H; iintro H
  rw [readAt_row arg4 f k0_t2.val 0 6 k0_t2.isLt (by decide) (by decide) _ _ (k0_off9_eq k0_t2), hX]
  iapply (wp_load 𝒱₀ _ none Set.univ (m := arg4) (S := Finset.univ) (Finset.subset_univ _)) $$ H; iintro H
  rw [readAt_row arg4 f k0_t2.val 0 7 k0_t2.isLt (by decide) (by decide) _ _ (k0_off10_eq k0_t2), hX]
  iapply (wp_load 𝒱₀ _ none Set.univ (m := arg4) (S := Finset.univ) (Finset.subset_univ _)) $$ H; iintro H
  rw [readAt_row arg4 f k0_t2.val 1 0 k0_t2.isLt (by decide) (by decide) _ _ (k0_off11_eq k0_t2), hX]
  rw [wp_ret]
  imodintro
  ihave HQ := HΦ $$ H
  istop
  exact BI.Entails.refl _

/-- Part 3, from and to the states of the eight groups. -/
theorem part3_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 0 (s 0) 2).i2, (tr X d0 k0_t2.val 0 (s 0) 2).m2, (tr X d0 k0_t2.val 0 (s 0) 2).i1, (tr X d0 k0_t2.val 0 (s 0) 2).m1, (tr X d0 k0_t2.val 1 (s 1) 2).i2, (tr X d0 k0_t2.val 1 (s 1) 2).m2, (tr X d0 k0_t2.val 1 (s 1) 2).i1, (tr X d0 k0_t2.val 1 (s 1) 2).m1, (tr X d0 k0_t2.val 2 (s 2) 2).i2, (tr X d0 k0_t2.val 2 (s 2) 2).m2, (tr X d0 k0_t2.val 2 (s 2) 2).i1, (tr X d0 k0_t2.val 2 (s 2) 2).m1, (tr X d0 k0_t2.val 3 (s 3) 2).i2, (tr X d0 k0_t2.val 3 (s 3) 2).m2, (tr X d0 k0_t2.val 3 (s 3) 2).i1, (tr X d0 k0_t2.val 3 (s 3) 2).m1, (lv X k0_t2.val 1 4), (cmpf .ogt (lv X k0_t2.val 1 4) (tr X d0 k0_t2.val 4 (s 4) 1).m1), (tr X d0 k0_t2.val 4 (s 4) 2).i2⟩))
      ⊢ wp frame (wpE (defs₀ (F := F)) 𝒱₀ (V d (cV L) (jV L)) none) Set.univ
          (k0_part3 L arg2 harg2 arg3 harg3 arg4 harg4 arg5 harg5 arg6 harg6 arg7 arg8 v42_r0 k0_t2 arg11 (tr X d0 k0_t2.val 0 (s 0) 1).i2 (tr X d0 k0_t2.val 0 (s 0) 1).m2 (tr X d0 k0_t2.val 0 (s 0) 1).i1 (tr X d0 k0_t2.val 0 (s 0) 1).m1 (tr X d0 k0_t2.val 1 (s 1) 1).i2 (tr X d0 k0_t2.val 1 (s 1) 1).m2 (tr X d0 k0_t2.val 1 (s 1) 1).i1 (tr X d0 k0_t2.val 1 (s 1) 1).m1 (tr X d0 k0_t2.val 2 (s 2) 1).i2 (tr X d0 k0_t2.val 2 (s 2) 1).m2 (tr X d0 k0_t2.val 2 (s 2) 1).i1 (tr X d0 k0_t2.val 2 (s 2) 1).m1 (tr X d0 k0_t2.val 3 (s 3) 1).i2 (tr X d0 k0_t2.val 3 (s 3) 1).m2 (tr X d0 k0_t2.val 3 (s 3) 1).i1 (tr X d0 k0_t2.val 3 (s 3) 1).m1 (tr X d0 k0_t2.val 4 (s 4) 1).i2 (tr X d0 k0_t2.val 4 (s 4) 1).m2 (tr X d0 k0_t2.val 4 (s 4) 1).i1 (tr X d0 k0_t2.val 4 (s 4) 1).m1 (dv d0 1) (lv X k0_t2.val 1 0)) Φ := by
  rw [k0_part3_eq_skeleton]; unfold k0_part3_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 1 1 k0_t2.isLt (by decide) (by decide) _ _ (k0_off12_eq k0_t2), hX]
  iapply (wp_load 𝒱₀ _ none Set.univ (m := arg4) (S := Finset.univ) (Finset.subset_univ _)) $$ H; iintro H
  rw [readAt_row arg4 f k0_t2.val 1 2 k0_t2.isLt (by decide) (by decide) _ _ (k0_off13_eq k0_t2), hX]
  iapply (wp_load 𝒱₀ _ none Set.univ (m := arg4) (S := Finset.univ) (Finset.subset_univ _)) $$ H; iintro H
  rw [readAt_row arg4 f k0_t2.val 1 3 k0_t2.isLt (by decide) (by decide) _ _ (k0_off14_eq k0_t2), hX]
  iapply (wp_load 𝒱₀ _ none Set.univ (m := arg4) (S := Finset.univ) (Finset.subset_univ _)) $$ H; iintro H
  rw [readAt_row arg4 f k0_t2.val 1 4 k0_t2.isLt (by decide) (by decide) _ _ (k0_off15_eq k0_t2), hX]
  rw [wp_ret]
  imodintro
  ihave HQ := HΦ $$ H
  istop
  exact BI.Entails.refl _

/-- Part 4, from and to the states of the eight groups. -/
theorem part4_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 4 (s 4) 2).m2, (tr X d0 k0_t2.val 4 (s 4) 2).i1, (tr X d0 k0_t2.val 4 (s 4) 2).m1, (tr X d0 k0_t2.val 5 (s 5) 2).i2, (tr X d0 k0_t2.val 5 (s 5) 2).m2, (tr X d0 k0_t2.val 5 (s 5) 2).i1, (tr X d0 k0_t2.val 5 (s 5) 2).m1, (tr X d0 k0_t2.val 6 (s 6) 2).i2, (tr X d0 k0_t2.val 6 (s 6) 2).m2, (tr X d0 k0_t2.val 6 (s 6) 2).i1, (tr X d0 k0_t2.val 6 (s 6) 2).m1, (tr X d0 k0_t2.val 7 (s 7) 2).i2, (tr X d0 k0_t2.val 7 (s 7) 2).m2, (tr X d0 k0_t2.val 7 (s 7) 2).i1, (tr X d0 k0_t2.val 7 (s 7) 2).m1, (dv d0 2), (lv X k0_t2.val 2 0), (tr X d0 k0_t2.val 0 (s 0) 3).i2, (tr X d0 k0_t2.val 0 (s 0) 3).m2, (tr X d0 k0_t2.val 0 (s 0) 3).i1⟩))
      ⊢ wp frame (wpE (defs₀ (F := F)) 𝒱₀ (V d (cV L) (jV L)) none) Set.univ
          (k0_part4 L arg2 harg2 arg3 harg3 arg4 harg4 arg5 harg5 arg6 harg6 arg7 arg8 v42_r0 (broadcast S16 1#32) k0_t2 arg11 (tr X d0 k0_t2.val 4 (s 4) 1).m2 (tr X d0 k0_t2.val 4 (s 4) 1).i1 (tr X d0 k0_t2.val 4 (s 4) 1).m1 (tr X d0 k0_t2.val 5 (s 5) 1).i2 (tr X d0 k0_t2.val 5 (s 5) 1).m2 (tr X d0 k0_t2.val 5 (s 5) 1).i1 (tr X d0 k0_t2.val 5 (s 5) 1).m1 (tr X d0 k0_t2.val 6 (s 6) 1).i2 (tr X d0 k0_t2.val 6 (s 6) 1).m2 (tr X d0 k0_t2.val 6 (s 6) 1).i1 (tr X d0 k0_t2.val 6 (s 6) 1).m1 (tr X d0 k0_t2.val 7 (s 7) 1).i2 (tr X d0 k0_t2.val 7 (s 7) 1).m2 (tr X d0 k0_t2.val 7 (s 7) 1).i1 (tr X d0 k0_t2.val 7 (s 7) 1).m1 (dv d0 1) (tr X d0 k0_t2.val 0 (s 0) 2).i2 (tr X d0 k0_t2.val 0 (s 0) 2).m2 (tr X d0 k0_t2.val 0 (s 0) 2).i1 (tr X d0 k0_t2.val 0 (s 0) 2).m1 (lv X k0_t2.val 1 4) (cmpf .ogt (lv X k0_t2.val 1 4) (tr X d0 k0_t2.val 4 (s 4) 1).m1)) Φ := by
  rw [k0_part4_eq_skeleton]; unfold k0_part4_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 1 5 k0_t2.isLt (by decide) (by decide) _ _ (k0_off16_eq k0_t2), hX]
  iapply (wp_load 𝒱₀ _ none Set.univ (m := arg4) (S := Finset.univ) (Finset.subset_univ _)) $$ H; iintro H
  rw [readAt_row arg4 f k0_t2.val 1 6 k0_t2.isLt (by decide) (by decide) _ _ (k0_off17_eq k0_t2), hX]
  iapply (wp_load 𝒱₀ _ none Set.univ (m := arg4) (S := Finset.univ) (Finset.subset_univ _)) $$ H; iintro H
  rw [readAt_row arg4 f k0_t2.val 1 7 k0_t2.isLt (by decide) (by decide) _ _ (k0_off18_eq k0_t2), hX]
  iapply (wp_load 𝒱₀ _ none Set.univ (m := arg4) (S := Finset.univ) (Finset.subset_univ _)) $$ H; iintro H
  rw [readAt_row arg4 f k0_t2.val 2 0 k0_t2.isLt (by decide) (by decide) _ _ (k0_off19_eq k0_t2), hX]
  rw [wp_ret]
  imodintro
  ihave HQ := HΦ $$ H
  istop
  exact BI.Entails.refl _

/-- Part 5, from and to the states of the eight groups. -/
theorem part5_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 0 (s 0) 3).m1, (tr X d0 k0_t2.val 1 (s 1) 3).i2, (tr X d0 k0_t2.val 1 (s 1) 3).m2, (tr X d0 k0_t2.val 1 (s 1) 3).i1, (tr X d0 k0_t2.val 1 (s 1) 3).m1, (tr X d0 k0_t2.val 2 (s 2) 3).i2, (tr X d0 k0_t2.val 2 (s 2) 3).m2, (tr X d0 k0_t2.val 2 (s 2) 3).i1, (tr X d0 k0_t2.val 2 (s 2) 3).m1, (tr X d0 k0_t2.val 3 (s 3) 3).i2, (tr X d0 k0_t2.val 3 (s 3) 3).m2, (tr X d0 k0_t2.val 3 (s 3) 3).i1, (tr X d0 k0_t2.val 3 (s 3) 3).m1, (tr X d0 k0_t2.val 4 (s 4) 3).i2, (tr X d0 k0_t2.val 4 (s 4) 3).m2, (tr X d0 k0_t2.val 4 (s 4) 3).i1, (tr X d0 k0_t2.val 4 (s 4) 3).m1⟩))
      ⊢ wp frame (wpE (defs₀ (F := F)) 𝒱₀ (V d (cV L) (jV L)) none) Set.univ
          (k0_part5 L arg2 harg2 arg3 harg3 arg4 harg4 arg5 harg5 arg6 harg6 arg7 arg8 v42_r0 k0_t2 arg11 (tr X d0 k0_t2.val 0 (s 0) 2).m1 (tr X d0 k0_t2.val 1 (s 1) 2).i2 (tr X d0 k0_t2.val 1 (s 1) 2).m2 (tr X d0 k0_t2.val 1 (s 1) 2).i1 (tr X d0 k0_t2.val 1 (s 1) 2).m1 (tr X d0 k0_t2.val 2 (s 2) 2).i2 (tr X d0 k0_t2.val 2 (s 2) 2).m2 (tr X d0 k0_t2.val 2 (s 2) 2).i1 (tr X d0 k0_t2.val 2 (s 2) 2).m1 (tr X d0 k0_t2.val 3 (s 3) 2).i2 (tr X d0 k0_t2.val 3 (s 3) 2).m2 (tr X d0 k0_t2.val 3 (s 3) 2).i1 (tr X d0 k0_t2.val 3 (s 3) 2).m1 (tr X d0 k0_t2.val 4 (s 4) 2).i2 (tr X d0 k0_t2.val 4 (s 4) 2).m2 (tr X d0 k0_t2.val 4 (s 4) 2).i1 (tr X d0 k0_t2.val 4 (s 4) 2).m1 (dv d0 2) (lv X k0_t2.val 2 0)) Φ := by
  rw [k0_part5_eq_skeleton]; unfold k0_part5_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 2 1 k0_t2.isLt (by decide) (by decide) _ _ (k0_off20_eq k0_t2), hX]
  iapply (wp_load 𝒱₀ _ none Set.univ (m := arg4) (S := Finset.univ) (Finset.subset_univ _)) $$ H; iintro H
  rw [readAt_row arg4 f k0_t2.val 2 2 k0_t2.isLt (by decide) (by decide) _ _ (k0_off21_eq k0_t2), hX]
  iapply (wp_load 𝒱₀ _ none Set.univ (m := arg4) (S := Finset.univ) (Finset.subset_univ _)) $$ H; iintro H
  rw [readAt_row arg4 f k0_t2.val 2 3 k0_t2.isLt (by decide) (by decide) _ _ (k0_off22_eq k0_t2), hX]
  iapply (wp_load 𝒱₀ _ none Set.univ (m := arg4) (S := Finset.univ) (Finset.subset_univ _)) $$ H; iintro H
  rw [readAt_row arg4 f k0_t2.val 2 4 k0_t2.isLt (by decide) (by decide) _ _ (k0_off23_eq k0_t2), hX]
  rw [wp_ret]
  imodintro
  ihave HQ := HΦ $$ H
  istop
  exact BI.Entails.refl _

/-- Part 6, from and to the states of the eight groups. -/
theorem part6_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 5 (s 5) 3).i2, (tr X d0 k0_t2.val 5 (s 5) 3).m2, (tr X d0 k0_t2.val 5 (s 5) 3).i1, (tr X d0 k0_t2.val 5 (s 5) 3).m1, (tr X d0 k0_t2.val 6 (s 6) 3).i2, (tr X d0 k0_t2.val 6 (s 6) 3).m2, (tr X d0 k0_t2.val 6 (s 6) 3).i1, (tr X d0 k0_t2.val 6 (s 6) 3).m1, (tr X d0 k0_t2.val 7 (s 7) 3).i2, (tr X d0 k0_t2.val 7 (s 7) 3).m2, (tr X d0 k0_t2.val 7 (s 7) 3).i1, (tr X d0 k0_t2.val 7 (s 7) 3).m1, (dv d0 3), (tr X d0 k0_t2.val 0 (s 0) 4).i2, (tr X d0 k0_t2.val 0 (s 0) 4).m2, (tr X d0 k0_t2.val 0 (s 0) 4).i1, (tr X d0 k0_t2.val 0 (s 0) 4).m1, (lv X k0_t2.val 3 1)⟩))
      ⊢ wp frame (wpE (defs₀ (F := F)) 𝒱₀ (V d (cV L) (jV L)) none) Set.univ
          (k0_part6 L arg2 harg2 arg3 harg3 arg4 harg4 arg5 harg5 arg6 harg6 arg7 arg8 v42_r0 (broadcast S16 1#32) k0_t2 arg11 (tr X d0 k0_t2.val 5 (s 5) 2).i2 (tr X d0 k0_t2.val 5 (s 5) 2).m2 (tr X d0 k0_t2.val 5 (s 5) 2).i1 (tr X d0 k0_t2.val 5 (s 5) 2).m1 (tr X d0 k0_t2.val 6 (s 6) 2).i2 (tr X d0 k0_t2.val 6 (s 6) 2).m2 (tr X d0 k0_t2.val 6 (s 6) 2).i1 (tr X d0 k0_t2.val 6 (s 6) 2).m1 (tr X d0 k0_t2.val 7 (s 7) 2).i2 (tr X d0 k0_t2.val 7 (s 7) 2).m2 (tr X d0 k0_t2.val 7 (s 7) 2).i1 (tr X d0 k0_t2.val 7 (s 7) 2).m1 (dv d0 2) (tr X d0 k0_t2.val 0 (s 0) 3).i2 (tr X d0 k0_t2.val 0 (s 0) 3).m2 (tr X d0 k0_t2.val 0 (s 0) 3).i1 (tr X d0 k0_t2.val 0 (s 0) 3).m1) Φ := by
  rw [k0_part6_eq_skeleton]; unfold k0_part6_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 2 5 k0_t2.isLt (by decide) (by decide) _ _ (k0_off24_eq k0_t2), hX]
  iapply (wp_load 𝒱₀ _ none Set.univ (m := arg4) (S := Finset.univ) (Finset.subset_univ _)) $$ H; iintro H
  rw [readAt_row arg4 f k0_t2.val 2 6 k0_t2.isLt (by decide) (by decide) _ _ (k0_off25_eq k0_t2), hX]
  iapply (wp_load 𝒱₀ _ none Set.univ (m := arg4) (S := Finset.univ) (Finset.subset_univ _)) $$ H; iintro H
  rw [readAt_row arg4 f k0_t2.val 2 7 k0_t2.isLt (by decide) (by decide) _ _ (k0_off26_eq k0_t2), hX]
  iapply (wp_load 𝒱₀ _ none Set.univ (m := arg4) (S := Finset.univ) (Finset.subset_univ _)) $$ H; iintro H
  rw [readAt_row arg4 f k0_t2.val 3 0 k0_t2.isLt (by decide) (by decide) _ _ (k0_off27_eq k0_t2), hX]
  iapply (wp_load 𝒱₀ _ none Set.univ (m := arg4) (S := Finset.univ) (Finset.subset_univ _)) $$ H; iintro H
  rw [readAt_row arg4 f k0_t2.val 3 1 k0_t2.isLt (by decide) (by decide) _ _ (k0_off28_eq k0_t2), hX]
  rw [wp_ret]
  imodintro
  ihave HQ := HΦ $$ H
  istop
  exact BI.Entails.refl _

/-- Part 7, from and to the states of the eight groups. -/
theorem part7_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 1 (s 1) 4).i2, (tr X d0 k0_t2.val 1 (s 1) 4).m2, (tr X d0 k0_t2.val 1 (s 1) 4).i1, (tr X d0 k0_t2.val 1 (s 1) 4).m1, (tr X d0 k0_t2.val 2 (s 2) 4).i2, (tr X d0 k0_t2.val 2 (s 2) 4).m2, (tr X d0 k0_t2.val 2 (s 2) 4).i1, (tr X d0 k0_t2.val 2 (s 2) 4).m1, (tr X d0 k0_t2.val 3 (s 3) 4).i2, (tr X d0 k0_t2.val 3 (s 3) 4).m2, (tr X d0 k0_t2.val 3 (s 3) 4).i1, (tr X d0 k0_t2.val 3 (s 3) 4).m1, (tr X d0 k0_t2.val 4 (s 4) 4).i2, (tr X d0 k0_t2.val 4 (s 4) 4).m2, (tr X d0 k0_t2.val 4 (s 4) 4).i1, (tr X d0 k0_t2.val 4 (s 4) 4).m1, (lv X k0_t2.val 3 5), (cmpf .ogt (lv X k0_t2.val 3 5) (tr X d0 k0_t2.val 5 (s 5) 3).m1), (tr X d0 k0_t2.val 5 (s 5) 4).i2⟩))
      ⊢ wp frame (wpE (defs₀ (F := F)) 𝒱₀ (V d (cV L) (jV L)) none) Set.univ
          (k0_part7 L arg2 harg2 arg3 harg3 arg4 harg4 arg5 harg5 arg6 harg6 arg7 arg8 v42_r0 k0_t2 arg11 (tr X d0 k0_t2.val 1 (s 1) 3).i2 (tr X d0 k0_t2.val 1 (s 1) 3).m2 (tr X d0 k0_t2.val 1 (s 1) 3).i1 (tr X d0 k0_t2.val 1 (s 1) 3).m1 (tr X d0 k0_t2.val 2 (s 2) 3).i2 (tr X d0 k0_t2.val 2 (s 2) 3).m2 (tr X d0 k0_t2.val 2 (s 2) 3).i1 (tr X d0 k0_t2.val 2 (s 2) 3).m1 (tr X d0 k0_t2.val 3 (s 3) 3).i2 (tr X d0 k0_t2.val 3 (s 3) 3).m2 (tr X d0 k0_t2.val 3 (s 3) 3).i1 (tr X d0 k0_t2.val 3 (s 3) 3).m1 (tr X d0 k0_t2.val 4 (s 4) 3).i2 (tr X d0 k0_t2.val 4 (s 4) 3).m2 (tr X d0 k0_t2.val 4 (s 4) 3).i1 (tr X d0 k0_t2.val 4 (s 4) 3).m1 (tr X d0 k0_t2.val 5 (s 5) 3).i2 (tr X d0 k0_t2.val 5 (s 5) 3).m2 (tr X d0 k0_t2.val 5 (s 5) 3).i1 (tr X d0 k0_t2.val 5 (s 5) 3).m1 (dv d0 3) (lv X k0_t2.val 3 1)) Φ := by
  rw [k0_part7_eq_skeleton]; unfold k0_part7_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 3 2 k0_t2.isLt (by decide) (by decide) _ _ (k0_off29_eq k0_t2), hX]
  iapply (wp_load 𝒱₀ _ none Set.univ (m := arg4) (S := Finset.univ) (Finset.subset_univ _)) $$ H; iintro H
  rw [readAt_row arg4 f k0_t2.val 3 3 k0_t2.isLt (by decide) (by decide) _ _ (k0_off30_eq k0_t2), hX]
  iapply (wp_load 𝒱₀ _ none Set.univ (m := arg4) (S := Finset.univ) (Finset.subset_univ _)) $$ H; iintro H
  rw [readAt_row arg4 f k0_t2.val 3 4 k0_t2.isLt (by decide) (by decide) _ _ (k0_off31_eq k0_t2), hX]
  iapply (wp_load 𝒱₀ _ none Set.univ (m := arg4) (S := Finset.univ) (Finset.subset_univ _)) $$ H; iintro H
  rw [readAt_row arg4 f k0_t2.val 3 5 k0_t2.isLt (by decide) (by decide) _ _ (k0_off32_eq k0_t2), hX]
  rw [wp_ret]
  imodintro
  ihave HQ := HΦ $$ H
  istop
  exact BI.Entails.refl _

/-- Part 8, from and to the states of the eight groups. -/
theorem part8_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 5 (s 5) 4).m2, (tr X d0 k0_t2.val 5 (s 5) 4).i1, (tr X d0 k0_t2.val 5 (s 5) 4).m1, (tr X d0 k0_t2.val 6 (s 6) 4).i2, (tr X d0 k0_t2.val 6 (s 6) 4).m2, (tr X d0 k0_t2.val 6 (s 6) 4).i1, (tr X d0 k0_t2.val 6 (s 6) 4).m1, (tr X d0 k0_t2.val 7 (s 7) 4).i2, (tr X d0 k0_t2.val 7 (s 7) 4).m2, (tr X d0 k0_t2.val 7 (s 7) 4).i1, (tr X d0 k0_t2.val 7 (s 7) 4).m1, (dv d0 4), (tr X d0 k0_t2.val 0 (s 0) 5).i2, (tr X d0 k0_t2.val 0 (s 0) 5).m2, (tr X d0 k0_t2.val 0 (s 0) 5).i1, (tr X d0 k0_t2.val 0 (s 0) 5).m1, (lv X k0_t2.val 4 1), (tr X d0 k0_t2.val 1 (s 1) 5).i2, (tr X d0 k0_t2.val 1 (s 1) 5).m2, (tr X d0 k0_t2.val 1 (s 1) 5).i1⟩))
      ⊢ wp frame (wpE (defs₀ (F := F)) 𝒱₀ (V d (cV L) (jV L)) none) Set.univ
          (k0_part8 L arg2 harg2 arg3 harg3 arg4 harg4 arg5 harg5 arg6 harg6 arg7 arg8 v42_r0 (broadcast S16 1#32) k0_t2 arg11 (tr X d0 k0_t2.val 5 (s 5) 3).m2 (tr X d0 k0_t2.val 5 (s 5) 3).i1 (tr X d0 k0_t2.val 5 (s 5) 3).m1 (tr X d0 k0_t2.val 6 (s 6) 3).i2 (tr X d0 k0_t2.val 6 (s 6) 3).m2 (tr X d0 k0_t2.val 6 (s 6) 3).i1 (tr X d0 k0_t2.val 6 (s 6) 3).m1 (tr X d0 k0_t2.val 7 (s 7) 3).i2 (tr X d0 k0_t2.val 7 (s 7) 3).m2 (tr X d0 k0_t2.val 7 (s 7) 3).i1 (tr X d0 k0_t2.val 7 (s 7) 3).m1 (dv d0 3) (tr X d0 k0_t2.val 0 (s 0) 4).i2 (tr X d0 k0_t2.val 0 (s 0) 4).m2 (tr X d0 k0_t2.val 0 (s 0) 4).i1 (tr X d0 k0_t2.val 0 (s 0) 4).m1 (tr X d0 k0_t2.val 1 (s 1) 4).i2 (tr X d0 k0_t2.val 1 (s 1) 4).m2 (tr X d0 k0_t2.val 1 (s 1) 4).i1 (tr X d0 k0_t2.val 1 (s 1) 4).m1 (lv X k0_t2.val 3 5) (cmpf .ogt (lv X k0_t2.val 3 5) (tr X d0 k0_t2.val 5 (s 5) 3).m1)) Φ := by
  rw [k0_part8_eq_skeleton]; unfold k0_part8_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 3 6 k0_t2.isLt (by decide) (by decide) _ _ (k0_off33_eq k0_t2), hX]
  iapply (wp_load 𝒱₀ _ none Set.univ (m := arg4) (S := Finset.univ) (Finset.subset_univ _)) $$ H; iintro H
  rw [readAt_row arg4 f k0_t2.val 3 7 k0_t2.isLt (by decide) (by decide) _ _ (k0_off34_eq k0_t2), hX]
  iapply (wp_load 𝒱₀ _ none Set.univ (m := arg4) (S := Finset.univ) (Finset.subset_univ _)) $$ H; iintro H
  rw [readAt_row arg4 f k0_t2.val 4 0 k0_t2.isLt (by decide) (by decide) _ _ (k0_off35_eq k0_t2), hX]
  iapply (wp_load 𝒱₀ _ none Set.univ (m := arg4) (S := Finset.univ) (Finset.subset_univ _)) $$ H; iintro H
  rw [readAt_row arg4 f k0_t2.val 4 1 k0_t2.isLt (by decide) (by decide) _ _ (k0_off36_eq k0_t2), hX]
  rw [wp_ret]
  imodintro
  ihave HQ := HΦ $$ H
  istop
  exact BI.Entails.refl _

/-- Part 9, from and to the states of the eight groups. -/
theorem part9_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 1 (s 1) 5).m1, (tr X d0 k0_t2.val 2 (s 2) 5).i2, (tr X d0 k0_t2.val 2 (s 2) 5).m2, (tr X d0 k0_t2.val 2 (s 2) 5).i1, (tr X d0 k0_t2.val 2 (s 2) 5).m1, (tr X d0 k0_t2.val 3 (s 3) 5).i2, (tr X d0 k0_t2.val 3 (s 3) 5).m2, (tr X d0 k0_t2.val 3 (s 3) 5).i1, (tr X d0 k0_t2.val 3 (s 3) 5).m1, (tr X d0 k0_t2.val 4 (s 4) 5).i2, (tr X d0 k0_t2.val 4 (s 4) 5).m2, (tr X d0 k0_t2.val 4 (s 4) 5).i1, (tr X d0 k0_t2.val 4 (s 4) 5).m1, (tr X d0 k0_t2.val 5 (s 5) 5).i2, (tr X d0 k0_t2.val 5 (s 5) 5).m2, (tr X d0 k0_t2.val 5 (s 5) 5).i1, (tr X d0 k0_t2.val 5 (s 5) 5).m1⟩))
      ⊢ wp frame (wpE (defs₀ (F := F)) 𝒱₀ (V d (cV L) (jV L)) none) Set.univ
          (k0_part9 L arg2 harg2 arg3 harg3 arg4 harg4 arg5 harg5 arg6 harg6 arg7 arg8 v42_r0 k0_t2 arg11 (tr X d0 k0_t2.val 1 (s 1) 4).m1 (tr X d0 k0_t2.val 2 (s 2) 4).i2 (tr X d0 k0_t2.val 2 (s 2) 4).m2 (tr X d0 k0_t2.val 2 (s 2) 4).i1 (tr X d0 k0_t2.val 2 (s 2) 4).m1 (tr X d0 k0_t2.val 3 (s 3) 4).i2 (tr X d0 k0_t2.val 3 (s 3) 4).m2 (tr X d0 k0_t2.val 3 (s 3) 4).i1 (tr X d0 k0_t2.val 3 (s 3) 4).m1 (tr X d0 k0_t2.val 4 (s 4) 4).i2 (tr X d0 k0_t2.val 4 (s 4) 4).m2 (tr X d0 k0_t2.val 4 (s 4) 4).i1 (tr X d0 k0_t2.val 4 (s 4) 4).m1 (tr X d0 k0_t2.val 5 (s 5) 4).i2 (tr X d0 k0_t2.val 5 (s 5) 4).m2 (tr X d0 k0_t2.val 5 (s 5) 4).i1 (tr X d0 k0_t2.val 5 (s 5) 4).m1 (dv d0 4) (lv X k0_t2.val 4 1)) Φ := by
  rw [k0_part9_eq_skeleton]; unfold k0_part9_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 4 2 k0_t2.isLt (by decide) (by decide) _ _ (k0_off37_eq k0_t2), hX]
  iapply (wp_load 𝒱₀ _ none Set.univ (m := arg4) (S := Finset.univ) (Finset.subset_univ _)) $$ H; iintro H
  rw [readAt_row arg4 f k0_t2.val 4 3 k0_t2.isLt (by decide) (by decide) _ _ (k0_off38_eq k0_t2), hX]
  iapply (wp_load 𝒱₀ _ none Set.univ (m := arg4) (S := Finset.univ) (Finset.subset_univ _)) $$ H; iintro H
  rw [readAt_row arg4 f k0_t2.val 4 4 k0_t2.isLt (by decide) (by decide) _ _ (k0_off39_eq k0_t2), hX]
  iapply (wp_load 𝒱₀ _ none Set.univ (m := arg4) (S := Finset.univ) (Finset.subset_univ _)) $$ H; iintro H
  rw [readAt_row arg4 f k0_t2.val 4 5 k0_t2.isLt (by decide) (by decide) _ _ (k0_off40_eq k0_t2), hX]
  rw [wp_ret]
  imodintro
  ihave HQ := HΦ $$ H
  istop
  exact BI.Entails.refl _

/-- Part 10, from and to the states of the eight groups. -/
theorem part10_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 6 (s 6) 5).i2, (tr X d0 k0_t2.val 6 (s 6) 5).m2, (tr X d0 k0_t2.val 6 (s 6) 5).i1, (tr X d0 k0_t2.val 6 (s 6) 5).m1, (tr X d0 k0_t2.val 7 (s 7) 5).i2, (tr X d0 k0_t2.val 7 (s 7) 5).m2, (tr X d0 k0_t2.val 7 (s 7) 5).i1, (tr X d0 k0_t2.val 7 (s 7) 5).m1, (dv d0 5), (tr X d0 k0_t2.val 0 (s 0) 6).i2, (tr X d0 k0_t2.val 0 (s 0) 6).m2, (tr X d0 k0_t2.val 0 (s 0) 6).i1, (tr X d0 k0_t2.val 0 (s 0) 6).m1, (tr X d0 k0_t2.val 1 (s 1) 6).i2, (tr X d0 k0_t2.val 1 (s 1) 6).m2, (tr X d0 k0_t2.val 1 (s 1) 6).i1, (tr X d0 k0_t2.val 1 (s 1) 6).m1, (lv X k0_t2.val 5 2)⟩))
      ⊢ wp frame (wpE (defs₀ (F := F)) 𝒱₀ (V d (cV L) (jV L)) none) Set.univ
          (k0_part10 L arg2 harg2 arg3 harg3 arg4 harg4 arg5 harg5 arg6 harg6 arg7 arg8 v42_r0 (broadcast S16 1#32) k0_t2 arg11 (tr X d0 k0_t2.val 6 (s 6) 4).i2 (tr X d0 k0_t2.val 6 (s 6) 4).m2 (tr X d0 k0_t2.val 6 (s 6) 4).i1 (tr X d0 k0_t2.val 6 (s 6) 4).m1 (tr X d0 k0_t2.val 7 (s 7) 4).i2 (tr X d0 k0_t2.val 7 (s 7) 4).m2 (tr X d0 k0_t2.val 7 (s 7) 4).i1 (tr X d0 k0_t2.val 7 (s 7) 4).m1 (dv d0 4) (tr X d0 k0_t2.val 0 (s 0) 5).i2 (tr X d0 k0_t2.val 0 (s 0) 5).m2 (tr X d0 k0_t2.val 0 (s 0) 5).i1 (tr X d0 k0_t2.val 0 (s 0) 5).m1 (tr X d0 k0_t2.val 1 (s 1) 5).i2 (tr X d0 k0_t2.val 1 (s 1) 5).m2 (tr X d0 k0_t2.val 1 (s 1) 5).i1 (tr X d0 k0_t2.val 1 (s 1) 5).m1) Φ := by
  rw [k0_part10_eq_skeleton]; unfold k0_part10_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 4 6 k0_t2.isLt (by decide) (by decide) _ _ (k0_off41_eq k0_t2), hX]
  iapply (wp_load 𝒱₀ _ none Set.univ (m := arg4) (S := Finset.univ) (Finset.subset_univ _)) $$ H; iintro H
  rw [readAt_row arg4 f k0_t2.val 4 7 k0_t2.isLt (by decide) (by decide) _ _ (k0_off42_eq k0_t2), hX]
  iapply (wp_load 𝒱₀ _ none Set.univ (m := arg4) (S := Finset.univ) (Finset.subset_univ _)) $$ H; iintro H
  rw [readAt_row arg4 f k0_t2.val 5 0 k0_t2.isLt (by decide) (by decide) _ _ (k0_off43_eq k0_t2), hX]
  iapply (wp_load 𝒱₀ _ none Set.univ (m := arg4) (S := Finset.univ) (Finset.subset_univ _)) $$ H; iintro H
  rw [readAt_row arg4 f k0_t2.val 5 1 k0_t2.isLt (by decide) (by decide) _ _ (k0_off44_eq k0_t2), hX]
  iapply (wp_load 𝒱₀ _ none Set.univ (m := arg4) (S := Finset.univ) (Finset.subset_univ _)) $$ H; iintro H
  rw [readAt_row arg4 f k0_t2.val 5 2 k0_t2.isLt (by decide) (by decide) _ _ (k0_off45_eq k0_t2), hX]
  rw [wp_ret]
  imodintro
  ihave HQ := HΦ $$ H
  istop
  exact BI.Entails.refl _

/-- Part 11, from and to the states of the eight groups. -/
theorem part11_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 2 (s 2) 6).i2, (tr X d0 k0_t2.val 2 (s 2) 6).m2, (tr X d0 k0_t2.val 2 (s 2) 6).i1, (tr X d0 k0_t2.val 2 (s 2) 6).m1, (tr X d0 k0_t2.val 3 (s 3) 6).i2, (tr X d0 k0_t2.val 3 (s 3) 6).m2, (tr X d0 k0_t2.val 3 (s 3) 6).i1, (tr X d0 k0_t2.val 3 (s 3) 6).m1, (tr X d0 k0_t2.val 4 (s 4) 6).i2, (tr X d0 k0_t2.val 4 (s 4) 6).m2, (tr X d0 k0_t2.val 4 (s 4) 6).i1, (tr X d0 k0_t2.val 4 (s 4) 6).m1, (tr X d0 k0_t2.val 5 (s 5) 6).i2, (tr X d0 k0_t2.val 5 (s 5) 6).m2, (tr X d0 k0_t2.val 5 (s 5) 6).i1, (tr X d0 k0_t2.val 5 (s 5) 6).m1, (lv X k0_t2.val 5 6), (cmpf .ogt (lv X k0_t2.val 5 6) (tr X d0 k0_t2.val 6 (s 6) 5).m1), (tr X d0 k0_t2.val 6 (s 6) 6).i2⟩))
      ⊢ wp frame (wpE (defs₀ (F := F)) 𝒱₀ (V d (cV L) (jV L)) none) Set.univ
          (k0_part11 L arg2 harg2 arg3 harg3 arg4 harg4 arg5 harg5 arg6 harg6 arg7 arg8 v42_r0 k0_t2 arg11 (tr X d0 k0_t2.val 2 (s 2) 5).i2 (tr X d0 k0_t2.val 2 (s 2) 5).m2 (tr X d0 k0_t2.val 2 (s 2) 5).i1 (tr X d0 k0_t2.val 2 (s 2) 5).m1 (tr X d0 k0_t2.val 3 (s 3) 5).i2 (tr X d0 k0_t2.val 3 (s 3) 5).m2 (tr X d0 k0_t2.val 3 (s 3) 5).i1 (tr X d0 k0_t2.val 3 (s 3) 5).m1 (tr X d0 k0_t2.val 4 (s 4) 5).i2 (tr X d0 k0_t2.val 4 (s 4) 5).m2 (tr X d0 k0_t2.val 4 (s 4) 5).i1 (tr X d0 k0_t2.val 4 (s 4) 5).m1 (tr X d0 k0_t2.val 5 (s 5) 5).i2 (tr X d0 k0_t2.val 5 (s 5) 5).m2 (tr X d0 k0_t2.val 5 (s 5) 5).i1 (tr X d0 k0_t2.val 5 (s 5) 5).m1 (tr X d0 k0_t2.val 6 (s 6) 5).i2 (tr X d0 k0_t2.val 6 (s 6) 5).m2 (tr X d0 k0_t2.val 6 (s 6) 5).i1 (tr X d0 k0_t2.val 6 (s 6) 5).m1 (dv d0 5) (lv X k0_t2.val 5 2)) Φ := by
  rw [k0_part11_eq_skeleton]; unfold k0_part11_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 5 3 k0_t2.isLt (by decide) (by decide) _ _ (k0_off46_eq k0_t2), hX]
  iapply (wp_load 𝒱₀ _ none Set.univ (m := arg4) (S := Finset.univ) (Finset.subset_univ _)) $$ H; iintro H
  rw [readAt_row arg4 f k0_t2.val 5 4 k0_t2.isLt (by decide) (by decide) _ _ (k0_off47_eq k0_t2), hX]
  iapply (wp_load 𝒱₀ _ none Set.univ (m := arg4) (S := Finset.univ) (Finset.subset_univ _)) $$ H; iintro H
  rw [readAt_row arg4 f k0_t2.val 5 5 k0_t2.isLt (by decide) (by decide) _ _ (k0_off48_eq k0_t2), hX]
  iapply (wp_load 𝒱₀ _ none Set.univ (m := arg4) (S := Finset.univ) (Finset.subset_univ _)) $$ H; iintro H
  rw [readAt_row arg4 f k0_t2.val 5 6 k0_t2.isLt (by decide) (by decide) _ _ (k0_off49_eq k0_t2), hX]
  rw [wp_ret]
  imodintro
  ihave HQ := HΦ $$ H
  istop
  exact BI.Entails.refl _

/-- Part 12, from and to the states of the eight groups. -/
theorem part12_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 6 (s 6) 6).m2, (tr X d0 k0_t2.val 6 (s 6) 6).i1, (tr X d0 k0_t2.val 6 (s 6) 6).m1, (tr X d0 k0_t2.val 7 (s 7) 6).i2, (tr X d0 k0_t2.val 7 (s 7) 6).m2, (tr X d0 k0_t2.val 7 (s 7) 6).i1, (tr X d0 k0_t2.val 7 (s 7) 6).m1, (dv d0 6), (tr X d0 k0_t2.val 0 (s 0) 7).i2, (tr X d0 k0_t2.val 0 (s 0) 7).m2, (tr X d0 k0_t2.val 0 (s 0) 7).i1, (tr X d0 k0_t2.val 0 (s 0) 7).m1, (tr X d0 k0_t2.val 1 (s 1) 7).i2, (tr X d0 k0_t2.val 1 (s 1) 7).m2, (tr X d0 k0_t2.val 1 (s 1) 7).i1, (tr X d0 k0_t2.val 1 (s 1) 7).m1, (lv X k0_t2.val 6 2), (tr X d0 k0_t2.val 2 (s 2) 7).i2, (tr X d0 k0_t2.val 2 (s 2) 7).m2, (tr X d0 k0_t2.val 2 (s 2) 7).i1⟩))
      ⊢ wp frame (wpE (defs₀ (F := F)) 𝒱₀ (V d (cV L) (jV L)) none) Set.univ
          (k0_part12 L arg2 harg2 arg3 harg3 arg4 harg4 arg5 harg5 arg6 harg6 arg7 arg8 v42_r0 (broadcast S16 1#32) k0_t2 arg11 (tr X d0 k0_t2.val 6 (s 6) 5).m2 (tr X d0 k0_t2.val 6 (s 6) 5).i1 (tr X d0 k0_t2.val 6 (s 6) 5).m1 (tr X d0 k0_t2.val 7 (s 7) 5).i2 (tr X d0 k0_t2.val 7 (s 7) 5).m2 (tr X d0 k0_t2.val 7 (s 7) 5).i1 (tr X d0 k0_t2.val 7 (s 7) 5).m1 (dv d0 5) (tr X d0 k0_t2.val 0 (s 0) 6).i2 (tr X d0 k0_t2.val 0 (s 0) 6).m2 (tr X d0 k0_t2.val 0 (s 0) 6).i1 (tr X d0 k0_t2.val 0 (s 0) 6).m1 (tr X d0 k0_t2.val 1 (s 1) 6).i2 (tr X d0 k0_t2.val 1 (s 1) 6).m2 (tr X d0 k0_t2.val 1 (s 1) 6).i1 (tr X d0 k0_t2.val 1 (s 1) 6).m1 (tr X d0 k0_t2.val 2 (s 2) 6).i2 (tr X d0 k0_t2.val 2 (s 2) 6).m2 (tr X d0 k0_t2.val 2 (s 2) 6).i1 (tr X d0 k0_t2.val 2 (s 2) 6).m1 (lv X k0_t2.val 5 6) (cmpf .ogt (lv X k0_t2.val 5 6) (tr X d0 k0_t2.val 6 (s 6) 5).m1)) Φ := by
  rw [k0_part12_eq_skeleton]; unfold k0_part12_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 5 7 k0_t2.isLt (by decide) (by decide) _ _ (k0_off50_eq k0_t2), hX]
  iapply (wp_load 𝒱₀ _ none Set.univ (m := arg4) (S := Finset.univ) (Finset.subset_univ _)) $$ H; iintro H
  rw [readAt_row arg4 f k0_t2.val 6 0 k0_t2.isLt (by decide) (by decide) _ _ (k0_off51_eq k0_t2), hX]
  iapply (wp_load 𝒱₀ _ none Set.univ (m := arg4) (S := Finset.univ) (Finset.subset_univ _)) $$ H; iintro H
  rw [readAt_row arg4 f k0_t2.val 6 1 k0_t2.isLt (by decide) (by decide) _ _ (k0_off52_eq k0_t2), hX]
  iapply (wp_load 𝒱₀ _ none Set.univ (m := arg4) (S := Finset.univ) (Finset.subset_univ _)) $$ H; iintro H
  rw [readAt_row arg4 f k0_t2.val 6 2 k0_t2.isLt (by decide) (by decide) _ _ (k0_off53_eq k0_t2), hX]
  rw [wp_ret]
  imodintro
  ihave HQ := HΦ $$ H
  istop
  exact BI.Entails.refl _

/-- Part 13, from and to the states of the eight groups. -/
theorem part13_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 2 (s 2) 7).m1, (tr X d0 k0_t2.val 3 (s 3) 7).i2, (tr X d0 k0_t2.val 3 (s 3) 7).m2, (tr X d0 k0_t2.val 3 (s 3) 7).i1, (tr X d0 k0_t2.val 3 (s 3) 7).m1, (tr X d0 k0_t2.val 4 (s 4) 7).i2, (tr X d0 k0_t2.val 4 (s 4) 7).m2, (tr X d0 k0_t2.val 4 (s 4) 7).i1, (tr X d0 k0_t2.val 4 (s 4) 7).m1, (tr X d0 k0_t2.val 5 (s 5) 7).i2, (tr X d0 k0_t2.val 5 (s 5) 7).m2, (tr X d0 k0_t2.val 5 (s 5) 7).i1, (tr X d0 k0_t2.val 5 (s 5) 7).m1, (tr X d0 k0_t2.val 6 (s 6) 7).i2, (tr X d0 k0_t2.val 6 (s 6) 7).m2, (tr X d0 k0_t2.val 6 (s 6) 7).i1, (tr X d0 k0_t2.val 6 (s 6) 7).m1⟩))
      ⊢ wp frame (wpE (defs₀ (F := F)) 𝒱₀ (V d (cV L) (jV L)) none) Set.univ
          (k0_part13 L arg2 harg2 arg3 harg3 arg4 harg4 arg5 harg5 arg6 harg6 arg7 arg8 v42_r0 k0_t2 arg11 (tr X d0 k0_t2.val 2 (s 2) 6).m1 (tr X d0 k0_t2.val 3 (s 3) 6).i2 (tr X d0 k0_t2.val 3 (s 3) 6).m2 (tr X d0 k0_t2.val 3 (s 3) 6).i1 (tr X d0 k0_t2.val 3 (s 3) 6).m1 (tr X d0 k0_t2.val 4 (s 4) 6).i2 (tr X d0 k0_t2.val 4 (s 4) 6).m2 (tr X d0 k0_t2.val 4 (s 4) 6).i1 (tr X d0 k0_t2.val 4 (s 4) 6).m1 (tr X d0 k0_t2.val 5 (s 5) 6).i2 (tr X d0 k0_t2.val 5 (s 5) 6).m2 (tr X d0 k0_t2.val 5 (s 5) 6).i1 (tr X d0 k0_t2.val 5 (s 5) 6).m1 (tr X d0 k0_t2.val 6 (s 6) 6).i2 (tr X d0 k0_t2.val 6 (s 6) 6).m2 (tr X d0 k0_t2.val 6 (s 6) 6).i1 (tr X d0 k0_t2.val 6 (s 6) 6).m1 (dv d0 6) (lv X k0_t2.val 6 2)) Φ := by
  rw [k0_part13_eq_skeleton]; unfold k0_part13_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 6 3 k0_t2.isLt (by decide) (by decide) _ _ (k0_off54_eq k0_t2), hX]
  iapply (wp_load 𝒱₀ _ none Set.univ (m := arg4) (S := Finset.univ) (Finset.subset_univ _)) $$ H; iintro H
  rw [readAt_row arg4 f k0_t2.val 6 4 k0_t2.isLt (by decide) (by decide) _ _ (k0_off55_eq k0_t2), hX]
  iapply (wp_load 𝒱₀ _ none Set.univ (m := arg4) (S := Finset.univ) (Finset.subset_univ _)) $$ H; iintro H
  rw [readAt_row arg4 f k0_t2.val 6 5 k0_t2.isLt (by decide) (by decide) _ _ (k0_off56_eq k0_t2), hX]
  iapply (wp_load 𝒱₀ _ none Set.univ (m := arg4) (S := Finset.univ) (Finset.subset_univ _)) $$ H; iintro H
  rw [readAt_row arg4 f k0_t2.val 6 6 k0_t2.isLt (by decide) (by decide) _ _ (k0_off57_eq k0_t2), hX]
  rw [wp_ret]
  imodintro
  ihave HQ := HΦ $$ H
  istop
  exact BI.Entails.refl _

/-- Part 14, from and to the states of the eight groups. -/
theorem part14_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 7 (s 7) 7).i2, (tr X d0 k0_t2.val 7 (s 7) 7).m2, (tr X d0 k0_t2.val 7 (s 7) 7).i1, (tr X d0 k0_t2.val 7 (s 7) 7).m1, (dv d0 7), (tr X d0 k0_t2.val 0 (s 0) 8).i2, (tr X d0 k0_t2.val 0 (s 0) 8).m2, (tr X d0 k0_t2.val 0 (s 0) 8).i1, (tr X d0 k0_t2.val 0 (s 0) 8).m1, (tr X d0 k0_t2.val 1 (s 1) 8).i2, (tr X d0 k0_t2.val 1 (s 1) 8).m2, (tr X d0 k0_t2.val 1 (s 1) 8).i1, (tr X d0 k0_t2.val 1 (s 1) 8).m1, (tr X d0 k0_t2.val 2 (s 2) 8).i2, (tr X d0 k0_t2.val 2 (s 2) 8).m2, (tr X d0 k0_t2.val 2 (s 2) 8).i1, (tr X d0 k0_t2.val 2 (s 2) 8).m1, (lv X k0_t2.val 7 3)⟩))
      ⊢ wp frame (wpE (defs₀ (F := F)) 𝒱₀ (V d (cV L) (jV L)) none) Set.univ
          (k0_part14 L arg2 harg2 arg3 harg3 arg4 harg4 arg5 harg5 arg6 harg6 arg7 arg8 v42_r0 (broadcast S16 1#32) k0_t2 arg11 (tr X d0 k0_t2.val 7 (s 7) 6).i2 (tr X d0 k0_t2.val 7 (s 7) 6).m2 (tr X d0 k0_t2.val 7 (s 7) 6).i1 (tr X d0 k0_t2.val 7 (s 7) 6).m1 (dv d0 6) (tr X d0 k0_t2.val 0 (s 0) 7).i2 (tr X d0 k0_t2.val 0 (s 0) 7).m2 (tr X d0 k0_t2.val 0 (s 0) 7).i1 (tr X d0 k0_t2.val 0 (s 0) 7).m1 (tr X d0 k0_t2.val 1 (s 1) 7).i2 (tr X d0 k0_t2.val 1 (s 1) 7).m2 (tr X d0 k0_t2.val 1 (s 1) 7).i1 (tr X d0 k0_t2.val 1 (s 1) 7).m1 (tr X d0 k0_t2.val 2 (s 2) 7).i2 (tr X d0 k0_t2.val 2 (s 2) 7).m2 (tr X d0 k0_t2.val 2 (s 2) 7).i1 (tr X d0 k0_t2.val 2 (s 2) 7).m1) Φ := by
  rw [k0_part14_eq_skeleton]; unfold k0_part14_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 6 7 k0_t2.isLt (by decide) (by decide) _ _ (k0_off58_eq k0_t2), hX]
  iapply (wp_load 𝒱₀ _ none Set.univ (m := arg4) (S := Finset.univ) (Finset.subset_univ _)) $$ H; iintro H
  rw [readAt_row arg4 f k0_t2.val 7 0 k0_t2.isLt (by decide) (by decide) _ _ (k0_off59_eq k0_t2), hX]
  iapply (wp_load 𝒱₀ _ none Set.univ (m := arg4) (S := Finset.univ) (Finset.subset_univ _)) $$ H; iintro H
  rw [readAt_row arg4 f k0_t2.val 7 1 k0_t2.isLt (by decide) (by decide) _ _ (k0_off60_eq k0_t2), hX]
  iapply (wp_load 𝒱₀ _ none Set.univ (m := arg4) (S := Finset.univ) (Finset.subset_univ _)) $$ H; iintro H
  rw [readAt_row arg4 f k0_t2.val 7 2 k0_t2.isLt (by decide) (by decide) _ _ (k0_off61_eq k0_t2), hX]
  iapply (wp_load 𝒱₀ _ none Set.univ (m := arg4) (S := Finset.univ) (Finset.subset_univ _)) $$ H; iintro H
  rw [readAt_row arg4 f k0_t2.val 7 3 k0_t2.isLt (by decide) (by decide) _ _ (k0_off62_eq k0_t2), hX]
  rw [wp_ret]
  imodintro
  ihave HQ := HΦ $$ H
  istop
  exact BI.Entails.refl _

/-- Part 15, from and to the states of the eight groups. -/
theorem part15_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t2 : Fin k0_t2_loop.trips) (arg11 : BitVec 32)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ ⟨(tr X d0 k0_t2.val 3 (s 3) 8).i2, (tr X d0 k0_t2.val 3 (s 3) 8).m2, (tr X d0 k0_t2.val 3 (s 3) 8).i1, (tr X d0 k0_t2.val 3 (s 3) 8).m1, (tr X d0 k0_t2.val 4 (s 4) 8).i2, (tr X d0 k0_t2.val 4 (s 4) 8).m2, (tr X d0 k0_t2.val 4 (s 4) 8).i1, (tr X d0 k0_t2.val 4 (s 4) 8).m1, (tr X d0 k0_t2.val 5 (s 5) 8).i2, (tr X d0 k0_t2.val 5 (s 5) 8).m2, (tr X d0 k0_t2.val 5 (s 5) 8).i1, (tr X d0 k0_t2.val 5 (s 5) 8).m1, (tr X d0 k0_t2.val 6 (s 6) 8).i2, (tr X d0 k0_t2.val 6 (s 6) 8).m2, (tr X d0 k0_t2.val 6 (s 6) 8).i1, (tr X d0 k0_t2.val 6 (s 6) 8).m1, (lv X k0_t2.val 7 7), (cmpf .ogt (lv X k0_t2.val 7 7) (tr X d0 k0_t2.val 7 (s 7) 7).m1), (tr X d0 k0_t2.val 7 (s 7) 8).i2⟩))
      ⊢ wp frame (wpE (defs₀ (F := F)) 𝒱₀ (V d (cV L) (jV L)) none) Set.univ
          (k0_part15 L arg2 harg2 arg3 harg3 arg4 harg4 arg5 harg5 arg6 harg6 arg7 arg8 v42_r0 k0_t2 arg11 (tr X d0 k0_t2.val 3 (s 3) 7).i2 (tr X d0 k0_t2.val 3 (s 3) 7).m2 (tr X d0 k0_t2.val 3 (s 3) 7).i1 (tr X d0 k0_t2.val 3 (s 3) 7).m1 (tr X d0 k0_t2.val 4 (s 4) 7).i2 (tr X d0 k0_t2.val 4 (s 4) 7).m2 (tr X d0 k0_t2.val 4 (s 4) 7).i1 (tr X d0 k0_t2.val 4 (s 4) 7).m1 (tr X d0 k0_t2.val 5 (s 5) 7).i2 (tr X d0 k0_t2.val 5 (s 5) 7).m2 (tr X d0 k0_t2.val 5 (s 5) 7).i1 (tr X d0 k0_t2.val 5 (s 5) 7).m1 (tr X d0 k0_t2.val 6 (s 6) 7).i2 (tr X d0 k0_t2.val 6 (s 6) 7).m2 (tr X d0 k0_t2.val 6 (s 6) 7).i1 (tr X d0 k0_t2.val 6 (s 6) 7).m1 (tr X d0 k0_t2.val 7 (s 7) 7).i2 (tr X d0 k0_t2.val 7 (s 7) 7).m2 (tr X d0 k0_t2.val 7 (s 7) 7).i1 (tr X d0 k0_t2.val 7 (s 7) 7).m1 (dv d0 7) (lv X k0_t2.val 7 3)) Φ := by
  rw [k0_part15_eq_skeleton]; unfold k0_part15_skel
  simp only [Prog.lift, Prog.bind_op, Prog.bind_ret, Prog.pure_eq_ret]
  iintro ⟨H, HΦ⟩
  iapply (wp_load 𝒱₀ _ none Set.univ (m := arg4) (S := Finset.univ) (Finset.subset_univ _)) $$ H; iintro H
  rw [readAt_row arg4 f k0_t2.val 7 4 k0_t2.isLt (by decide) (by decide) _ _ (k0_off63_eq k0_t2), hX]
  iapply (wp_load 𝒱₀ _ none Set.univ (m := arg4) (S := Finset.univ) (Finset.subset_univ _)) $$ H; iintro H
  rw [readAt_row arg4 f k0_t2.val 7 5 k0_t2.isLt (by decide) (by decide) _ _ (k0_off64_eq k0_t2), hX]
  iapply (wp_load 𝒱₀ _ none Set.univ (m := arg4) (S := Finset.univ) (Finset.subset_univ _)) $$ H; iintro H
  rw [readAt_row arg4 f k0_t2.val 7 6 k0_t2.isLt (by decide) (by decide) _ _ (k0_off65_eq k0_t2), hX]
  iapply (wp_load 𝒱₀ _ none Set.univ (m := arg4) (S := Finset.univ) (Finset.subset_univ _)) $$ H; iintro H
  rw [readAt_row arg4 f k0_t2.val 7 7 k0_t2.isLt (by decide) (by decide) _ _ (k0_off66_eq k0_t2), hX]
  rw [wp_ret]
  imodintro
  ihave HQ := HΦ $$ H
  istop
  exact BI.Entails.refl _

end

end Cert.Proof.KernelIdeal
-- ==== Proof.TripA.lean ====
/-
  The loop over the planes of `arg4`: its trip from its parts, and the loop.
-/
module

public import proofs.«01_k».proof.Proof.InnerA

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-- One trip of the loop over the planes of `arg4`: eight rows into each of the eight groups. -/
theorem tripA_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (v29 : BitVec 32) (v30 : FVec F S16 .f32) (v31 : IVec S16 32) (c0_i32_18 : BitVec 32) (c1_i32_19 : BitVec 32) (k0_t1 : Fin k0_t1_loop.trips) (k0_t2 : Fin k0_t2_loop.trips)
    (f : Buf (Elt F) (arg4.view.loc (V d (cV L) (jV L)))) (q : PosShare TreeShare) (s : ℕ → ST F) (d0 : IVec S16 32) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ (pack (dv d0 8) fun g => tr X d0 k0_t2.val g (s g) 8)))
      ⊢ wp frame (wpE (defs₀ (F := F)) 𝒱₀ (V d (cV L) (jV L)) none) Set.univ
          (k0_t2_body L arg2 harg2 arg3 harg3 arg4 harg4 arg5 harg5 arg6 harg6 arg7 arg8 v42_r0 v29 v30 v31 (broadcast S16 1#32) c0_i32_18 c1_i32_19 k0_t1 k0_t2 (pack d0 s)) Φ := by
  unfold k0_t2_body pack
  iintro ⟨H, HΦ⟩
  rw [wp_bind]; iapply (part1_wp d L arg2 harg2 arg3 harg3 arg4 harg4 arg5 harg5 arg6 harg6 arg7 arg8 v42_r0 _ _ k0_t2 f q s d0 X hX); isplitl [H]; · iexact H
  iintro H; dsimp only
  rw [wp_bind]; iapply (part2_wp d L arg2 harg2 arg3 harg3 arg4 harg4 arg5 harg5 arg6 harg6 arg7 arg8 v42_r0 k0_t2 _ f q s d0 X hX); isplitl [H]; · iexact H
  iintro H; dsimp only
  rw [wp_bind]; iapply (part3_wp d L arg2 harg2 arg3 harg3 arg4 harg4 arg5 harg5 arg6 harg6 arg7 arg8 v42_r0 k0_t2 _ f q s d0 X hX); isplitl [H]; · iexact H
  iintro H; dsimp only
  rw [wp_bind]; iapply (part4_wp d L arg2 harg2 arg3 harg3 arg4 harg4 arg5 harg5 arg6 harg6 arg7 arg8 v42_r0 k0_t2 _ f q s d0 X hX); isplitl [H]; · iexact H
  iintro H; dsimp only
  rw [wp_bind]; iapply (part5_wp d L arg2 harg2 arg3 harg3 arg4 harg4 arg5 harg5 arg6 harg6 arg7 arg8 v42_r0 k0_t2 _ f q s d0 X hX); isplitl [H]; · iexact H
  iintro H; dsimp only
  rw [wp_bind]; iapply (part6_wp d L arg2 harg2 arg3 harg3 arg4 harg4 arg5 harg5 arg6 harg6 arg7 arg8 v42_r0 k0_t2 _ f q s d0 X hX); isplitl [H]; · iexact H
  iintro H; dsimp only
  rw [wp_bind]; iapply (part7_wp d L arg2 harg2 arg3 harg3 arg4 harg4 arg5 harg5 arg6 harg6 arg7 arg8 v42_r0 k0_t2 _ f q s d0 X hX); isplitl [H]; · iexact H
  iintro H; dsimp only
  rw [wp_bind]; iapply (part8_wp d L arg2 harg2 arg3 harg3 arg4 harg4 arg5 harg5 arg6 harg6 arg7 arg8 v42_r0 k0_t2 _ f q s d0 X hX); isplitl [H]; · iexact H
  iintro H; dsimp only
  rw [wp_bind]; iapply (part9_wp d L arg2 harg2 arg3 harg3 arg4 harg4 arg5 harg5 arg6 harg6 arg7 arg8 v42_r0 k0_t2 _ f q s d0 X hX); isplitl [H]; · iexact H
  iintro H; dsimp only
  rw [wp_bind]; iapply (part10_wp d L arg2 harg2 arg3 harg3 arg4 harg4 arg5 harg5 arg6 harg6 arg7 arg8 v42_r0 k0_t2 _ f q s d0 X hX); isplitl [H]; · iexact H
  iintro H; dsimp only
  rw [wp_bind]; iapply (part11_wp d L arg2 harg2 arg3 harg3 arg4 harg4 arg5 harg5 arg6 harg6 arg7 arg8 v42_r0 k0_t2 _ f q s d0 X hX); isplitl [H]; · iexact H
  iintro H; dsimp only
  rw [wp_bind]; iapply (part12_wp d L arg2 harg2 arg3 harg3 arg4 harg4 arg5 harg5 arg6 harg6 arg7 arg8 v42_r0 k0_t2 _ f q s d0 X hX); isplitl [H]; · iexact H
  iintro H; dsimp only
  rw [wp_bind]; iapply (part13_wp d L arg2 harg2 arg3 harg3 arg4 harg4 arg5 harg5 arg6 harg6 arg7 arg8 v42_r0 k0_t2 _ f q s d0 X hX); isplitl [H]; · iexact H
  iintro H; dsimp only
  rw [wp_bind]; iapply (part14_wp d L arg2 harg2 arg3 harg3 arg4 harg4 arg5 harg5 arg6 harg6 arg7 arg8 v42_r0 k0_t2 _ f q s d0 X hX); isplitl [H]; · iexact H
  iintro H; dsimp only
  rw [wp_bind]; iapply (part15_wp d L arg2 harg2 arg3 harg3 arg4 harg4 arg5 harg5 arg6 harg6 arg7 arg8 v42_r0 k0_t2 _ f q s d0 X hX); isplitl [H]; · iexact H
  iintro H; dsimp only
  rw [wp_pure]
  imodintro
  ihave HQ := HΦ $$ H
  istop
  exact BI.Entails.refl _

/-- The loop over the planes of `arg4`: from nothing read to the chunk's eight groups read whole. -/
theorem loopA_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (v29 : BitVec 32) (v30 : FVec F S16 .f32) (v31 : IVec S16 32) (c0_i32_18 : BitVec 32) (c1_i32_19 : BitVec 32) (k0_t1 : Fin k0_t1_loop.trips)
    (f : Buf (Elt F) (arg4.view.loc (V d (cV L) (jV L)))) (q : PosShare TreeShare) (X : S24x8x128.Idx → F .f32) (hX : arg4.view.read (Elt F) f = X)
    {Φ : _ → sProp 𝕄} :
    iprop((arg4.view.loc (V d (cV L) (jV L)) ↦{q} f) ∗ ((arg4.view.loc (V d (cV L) (jV L)) ↦{q} f) -∗ Φ (pack (dvs 24) fun g => sts X g 24)))
      ⊢ wp frame (wpE (defs₀ (F := F)) 𝒱₀ (V d (cV L) (jV L)) none) Set.univ
          (Scf.Loop.for k0_t2_loop k0_t2_ok (pack (dvs 0) fun g => sts X g 0) (k0_t2_body L arg2 harg2 arg3 harg3 arg4 harg4 arg5 harg5 arg6 harg6 arg7 arg8 v42_r0 v29 v30 v31 (broadcast S16 1#32) c0_i32_18 c1_i32_19 k0_t1)) Φ := by
  iintro ⟨H, HΦ⟩
  iapply (Scf.wp_for frame (wpE (defs₀ (F := F)) 𝒱₀ (V d (cV L) (jV L)) none) Set.univ _ _ _ _ _ _
    (fun k acc => iprop((arg4.view.loc (V d (cV L) (jV L)) ↦{q} f) ∗ ⌜acc = pack (dvs k) fun g => sts X g k⌝))
    (by
      intro k0_t2 acc
      iintro ⟨H, %e⟩
      subst e
      iapply (tripA_wp d L arg2 harg2 arg3 harg3 arg4 harg4 arg5 harg5 arg6 harg6 arg7 arg8 v42_r0 v29 v30 v31 c0_i32_18 c1_i32_19 k0_t1 k0_t2 f q _ _ X hX)
      isplitl [H]
      · iexact H
      iintro H
      isplitl [H]
      · iexact H
      ipureintro
      rfl))
  isplitl [H]
  · isplitl [H]
    · iexact H
    ipureintro; rfl
  iintro %acc ⟨H, %e⟩
  subst e
  ihave HQ := HΦ $$ H
  istop
  exact BI.Entails.refl _

end

end Cert.Proof.KernelIdeal
-- ==== Proof.InnerB.lean ====
/-
  One trip of the chunk loop over `arg5`, part by part: every part reads its sixteen-lane groups and steps their states.
-/
module

public import proofs.«01_k».proof.Proof.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-- Part 16, from and to the states of the eight groups. -/
theorem part16_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (c0_i32_65 : BitVec 32) (c1_i32_67 : BitVec 32) (k0_t3 : Fin k0_t3_loop.trips)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨Scf.iv c0_i32_65 c1_i32_67 k0_t3, (tr X d0 k0_t3.val 0 (s 0) 1).i2, (tr X d0 k0_t3.val 0 (s 0) 1).m2, (tr X d0 k0_t3.val 0 (s 0) 1).i1, (tr X d0 k0_t3.val 0 (s 0) 1).m1, (tr X d0 k0_t3.val 1 (s 1) 1).i2, (tr X d0 k0_t3.val 1 (s 1) 1).m2, (tr X d0 k0_t3.val 1 (s 1) 1).i1, (tr X d0 k0_t3.val 1 (s 1) 1).m1, (tr X d0 k0_t3.val 2 (s 2) 1).i2, (tr X d0 k0_t3.val 2 (s 2) 1).m2, (tr X d0 k0_t3.val 2 (s 2) 1).i1, (tr X d0 k0_t3.val 2 (s 2) 1).m1, (tr X d0 k0_t3.val 3 (s 3) 1).i2, (tr X d0 k0_t3.val 3 (s 3) 1).m2, (tr X d0 k0_t3.val 3 (s 3) 1).i1, (tr X d0 k0_t3.val 3 (s 3) 1).m1⟩))
      ⊢ wp frame (wpE (defs₀ (F := F)) 𝒱₀ (V d (cV L) (jV L)) none) Set.univ
          (k0_part16 L arg2 harg2 arg3 harg3 arg4 harg4 arg5 harg5 arg6 harg6 arg7 arg8 v42_r0 c0_i32_65 c1_i32_67 k0_t3 d0 (s 0).m1 (s 0).m2 (s 0).i1 (s 0).i2 (s 1).m1 (s 1).m2 (s 1).i1 (s 1).i2 (s 2).m1 (s 2).m2 (s 2).i1 (s 2).i2 (s 3).m1 (s 3).m2 (s 3).i1 (s 3).i2) Φ := by
  rw [k0_part16_eq_skeleton]; unfold k0_part16_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 0 0 k0_t3.isLt (by decide) (by decide) _ _ (k0_off69_eq k0_t3), hX]
  iapply (wp_load 𝒱₀ _ none Set.univ (m := arg5) (S := Finset.univ) (Finset.subset_univ _)) $$ H; iintro H
  rw [readAt_row arg5 f k0_t3.val 0 1 k0_t3.isLt (by decide) (by decide) _ _ (k0_off70_eq k0_t3), hX]
  iapply (wp_load 𝒱₀ _ none Set.univ (m := arg5) (S := Finset.univ) (Finset.subset_univ _)) $$ H; iintro H
  rw [readAt_row arg5 f k0_t3.val 0 2 k0_t3.isLt (by decide) (by decide) _ _ (k0_off71_eq k0_t3), hX]
  iapply (wp_load 𝒱₀ _ none Set.univ (m := arg5) (S := Finset.univ) (Finset.subset_univ _)) $$ H; iintro H
  rw [readAt_row arg5 f k0_t3.val 0 3 k0_t3.isLt (by decide) (by decide) _ _ (k0_off72_eq k0_t3), hX]
  rw [wp_ret]
  imodintro
  ihave HQ := HΦ $$ H
  istop
  exact BI.Entails.refl _

/-- Part 17, from and to the states of the eight groups. -/
theorem part17_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 4 (s 4) 1).i2, (tr X d0 k0_t3.val 4 (s 4) 1).m2, (tr X d0 k0_t3.val 4 (s 4) 1).i1, (tr X d0 k0_t3.val 4 (s 4) 1).m1, (tr X d0 k0_t3.val 5 (s 5) 1).i2, (tr X d0 k0_t3.val 5 (s 5) 1).m2, (tr X d0 k0_t3.val 5 (s 5) 1).i1, (tr X d0 k0_t3.val 5 (s 5) 1).m1, (tr X d0 k0_t3.val 6 (s 6) 1).i2, (tr X d0 k0_t3.val 6 (s 6) 1).m2, (tr X d0 k0_t3.val 6 (s 6) 1).i1, (tr X d0 k0_t3.val 6 (s 6) 1).m1, (tr X d0 k0_t3.val 7 (s 7) 1).i2, (tr X d0 k0_t3.val 7 (s 7) 1).m2, (tr X d0 k0_t3.val 7 (s 7) 1).i1, (tr X d0 k0_t3.val 7 (s 7) 1).m1, (dv d0 1), (lv X k0_t3.val 1 0)⟩))
      ⊢ wp frame (wpE (defs₀ (F := F)) 𝒱₀ (V d (cV L) (jV L)) none) Set.univ
          (k0_part17 L arg2 harg2 arg3 harg3 arg4 harg4 arg5 harg5 arg6 harg6 arg7 arg8 v42_r0 (broadcast S16 1#32) k0_t3 d0 (s 4).m1 (s 4).m2 (s 4).i1 (s 4).i2 (s 5).m1 (s 5).m2 (s 5).i1 (s 5).i2 (s 6).m1 (s 6).m2 (s 6).i1 (s 6).i2 (s 7).m1 (s 7).m2 (s 7).i1 (s 7).i2 arg11) Φ := by
  rw [k0_part17_eq_skeleton]; unfold k0_part17_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 0 4 k0_t3.isLt (by decide) (by decide) _ _ (k0_off73_eq k0_t3), hX]
  iapply (wp_load 𝒱₀ _ none Set.univ (m := arg5) (S := Finset.univ) (Finset.subset_univ _)) $$ H; iintro H
  rw [readAt_row arg5 f k0_t3.val 0 5 k0_t3.isLt (by decide) (by decide) _ _ (k0_off74_eq k0_t3), hX]
  iapply (wp_load 𝒱₀ _ none Set.univ (m := arg5) (S := Finset.univ) (Finset.subset_univ _)) $$ H; iintro H
  rw [readAt_row arg5 f k0_t3.val 0 6 k0_t3.isLt (by decide) (by decide) _ _ (k0_off75_eq k0_t3), hX]
  iapply (wp_load 𝒱₀ _ none Set.univ (m := arg5) (S := Finset.univ) (Finset.subset_univ _)) $$ H; iintro H
  rw [readAt_row arg5 f k0_t3.val 0 7 k0_t3.isLt (by decide) (by decide) _ _ (k0_off76_eq k0_t3), hX]
  iapply (wp_load 𝒱₀ _ none Set.univ (m := arg5) (S := Finset.univ) (Finset.subset_univ _)) $$ H; iintro H
  rw [readAt_row arg5 f k0_t3.val 1 0 k0_t3.isLt (by decide) (by decide) _ _ (k0_off77_eq k0_t3), hX]
  rw [wp_ret]
  imodintro
  ihave HQ := HΦ $$ H
  istop
  exact BI.Entails.refl _

/-- Part 18, from and to the states of the eight groups. -/
theorem part18_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 0 (s 0) 2).i2, (tr X d0 k0_t3.val 0 (s 0) 2).m2, (tr X d0 k0_t3.val 0 (s 0) 2).i1, (tr X d0 k0_t3.val 0 (s 0) 2).m1, (tr X d0 k0_t3.val 1 (s 1) 2).i2, (tr X d0 k0_t3.val 1 (s 1) 2).m2, (tr X d0 k0_t3.val 1 (s 1) 2).i1, (tr X d0 k0_t3.val 1 (s 1) 2).m1, (tr X d0 k0_t3.val 2 (s 2) 2).i2, (tr X d0 k0_t3.val 2 (s 2) 2).m2, (tr X d0 k0_t3.val 2 (s 2) 2).i1, (tr X d0 k0_t3.val 2 (s 2) 2).m1, (tr X d0 k0_t3.val 3 (s 3) 2).i2, (tr X d0 k0_t3.val 3 (s 3) 2).m2, (tr X d0 k0_t3.val 3 (s 3) 2).i1, (tr X d0 k0_t3.val 3 (s 3) 2).m1, (lv X k0_t3.val 1 4), (cmpf .ogt (lv X k0_t3.val 1 4) (tr X d0 k0_t3.val 4 (s 4) 1).m1), (tr X d0 k0_t3.val 4 (s 4) 2).i2⟩))
      ⊢ wp frame (wpE (defs₀ (F := F)) 𝒱₀ (V d (cV L) (jV L)) none) Set.univ
          (k0_part18 L arg2 harg2 arg3 harg3 arg4 harg4 arg5 harg5 arg6 harg6 arg7 arg8 v42_r0 k0_t3 arg11 (tr X d0 k0_t3.val 0 (s 0) 1).i2 (tr X d0 k0_t3.val 0 (s 0) 1).m2 (tr X d0 k0_t3.val 0 (s 0) 1).i1 (tr X d0 k0_t3.val 0 (s 0) 1).m1 (tr X d0 k0_t3.val 1 (s 1) 1).i2 (tr X d0 k0_t3.val 1 (s 1) 1).m2 (tr X d0 k0_t3.val 1 (s 1) 1).i1 (tr X d0 k0_t3.val 1 (s 1) 1).m1 (tr X d0 k0_t3.val 2 (s 2) 1).i2 (tr X d0 k0_t3.val 2 (s 2) 1).m2 (tr X d0 k0_t3.val 2 (s 2) 1).i1 (tr X d0 k0_t3.val 2 (s 2) 1).m1 (tr X d0 k0_t3.val 3 (s 3) 1).i2 (tr X d0 k0_t3.val 3 (s 3) 1).m2 (tr X d0 k0_t3.val 3 (s 3) 1).i1 (tr X d0 k0_t3.val 3 (s 3) 1).m1 (tr X d0 k0_t3.val 4 (s 4) 1).i2 (tr X d0 k0_t3.val 4 (s 4) 1).m2 (tr X d0 k0_t3.val 4 (s 4) 1).i1 (tr X d0 k0_t3.val 4 (s 4) 1).m1 (dv d0 1) (lv X k0_t3.val 1 0)) Φ := by
  rw [k0_part18_eq_skeleton]; unfold k0_part18_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 1 1 k0_t3.isLt (by decide) (by decide) _ _ (k0_off78_eq k0_t3), hX]
  iapply (wp_load 𝒱₀ _ none Set.univ (m := arg5) (S := Finset.univ) (Finset.subset_univ _)) $$ H; iintro H
  rw [readAt_row arg5 f k0_t3.val 1 2 k0_t3.isLt (by decide) (by decide) _ _ (k0_off79_eq k0_t3), hX]
  iapply (wp_load 𝒱₀ _ none Set.univ (m := arg5) (S := Finset.univ) (Finset.subset_univ _)) $$ H; iintro H
  rw [readAt_row arg5 f k0_t3.val 1 3 k0_t3.isLt (by decide) (by decide) _ _ (k0_off80_eq k0_t3), hX]
  iapply (wp_load 𝒱₀ _ none Set.univ (m := arg5) (S := Finset.univ) (Finset.subset_univ _)) $$ H; iintro H
  rw [readAt_row arg5 f k0_t3.val 1 4 k0_t3.isLt (by decide) (by decide) _ _ (k0_off81_eq k0_t3), hX]
  rw [wp_ret]
  imodintro
  ihave HQ := HΦ $$ H
  istop
  exact BI.Entails.refl _

/-- Part 19, from and to the states of the eight groups. -/
theorem part19_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 4 (s 4) 2).m2, (tr X d0 k0_t3.val 4 (s 4) 2).i1, (tr X d0 k0_t3.val 4 (s 4) 2).m1, (tr X d0 k0_t3.val 5 (s 5) 2).i2, (tr X d0 k0_t3.val 5 (s 5) 2).m2, (tr X d0 k0_t3.val 5 (s 5) 2).i1, (tr X d0 k0_t3.val 5 (s 5) 2).m1, (tr X d0 k0_t3.val 6 (s 6) 2).i2, (tr X d0 k0_t3.val 6 (s 6) 2).m2, (tr X d0 k0_t3.val 6 (s 6) 2).i1, (tr X d0 k0_t3.val 6 (s 6) 2).m1, (tr X d0 k0_t3.val 7 (s 7) 2).i2, (tr X d0 k0_t3.val 7 (s 7) 2).m2, (tr X d0 k0_t3.val 7 (s 7) 2).i1, (tr X d0 k0_t3.val 7 (s 7) 2).m1, (dv d0 2), (lv X k0_t3.val 2 0), (tr X d0 k0_t3.val 0 (s 0) 3).i2, (tr X d0 k0_t3.val 0 (s 0) 3).m2, (tr X d0 k0_t3.val 0 (s 0) 3).i1⟩))
      ⊢ wp frame (wpE (defs₀ (F := F)) 𝒱₀ (V d (cV L) (jV L)) none) Set.univ
          (k0_part19 L arg2 harg2 arg3 harg3 arg4 harg4 arg5 harg5 arg6 harg6 arg7 arg8 v42_r0 (broadcast S16 1#32) k0_t3 arg11 (tr X d0 k0_t3.val 4 (s 4) 1).m2 (tr X d0 k0_t3.val 4 (s 4) 1).i1 (tr X d0 k0_t3.val 4 (s 4) 1).m1 (tr X d0 k0_t3.val 5 (s 5) 1).i2 (tr X d0 k0_t3.val 5 (s 5) 1).m2 (tr X d0 k0_t3.val 5 (s 5) 1).i1 (tr X d0 k0_t3.val 5 (s 5) 1).m1 (tr X d0 k0_t3.val 6 (s 6) 1).i2 (tr X d0 k0_t3.val 6 (s 6) 1).m2 (tr X d0 k0_t3.val 6 (s 6) 1).i1 (tr X d0 k0_t3.val 6 (s 6) 1).m1 (tr X d0 k0_t3.val 7 (s 7) 1).i2 (tr X d0 k0_t3.val 7 (s 7) 1).m2 (tr X d0 k0_t3.val 7 (s 7) 1).i1 (tr X d0 k0_t3.val 7 (s 7) 1).m1 (dv d0 1) (tr X d0 k0_t3.val 0 (s 0) 2).i2 (tr X d0 k0_t3.val 0 (s 0) 2).m2 (tr X d0 k0_t3.val 0 (s 0) 2).i1 (tr X d0 k0_t3.val 0 (s 0) 2).m1 (lv X k0_t3.val 1 4) (cmpf .ogt (lv X k0_t3.val 1 4) (tr X d0 k0_t3.val 4 (s 4) 1).m1)) Φ := by
  rw [k0_part19_eq_skeleton]; unfold k0_part19_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 1 5 k0_t3.isLt (by decide) (by decide) _ _ (k0_off82_eq k0_t3), hX]
  iapply (wp_load 𝒱₀ _ none Set.univ (m := arg5) (S := Finset.univ) (Finset.subset_univ _)) $$ H; iintro H
  rw [readAt_row arg5 f k0_t3.val 1 6 k0_t3.isLt (by decide) (by decide) _ _ (k0_off83_eq k0_t3), hX]
  iapply (wp_load 𝒱₀ _ none Set.univ (m := arg5) (S := Finset.univ) (Finset.subset_univ _)) $$ H; iintro H
  rw [readAt_row arg5 f k0_t3.val 1 7 k0_t3.isLt (by decide) (by decide) _ _ (k0_off84_eq k0_t3), hX]
  iapply (wp_load 𝒱₀ _ none Set.univ (m := arg5) (S := Finset.univ) (Finset.subset_univ _)) $$ H; iintro H
  rw [readAt_row arg5 f k0_t3.val 2 0 k0_t3.isLt (by decide) (by decide) _ _ (k0_off85_eq k0_t3), hX]
  rw [wp_ret]
  imodintro
  ihave HQ := HΦ $$ H
  istop
  exact BI.Entails.refl _

/-- Part 20, from and to the states of the eight groups. -/
theorem part20_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 0 (s 0) 3).m1, (tr X d0 k0_t3.val 1 (s 1) 3).i2, (tr X d0 k0_t3.val 1 (s 1) 3).m2, (tr X d0 k0_t3.val 1 (s 1) 3).i1, (tr X d0 k0_t3.val 1 (s 1) 3).m1, (tr X d0 k0_t3.val 2 (s 2) 3).i2, (tr X d0 k0_t3.val 2 (s 2) 3).m2, (tr X d0 k0_t3.val 2 (s 2) 3).i1, (tr X d0 k0_t3.val 2 (s 2) 3).m1, (tr X d0 k0_t3.val 3 (s 3) 3).i2, (tr X d0 k0_t3.val 3 (s 3) 3).m2, (tr X d0 k0_t3.val 3 (s 3) 3).i1, (tr X d0 k0_t3.val 3 (s 3) 3).m1, (tr X d0 k0_t3.val 4 (s 4) 3).i2, (tr X d0 k0_t3.val 4 (s 4) 3).m2, (tr X d0 k0_t3.val 4 (s 4) 3).i1, (tr X d0 k0_t3.val 4 (s 4) 3).m1⟩))
      ⊢ wp frame (wpE (defs₀ (F := F)) 𝒱₀ (V d (cV L) (jV L)) none) Set.univ
          (k0_part20 L arg2 harg2 arg3 harg3 arg4 harg4 arg5 harg5 arg6 harg6 arg7 arg8 v42_r0 k0_t3 arg11 (tr X d0 k0_t3.val 0 (s 0) 2).m1 (tr X d0 k0_t3.val 1 (s 1) 2).i2 (tr X d0 k0_t3.val 1 (s 1) 2).m2 (tr X d0 k0_t3.val 1 (s 1) 2).i1 (tr X d0 k0_t3.val 1 (s 1) 2).m1 (tr X d0 k0_t3.val 2 (s 2) 2).i2 (tr X d0 k0_t3.val 2 (s 2) 2).m2 (tr X d0 k0_t3.val 2 (s 2) 2).i1 (tr X d0 k0_t3.val 2 (s 2) 2).m1 (tr X d0 k0_t3.val 3 (s 3) 2).i2 (tr X d0 k0_t3.val 3 (s 3) 2).m2 (tr X d0 k0_t3.val 3 (s 3) 2).i1 (tr X d0 k0_t3.val 3 (s 3) 2).m1 (tr X d0 k0_t3.val 4 (s 4) 2).i2 (tr X d0 k0_t3.val 4 (s 4) 2).m2 (tr X d0 k0_t3.val 4 (s 4) 2).i1 (tr X d0 k0_t3.val 4 (s 4) 2).m1 (dv d0 2) (lv X k0_t3.val 2 0)) Φ := by
  rw [k0_part20_eq_skeleton]; unfold k0_part20_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 2 1 k0_t3.isLt (by decide) (by decide) _ _ (k0_off86_eq k0_t3), hX]
  iapply (wp_load 𝒱₀ _ none Set.univ (m := arg5) (S := Finset.univ) (Finset.subset_univ _)) $$ H; iintro H
  rw [readAt_row arg5 f k0_t3.val 2 2 k0_t3.isLt (by decide) (by decide) _ _ (k0_off87_eq k0_t3), hX]
  iapply (wp_load 𝒱₀ _ none Set.univ (m := arg5) (S := Finset.univ) (Finset.subset_univ _)) $$ H; iintro H
  rw [readAt_row arg5 f k0_t3.val 2 3 k0_t3.isLt (by decide) (by decide) _ _ (k0_off88_eq k0_t3), hX]
  iapply (wp_load 𝒱₀ _ none Set.univ (m := arg5) (S := Finset.univ) (Finset.subset_univ _)) $$ H; iintro H
  rw [readAt_row arg5 f k0_t3.val 2 4 k0_t3.isLt (by decide) (by decide) _ _ (k0_off89_eq k0_t3), hX]
  rw [wp_ret]
  imodintro
  ihave HQ := HΦ $$ H
  istop
  exact BI.Entails.refl _

/-- Part 21, from and to the states of the eight groups. -/
theorem part21_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 5 (s 5) 3).i2, (tr X d0 k0_t3.val 5 (s 5) 3).m2, (tr X d0 k0_t3.val 5 (s 5) 3).i1, (tr X d0 k0_t3.val 5 (s 5) 3).m1, (tr X d0 k0_t3.val 6 (s 6) 3).i2, (tr X d0 k0_t3.val 6 (s 6) 3).m2, (tr X d0 k0_t3.val 6 (s 6) 3).i1, (tr X d0 k0_t3.val 6 (s 6) 3).m1, (tr X d0 k0_t3.val 7 (s 7) 3).i2, (tr X d0 k0_t3.val 7 (s 7) 3).m2, (tr X d0 k0_t3.val 7 (s 7) 3).i1, (tr X d0 k0_t3.val 7 (s 7) 3).m1, (dv d0 3), (tr X d0 k0_t3.val 0 (s 0) 4).i2, (tr X d0 k0_t3.val 0 (s 0) 4).m2, (tr X d0 k0_t3.val 0 (s 0) 4).i1, (tr X d0 k0_t3.val 0 (s 0) 4).m1, (lv X k0_t3.val 3 1)⟩))
      ⊢ wp frame (wpE (defs₀ (F := F)) 𝒱₀ (V d (cV L) (jV L)) none) Set.univ
          (k0_part21 L arg2 harg2 arg3 harg3 arg4 harg4 arg5 harg5 arg6 harg6 arg7 arg8 v42_r0 (broadcast S16 1#32) k0_t3 arg11 (tr X d0 k0_t3.val 5 (s 5) 2).i2 (tr X d0 k0_t3.val 5 (s 5) 2).m2 (tr X d0 k0_t3.val 5 (s 5) 2).i1 (tr X d0 k0_t3.val 5 (s 5) 2).m1 (tr X d0 k0_t3.val 6 (s 6) 2).i2 (tr X d0 k0_t3.val 6 (s 6) 2).m2 (tr X d0 k0_t3.val 6 (s 6) 2).i1 (tr X d0 k0_t3.val 6 (s 6) 2).m1 (tr X d0 k0_t3.val 7 (s 7) 2).i2 (tr X d0 k0_t3.val 7 (s 7) 2).m2 (tr X d0 k0_t3.val 7 (s 7) 2).i1 (tr X d0 k0_t3.val 7 (s 7) 2).m1 (dv d0 2) (tr X d0 k0_t3.val 0 (s 0) 3).i2 (tr X d0 k0_t3.val 0 (s 0) 3).m2 (tr X d0 k0_t3.val 0 (s 0) 3).i1 (tr X d0 k0_t3.val 0 (s 0) 3).m1) Φ := by
  rw [k0_part21_eq_skeleton]; unfold k0_part21_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 2 5 k0_t3.isLt (by decide) (by decide) _ _ (k0_off90_eq k0_t3), hX]
  iapply (wp_load 𝒱₀ _ none Set.univ (m := arg5) (S := Finset.univ) (Finset.subset_univ _)) $$ H; iintro H
  rw [readAt_row arg5 f k0_t3.val 2 6 k0_t3.isLt (by decide) (by decide) _ _ (k0_off91_eq k0_t3), hX]
  iapply (wp_load 𝒱₀ _ none Set.univ (m := arg5) (S := Finset.univ) (Finset.subset_univ _)) $$ H; iintro H
  rw [readAt_row arg5 f k0_t3.val 2 7 k0_t3.isLt (by decide) (by decide) _ _ (k0_off92_eq k0_t3), hX]
  iapply (wp_load 𝒱₀ _ none Set.univ (m := arg5) (S := Finset.univ) (Finset.subset_univ _)) $$ H; iintro H
  rw [readAt_row arg5 f k0_t3.val 3 0 k0_t3.isLt (by decide) (by decide) _ _ (k0_off93_eq k0_t3), hX]
  iapply (wp_load 𝒱₀ _ none Set.univ (m := arg5) (S := Finset.univ) (Finset.subset_univ _)) $$ H; iintro H
  rw [readAt_row arg5 f k0_t3.val 3 1 k0_t3.isLt (by decide) (by decide) _ _ (k0_off94_eq k0_t3), hX]
  rw [wp_ret]
  imodintro
  ihave HQ := HΦ $$ H
  istop
  exact BI.Entails.refl _

/-- Part 22, from and to the states of the eight groups. -/
theorem part22_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 1 (s 1) 4).i2, (tr X d0 k0_t3.val 1 (s 1) 4).m2, (tr X d0 k0_t3.val 1 (s 1) 4).i1, (tr X d0 k0_t3.val 1 (s 1) 4).m1, (tr X d0 k0_t3.val 2 (s 2) 4).i2, (tr X d0 k0_t3.val 2 (s 2) 4).m2, (tr X d0 k0_t3.val 2 (s 2) 4).i1, (tr X d0 k0_t3.val 2 (s 2) 4).m1, (tr X d0 k0_t3.val 3 (s 3) 4).i2, (tr X d0 k0_t3.val 3 (s 3) 4).m2, (tr X d0 k0_t3.val 3 (s 3) 4).i1, (tr X d0 k0_t3.val 3 (s 3) 4).m1, (tr X d0 k0_t3.val 4 (s 4) 4).i2, (tr X d0 k0_t3.val 4 (s 4) 4).m2, (tr X d0 k0_t3.val 4 (s 4) 4).i1, (tr X d0 k0_t3.val 4 (s 4) 4).m1, (lv X k0_t3.val 3 5), (cmpf .ogt (lv X k0_t3.val 3 5) (tr X d0 k0_t3.val 5 (s 5) 3).m1), (tr X d0 k0_t3.val 5 (s 5) 4).i2⟩))
      ⊢ wp frame (wpE (defs₀ (F := F)) 𝒱₀ (V d (cV L) (jV L)) none) Set.univ
          (k0_part22 L arg2 harg2 arg3 harg3 arg4 harg4 arg5 harg5 arg6 harg6 arg7 arg8 v42_r0 k0_t3 arg11 (tr X d0 k0_t3.val 1 (s 1) 3).i2 (tr X d0 k0_t3.val 1 (s 1) 3).m2 (tr X d0 k0_t3.val 1 (s 1) 3).i1 (tr X d0 k0_t3.val 1 (s 1) 3).m1 (tr X d0 k0_t3.val 2 (s 2) 3).i2 (tr X d0 k0_t3.val 2 (s 2) 3).m2 (tr X d0 k0_t3.val 2 (s 2) 3).i1 (tr X d0 k0_t3.val 2 (s 2) 3).m1 (tr X d0 k0_t3.val 3 (s 3) 3).i2 (tr X d0 k0_t3.val 3 (s 3) 3).m2 (tr X d0 k0_t3.val 3 (s 3) 3).i1 (tr X d0 k0_t3.val 3 (s 3) 3).m1 (tr X d0 k0_t3.val 4 (s 4) 3).i2 (tr X d0 k0_t3.val 4 (s 4) 3).m2 (tr X d0 k0_t3.val 4 (s 4) 3).i1 (tr X d0 k0_t3.val 4 (s 4) 3).m1 (tr X d0 k0_t3.val 5 (s 5) 3).i2 (tr X d0 k0_t3.val 5 (s 5) 3).m2 (tr X d0 k0_t3.val 5 (s 5) 3).i1 (tr X d0 k0_t3.val 5 (s 5) 3).m1 (dv d0 3) (lv X k0_t3.val 3 1)) Φ := by
  rw [k0_part22_eq_skeleton]; unfold k0_part22_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 3 2 k0_t3.isLt (by decide) (by decide) _ _ (k0_off95_eq k0_t3), hX]
  iapply (wp_load 𝒱₀ _ none Set.univ (m := arg5) (S := Finset.univ) (Finset.subset_univ _)) $$ H; iintro H
  rw [readAt_row arg5 f k0_t3.val 3 3 k0_t3.isLt (by decide) (by decide) _ _ (k0_off96_eq k0_t3), hX]
  iapply (wp_load 𝒱₀ _ none Set.univ (m := arg5) (S := Finset.univ) (Finset.subset_univ _)) $$ H; iintro H
  rw [readAt_row arg5 f k0_t3.val 3 4 k0_t3.isLt (by decide) (by decide) _ _ (k0_off97_eq k0_t3), hX]
  iapply (wp_load 𝒱₀ _ none Set.univ (m := arg5) (S := Finset.univ) (Finset.subset_univ _)) $$ H; iintro H
  rw [readAt_row arg5 f k0_t3.val 3 5 k0_t3.isLt (by decide) (by decide) _ _ (k0_off98_eq k0_t3), hX]
  rw [wp_ret]
  imodintro
  ihave HQ := HΦ $$ H
  istop
  exact BI.Entails.refl _

/-- Part 23, from and to the states of the eight groups. -/
theorem part23_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 5 (s 5) 4).m2, (tr X d0 k0_t3.val 5 (s 5) 4).i1, (tr X d0 k0_t3.val 5 (s 5) 4).m1, (tr X d0 k0_t3.val 6 (s 6) 4).i2, (tr X d0 k0_t3.val 6 (s 6) 4).m2, (tr X d0 k0_t3.val 6 (s 6) 4).i1, (tr X d0 k0_t3.val 6 (s 6) 4).m1, (tr X d0 k0_t3.val 7 (s 7) 4).i2, (tr X d0 k0_t3.val 7 (s 7) 4).m2, (tr X d0 k0_t3.val 7 (s 7) 4).i1, (tr X d0 k0_t3.val 7 (s 7) 4).m1, (dv d0 4), (tr X d0 k0_t3.val 0 (s 0) 5).i2, (tr X d0 k0_t3.val 0 (s 0) 5).m2, (tr X d0 k0_t3.val 0 (s 0) 5).i1, (tr X d0 k0_t3.val 0 (s 0) 5).m1, (lv X k0_t3.val 4 1), (tr X d0 k0_t3.val 1 (s 1) 5).i2, (tr X d0 k0_t3.val 1 (s 1) 5).m2, (tr X d0 k0_t3.val 1 (s 1) 5).i1⟩))
      ⊢ wp frame (wpE (defs₀ (F := F)) 𝒱₀ (V d (cV L) (jV L)) none) Set.univ
          (k0_part23 L arg2 harg2 arg3 harg3 arg4 harg4 arg5 harg5 arg6 harg6 arg7 arg8 v42_r0 (broadcast S16 1#32) k0_t3 arg11 (tr X d0 k0_t3.val 5 (s 5) 3).m2 (tr X d0 k0_t3.val 5 (s 5) 3).i1 (tr X d0 k0_t3.val 5 (s 5) 3).m1 (tr X d0 k0_t3.val 6 (s 6) 3).i2 (tr X d0 k0_t3.val 6 (s 6) 3).m2 (tr X d0 k0_t3.val 6 (s 6) 3).i1 (tr X d0 k0_t3.val 6 (s 6) 3).m1 (tr X d0 k0_t3.val 7 (s 7) 3).i2 (tr X d0 k0_t3.val 7 (s 7) 3).m2 (tr X d0 k0_t3.val 7 (s 7) 3).i1 (tr X d0 k0_t3.val 7 (s 7) 3).m1 (dv d0 3) (tr X d0 k0_t3.val 0 (s 0) 4).i2 (tr X d0 k0_t3.val 0 (s 0) 4).m2 (tr X d0 k0_t3.val 0 (s 0) 4).i1 (tr X d0 k0_t3.val 0 (s 0) 4).m1 (tr X d0 k0_t3.val 1 (s 1) 4).i2 (tr X d0 k0_t3.val 1 (s 1) 4).m2 (tr X d0 k0_t3.val 1 (s 1) 4).i1 (tr X d0 k0_t3.val 1 (s 1) 4).m1 (lv X k0_t3.val 3 5) (cmpf .ogt (lv X k0_t3.val 3 5) (tr X d0 k0_t3.val 5 (s 5) 3).m1)) Φ := by
  rw [k0_part23_eq_skeleton]; unfold k0_part23_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 3 6 k0_t3.isLt (by decide) (by decide) _ _ (k0_off99_eq k0_t3), hX]
  iapply (wp_load 𝒱₀ _ none Set.univ (m := arg5) (S := Finset.univ) (Finset.subset_univ _)) $$ H; iintro H
  rw [readAt_row arg5 f k0_t3.val 3 7 k0_t3.isLt (by decide) (by decide) _ _ (k0_off100_eq k0_t3), hX]
  iapply (wp_load 𝒱₀ _ none Set.univ (m := arg5) (S := Finset.univ) (Finset.subset_univ _)) $$ H; iintro H
  rw [readAt_row arg5 f k0_t3.val 4 0 k0_t3.isLt (by decide) (by decide) _ _ (k0_off101_eq k0_t3), hX]
  iapply (wp_load 𝒱₀ _ none Set.univ (m := arg5) (S := Finset.univ) (Finset.subset_univ _)) $$ H; iintro H
  rw [readAt_row arg5 f k0_t3.val 4 1 k0_t3.isLt (by decide) (by decide) _ _ (k0_off102_eq k0_t3), hX]
  rw [wp_ret]
  imodintro
  ihave HQ := HΦ $$ H
  istop
  exact BI.Entails.refl _

/-- Part 24, from and to the states of the eight groups. -/
theorem part24_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 1 (s 1) 5).m1, (tr X d0 k0_t3.val 2 (s 2) 5).i2, (tr X d0 k0_t3.val 2 (s 2) 5).m2, (tr X d0 k0_t3.val 2 (s 2) 5).i1, (tr X d0 k0_t3.val 2 (s 2) 5).m1, (tr X d0 k0_t3.val 3 (s 3) 5).i2, (tr X d0 k0_t3.val 3 (s 3) 5).m2, (tr X d0 k0_t3.val 3 (s 3) 5).i1, (tr X d0 k0_t3.val 3 (s 3) 5).m1, (tr X d0 k0_t3.val 4 (s 4) 5).i2, (tr X d0 k0_t3.val 4 (s 4) 5).m2, (tr X d0 k0_t3.val 4 (s 4) 5).i1, (tr X d0 k0_t3.val 4 (s 4) 5).m1, (tr X d0 k0_t3.val 5 (s 5) 5).i2, (tr X d0 k0_t3.val 5 (s 5) 5).m2, (tr X d0 k0_t3.val 5 (s 5) 5).i1, (tr X d0 k0_t3.val 5 (s 5) 5).m1⟩))
      ⊢ wp frame (wpE (defs₀ (F := F)) 𝒱₀ (V d (cV L) (jV L)) none) Set.univ
          (k0_part24 L arg2 harg2 arg3 harg3 arg4 harg4 arg5 harg5 arg6 harg6 arg7 arg8 v42_r0 k0_t3 arg11 (tr X d0 k0_t3.val 1 (s 1) 4).m1 (tr X d0 k0_t3.val 2 (s 2) 4).i2 (tr X d0 k0_t3.val 2 (s 2) 4).m2 (tr X d0 k0_t3.val 2 (s 2) 4).i1 (tr X d0 k0_t3.val 2 (s 2) 4).m1 (tr X d0 k0_t3.val 3 (s 3) 4).i2 (tr X d0 k0_t3.val 3 (s 3) 4).m2 (tr X d0 k0_t3.val 3 (s 3) 4).i1 (tr X d0 k0_t3.val 3 (s 3) 4).m1 (tr X d0 k0_t3.val 4 (s 4) 4).i2 (tr X d0 k0_t3.val 4 (s 4) 4).m2 (tr X d0 k0_t3.val 4 (s 4) 4).i1 (tr X d0 k0_t3.val 4 (s 4) 4).m1 (tr X d0 k0_t3.val 5 (s 5) 4).i2 (tr X d0 k0_t3.val 5 (s 5) 4).m2 (tr X d0 k0_t3.val 5 (s 5) 4).i1 (tr X d0 k0_t3.val 5 (s 5) 4).m1 (dv d0 4) (lv X k0_t3.val 4 1)) Φ := by
  rw [k0_part24_eq_skeleton]; unfold k0_part24_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 4 2 k0_t3.isLt (by decide) (by decide) _ _ (k0_off103_eq k0_t3), hX]
  iapply (wp_load 𝒱₀ _ none Set.univ (m := arg5) (S := Finset.univ) (Finset.subset_univ _)) $$ H; iintro H
  rw [readAt_row arg5 f k0_t3.val 4 3 k0_t3.isLt (by decide) (by decide) _ _ (k0_off104_eq k0_t3), hX]
  iapply (wp_load 𝒱₀ _ none Set.univ (m := arg5) (S := Finset.univ) (Finset.subset_univ _)) $$ H; iintro H
  rw [readAt_row arg5 f k0_t3.val 4 4 k0_t3.isLt (by decide) (by decide) _ _ (k0_off105_eq k0_t3), hX]
  iapply (wp_load 𝒱₀ _ none Set.univ (m := arg5) (S := Finset.univ) (Finset.subset_univ _)) $$ H; iintro H
  rw [readAt_row arg5 f k0_t3.val 4 5 k0_t3.isLt (by decide) (by decide) _ _ (k0_off106_eq k0_t3), hX]
  rw [wp_ret]
  imodintro
  ihave HQ := HΦ $$ H
  istop
  exact BI.Entails.refl _

/-- Part 25, from and to the states of the eight groups. -/
theorem part25_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 6 (s 6) 5).i2, (tr X d0 k0_t3.val 6 (s 6) 5).m2, (tr X d0 k0_t3.val 6 (s 6) 5).i1, (tr X d0 k0_t3.val 6 (s 6) 5).m1, (tr X d0 k0_t3.val 7 (s 7) 5).i2, (tr X d0 k0_t3.val 7 (s 7) 5).m2, (tr X d0 k0_t3.val 7 (s 7) 5).i1, (tr X d0 k0_t3.val 7 (s 7) 5).m1, (dv d0 5), (tr X d0 k0_t3.val 0 (s 0) 6).i2, (tr X d0 k0_t3.val 0 (s 0) 6).m2, (tr X d0 k0_t3.val 0 (s 0) 6).i1, (tr X d0 k0_t3.val 0 (s 0) 6).m1, (tr X d0 k0_t3.val 1 (s 1) 6).i2, (tr X d0 k0_t3.val 1 (s 1) 6).m2, (tr X d0 k0_t3.val 1 (s 1) 6).i1, (tr X d0 k0_t3.val 1 (s 1) 6).m1, (lv X k0_t3.val 5 2)⟩))
      ⊢ wp frame (wpE (defs₀ (F := F)) 𝒱₀ (V d (cV L) (jV L)) none) Set.univ
          (k0_part25 L arg2 harg2 arg3 harg3 arg4 harg4 arg5 harg5 arg6 harg6 arg7 arg8 v42_r0 (broadcast S16 1#32) k0_t3 arg11 (tr X d0 k0_t3.val 6 (s 6) 4).i2 (tr X d0 k0_t3.val 6 (s 6) 4).m2 (tr X d0 k0_t3.val 6 (s 6) 4).i1 (tr X d0 k0_t3.val 6 (s 6) 4).m1 (tr X d0 k0_t3.val 7 (s 7) 4).i2 (tr X d0 k0_t3.val 7 (s 7) 4).m2 (tr X d0 k0_t3.val 7 (s 7) 4).i1 (tr X d0 k0_t3.val 7 (s 7) 4).m1 (dv d0 4) (tr X d0 k0_t3.val 0 (s 0) 5).i2 (tr X d0 k0_t3.val 0 (s 0) 5).m2 (tr X d0 k0_t3.val 0 (s 0) 5).i1 (tr X d0 k0_t3.val 0 (s 0) 5).m1 (tr X d0 k0_t3.val 1 (s 1) 5).i2 (tr X d0 k0_t3.val 1 (s 1) 5).m2 (tr X d0 k0_t3.val 1 (s 1) 5).i1 (tr X d0 k0_t3.val 1 (s 1) 5).m1) Φ := by
  rw [k0_part25_eq_skeleton]; unfold k0_part25_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 4 6 k0_t3.isLt (by decide) (by decide) _ _ (k0_off107_eq k0_t3), hX]
  iapply (wp_load 𝒱₀ _ none Set.univ (m := arg5) (S := Finset.univ) (Finset.subset_univ _)) $$ H; iintro H
  rw [readAt_row arg5 f k0_t3.val 4 7 k0_t3.isLt (by decide) (by decide) _ _ (k0_off108_eq k0_t3), hX]
  iapply (wp_load 𝒱₀ _ none Set.univ (m := arg5) (S := Finset.univ) (Finset.subset_univ _)) $$ H; iintro H
  rw [readAt_row arg5 f k0_t3.val 5 0 k0_t3.isLt (by decide) (by decide) _ _ (k0_off109_eq k0_t3), hX]
  iapply (wp_load 𝒱₀ _ none Set.univ (m := arg5) (S := Finset.univ) (Finset.subset_univ _)) $$ H; iintro H
  rw [readAt_row arg5 f k0_t3.val 5 1 k0_t3.isLt (by decide) (by decide) _ _ (k0_off110_eq k0_t3), hX]
  iapply (wp_load 𝒱₀ _ none Set.univ (m := arg5) (S := Finset.univ) (Finset.subset_univ _)) $$ H; iintro H
  rw [readAt_row arg5 f k0_t3.val 5 2 k0_t3.isLt (by decide) (by decide) _ _ (k0_off111_eq k0_t3), hX]
  rw [wp_ret]
  imodintro
  ihave HQ := HΦ $$ H
  istop
  exact BI.Entails.refl _

/-- Part 26, from and to the states of the eight groups. -/
theorem part26_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 2 (s 2) 6).i2, (tr X d0 k0_t3.val 2 (s 2) 6).m2, (tr X d0 k0_t3.val 2 (s 2) 6).i1, (tr X d0 k0_t3.val 2 (s 2) 6).m1, (tr X d0 k0_t3.val 3 (s 3) 6).i2, (tr X d0 k0_t3.val 3 (s 3) 6).m2, (tr X d0 k0_t3.val 3 (s 3) 6).i1, (tr X d0 k0_t3.val 3 (s 3) 6).m1, (tr X d0 k0_t3.val 4 (s 4) 6).i2, (tr X d0 k0_t3.val 4 (s 4) 6).m2, (tr X d0 k0_t3.val 4 (s 4) 6).i1, (tr X d0 k0_t3.val 4 (s 4) 6).m1, (tr X d0 k0_t3.val 5 (s 5) 6).i2, (tr X d0 k0_t3.val 5 (s 5) 6).m2, (tr X d0 k0_t3.val 5 (s 5) 6).i1, (tr X d0 k0_t3.val 5 (s 5) 6).m1, (lv X k0_t3.val 5 6), (cmpf .ogt (lv X k0_t3.val 5 6) (tr X d0 k0_t3.val 6 (s 6) 5).m1), (tr X d0 k0_t3.val 6 (s 6) 6).i2⟩))
      ⊢ wp frame (wpE (defs₀ (F := F)) 𝒱₀ (V d (cV L) (jV L)) none) Set.univ
          (k0_part26 L arg2 harg2 arg3 harg3 arg4 harg4 arg5 harg5 arg6 harg6 arg7 arg8 v42_r0 k0_t3 arg11 (tr X d0 k0_t3.val 2 (s 2) 5).i2 (tr X d0 k0_t3.val 2 (s 2) 5).m2 (tr X d0 k0_t3.val 2 (s 2) 5).i1 (tr X d0 k0_t3.val 2 (s 2) 5).m1 (tr X d0 k0_t3.val 3 (s 3) 5).i2 (tr X d0 k0_t3.val 3 (s 3) 5).m2 (tr X d0 k0_t3.val 3 (s 3) 5).i1 (tr X d0 k0_t3.val 3 (s 3) 5).m1 (tr X d0 k0_t3.val 4 (s 4) 5).i2 (tr X d0 k0_t3.val 4 (s 4) 5).m2 (tr X d0 k0_t3.val 4 (s 4) 5).i1 (tr X d0 k0_t3.val 4 (s 4) 5).m1 (tr X d0 k0_t3.val 5 (s 5) 5).i2 (tr X d0 k0_t3.val 5 (s 5) 5).m2 (tr X d0 k0_t3.val 5 (s 5) 5).i1 (tr X d0 k0_t3.val 5 (s 5) 5).m1 (tr X d0 k0_t3.val 6 (s 6) 5).i2 (tr X d0 k0_t3.val 6 (s 6) 5).m2 (tr X d0 k0_t3.val 6 (s 6) 5).i1 (tr X d0 k0_t3.val 6 (s 6) 5).m1 (dv d0 5) (lv X k0_t3.val 5 2)) Φ := by
  rw [k0_part26_eq_skeleton]; unfold k0_part26_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 5 3 k0_t3.isLt (by decide) (by decide) _ _ (k0_off112_eq k0_t3), hX]
  iapply (wp_load 𝒱₀ _ none Set.univ (m := arg5) (S := Finset.univ) (Finset.subset_univ _)) $$ H; iintro H
  rw [readAt_row arg5 f k0_t3.val 5 4 k0_t3.isLt (by decide) (by decide) _ _ (k0_off113_eq k0_t3), hX]
  iapply (wp_load 𝒱₀ _ none Set.univ (m := arg5) (S := Finset.univ) (Finset.subset_univ _)) $$ H; iintro H
  rw [readAt_row arg5 f k0_t3.val 5 5 k0_t3.isLt (by decide) (by decide) _ _ (k0_off114_eq k0_t3), hX]
  iapply (wp_load 𝒱₀ _ none Set.univ (m := arg5) (S := Finset.univ) (Finset.subset_univ _)) $$ H; iintro H
  rw [readAt_row arg5 f k0_t3.val 5 6 k0_t3.isLt (by decide) (by decide) _ _ (k0_off115_eq k0_t3), hX]
  rw [wp_ret]
  imodintro
  ihave HQ := HΦ $$ H
  istop
  exact BI.Entails.refl _

/-- Part 27, from and to the states of the eight groups. -/
theorem part27_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 6 (s 6) 6).m2, (tr X d0 k0_t3.val 6 (s 6) 6).i1, (tr X d0 k0_t3.val 6 (s 6) 6).m1, (tr X d0 k0_t3.val 7 (s 7) 6).i2, (tr X d0 k0_t3.val 7 (s 7) 6).m2, (tr X d0 k0_t3.val 7 (s 7) 6).i1, (tr X d0 k0_t3.val 7 (s 7) 6).m1, (dv d0 6), (tr X d0 k0_t3.val 0 (s 0) 7).i2, (tr X d0 k0_t3.val 0 (s 0) 7).m2, (tr X d0 k0_t3.val 0 (s 0) 7).i1, (tr X d0 k0_t3.val 0 (s 0) 7).m1, (tr X d0 k0_t3.val 1 (s 1) 7).i2, (tr X d0 k0_t3.val 1 (s 1) 7).m2, (tr X d0 k0_t3.val 1 (s 1) 7).i1, (tr X d0 k0_t3.val 1 (s 1) 7).m1, (lv X k0_t3.val 6 2), (tr X d0 k0_t3.val 2 (s 2) 7).i2, (tr X d0 k0_t3.val 2 (s 2) 7).m2, (tr X d0 k0_t3.val 2 (s 2) 7).i1⟩))
      ⊢ wp frame (wpE (defs₀ (F := F)) 𝒱₀ (V d (cV L) (jV L)) none) Set.univ
          (k0_part27 L arg2 harg2 arg3 harg3 arg4 harg4 arg5 harg5 arg6 harg6 arg7 arg8 v42_r0 (broadcast S16 1#32) k0_t3 arg11 (tr X d0 k0_t3.val 6 (s 6) 5).m2 (tr X d0 k0_t3.val 6 (s 6) 5).i1 (tr X d0 k0_t3.val 6 (s 6) 5).m1 (tr X d0 k0_t3.val 7 (s 7) 5).i2 (tr X d0 k0_t3.val 7 (s 7) 5).m2 (tr X d0 k0_t3.val 7 (s 7) 5).i1 (tr X d0 k0_t3.val 7 (s 7) 5).m1 (dv d0 5) (tr X d0 k0_t3.val 0 (s 0) 6).i2 (tr X d0 k0_t3.val 0 (s 0) 6).m2 (tr X d0 k0_t3.val 0 (s 0) 6).i1 (tr X d0 k0_t3.val 0 (s 0) 6).m1 (tr X d0 k0_t3.val 1 (s 1) 6).i2 (tr X d0 k0_t3.val 1 (s 1) 6).m2 (tr X d0 k0_t3.val 1 (s 1) 6).i1 (tr X d0 k0_t3.val 1 (s 1) 6).m1 (tr X d0 k0_t3.val 2 (s 2) 6).i2 (tr X d0 k0_t3.val 2 (s 2) 6).m2 (tr X d0 k0_t3.val 2 (s 2) 6).i1 (tr X d0 k0_t3.val 2 (s 2) 6).m1 (lv X k0_t3.val 5 6) (cmpf .ogt (lv X k0_t3.val 5 6) (tr X d0 k0_t3.val 6 (s 6) 5).m1)) Φ := by
  rw [k0_part27_eq_skeleton]; unfold k0_part27_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 5 7 k0_t3.isLt (by decide) (by decide) _ _ (k0_off116_eq k0_t3), hX]
  iapply (wp_load 𝒱₀ _ none Set.univ (m := arg5) (S := Finset.univ) (Finset.subset_univ _)) $$ H; iintro H
  rw [readAt_row arg5 f k0_t3.val 6 0 k0_t3.isLt (by decide) (by decide) _ _ (k0_off117_eq k0_t3), hX]
  iapply (wp_load 𝒱₀ _ none Set.univ (m := arg5) (S := Finset.univ) (Finset.subset_univ _)) $$ H; iintro H
  rw [readAt_row arg5 f k0_t3.val 6 1 k0_t3.isLt (by decide) (by decide) _ _ (k0_off118_eq k0_t3), hX]
  iapply (wp_load 𝒱₀ _ none Set.univ (m := arg5) (S := Finset.univ) (Finset.subset_univ _)) $$ H; iintro H
  rw [readAt_row arg5 f k0_t3.val 6 2 k0_t3.isLt (by decide) (by decide) _ _ (k0_off119_eq k0_t3), hX]
  rw [wp_ret]
  imodintro
  ihave HQ := HΦ $$ H
  istop
  exact BI.Entails.refl _

/-- Part 28, from and to the states of the eight groups. -/
theorem part28_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 2 (s 2) 7).m1, (tr X d0 k0_t3.val 3 (s 3) 7).i2, (tr X d0 k0_t3.val 3 (s 3) 7).m2, (tr X d0 k0_t3.val 3 (s 3) 7).i1, (tr X d0 k0_t3.val 3 (s 3) 7).m1, (tr X d0 k0_t3.val 4 (s 4) 7).i2, (tr X d0 k0_t3.val 4 (s 4) 7).m2, (tr X d0 k0_t3.val 4 (s 4) 7).i1, (tr X d0 k0_t3.val 4 (s 4) 7).m1, (tr X d0 k0_t3.val 5 (s 5) 7).i2, (tr X d0 k0_t3.val 5 (s 5) 7).m2, (tr X d0 k0_t3.val 5 (s 5) 7).i1, (tr X d0 k0_t3.val 5 (s 5) 7).m1, (tr X d0 k0_t3.val 6 (s 6) 7).i2, (tr X d0 k0_t3.val 6 (s 6) 7).m2, (tr X d0 k0_t3.val 6 (s 6) 7).i1, (tr X d0 k0_t3.val 6 (s 6) 7).m1⟩))
      ⊢ wp frame (wpE (defs₀ (F := F)) 𝒱₀ (V d (cV L) (jV L)) none) Set.univ
          (k0_part28 L arg2 harg2 arg3 harg3 arg4 harg4 arg5 harg5 arg6 harg6 arg7 arg8 v42_r0 k0_t3 arg11 (tr X d0 k0_t3.val 2 (s 2) 6).m1 (tr X d0 k0_t3.val 3 (s 3) 6).i2 (tr X d0 k0_t3.val 3 (s 3) 6).m2 (tr X d0 k0_t3.val 3 (s 3) 6).i1 (tr X d0 k0_t3.val 3 (s 3) 6).m1 (tr X d0 k0_t3.val 4 (s 4) 6).i2 (tr X d0 k0_t3.val 4 (s 4) 6).m2 (tr X d0 k0_t3.val 4 (s 4) 6).i1 (tr X d0 k0_t3.val 4 (s 4) 6).m1 (tr X d0 k0_t3.val 5 (s 5) 6).i2 (tr X d0 k0_t3.val 5 (s 5) 6).m2 (tr X d0 k0_t3.val 5 (s 5) 6).i1 (tr X d0 k0_t3.val 5 (s 5) 6).m1 (tr X d0 k0_t3.val 6 (s 6) 6).i2 (tr X d0 k0_t3.val 6 (s 6) 6).m2 (tr X d0 k0_t3.val 6 (s 6) 6).i1 (tr X d0 k0_t3.val 6 (s 6) 6).m1 (dv d0 6) (lv X k0_t3.val 6 2)) Φ := by
  rw [k0_part28_eq_skeleton]; unfold k0_part28_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 6 3 k0_t3.isLt (by decide) (by decide) _ _ (k0_off120_eq k0_t3), hX]
  iapply (wp_load 𝒱₀ _ none Set.univ (m := arg5) (S := Finset.univ) (Finset.subset_univ _)) $$ H; iintro H
  rw [readAt_row arg5 f k0_t3.val 6 4 k0_t3.isLt (by decide) (by decide) _ _ (k0_off121_eq k0_t3), hX]
  iapply (wp_load 𝒱₀ _ none Set.univ (m := arg5) (S := Finset.univ) (Finset.subset_univ _)) $$ H; iintro H
  rw [readAt_row arg5 f k0_t3.val 6 5 k0_t3.isLt (by decide) (by decide) _ _ (k0_off122_eq k0_t3), hX]
  iapply (wp_load 𝒱₀ _ none Set.univ (m := arg5) (S := Finset.univ) (Finset.subset_univ _)) $$ H; iintro H
  rw [readAt_row arg5 f k0_t3.val 6 6 k0_t3.isLt (by decide) (by decide) _ _ (k0_off123_eq k0_t3), hX]
  rw [wp_ret]
  imodintro
  ihave HQ := HΦ $$ H
  istop
  exact BI.Entails.refl _

/-- Part 29, from and to the states of the eight groups. -/
theorem part29_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 7 (s 7) 7).i2, (tr X d0 k0_t3.val 7 (s 7) 7).m2, (tr X d0 k0_t3.val 7 (s 7) 7).i1, (tr X d0 k0_t3.val 7 (s 7) 7).m1, (dv d0 7), (tr X d0 k0_t3.val 0 (s 0) 8).i2, (tr X d0 k0_t3.val 0 (s 0) 8).m2, (tr X d0 k0_t3.val 0 (s 0) 8).i1, (tr X d0 k0_t3.val 0 (s 0) 8).m1, (tr X d0 k0_t3.val 1 (s 1) 8).i2, (tr X d0 k0_t3.val 1 (s 1) 8).m2, (tr X d0 k0_t3.val 1 (s 1) 8).i1, (tr X d0 k0_t3.val 1 (s 1) 8).m1, (tr X d0 k0_t3.val 2 (s 2) 8).i2, (tr X d0 k0_t3.val 2 (s 2) 8).m2, (tr X d0 k0_t3.val 2 (s 2) 8).i1, (tr X d0 k0_t3.val 2 (s 2) 8).m1, (lv X k0_t3.val 7 3)⟩))
      ⊢ wp frame (wpE (defs₀ (F := F)) 𝒱₀ (V d (cV L) (jV L)) none) Set.univ
          (k0_part29 L arg2 harg2 arg3 harg3 arg4 harg4 arg5 harg5 arg6 harg6 arg7 arg8 v42_r0 (broadcast S16 1#32) k0_t3 arg11 (tr X d0 k0_t3.val 7 (s 7) 6).i2 (tr X d0 k0_t3.val 7 (s 7) 6).m2 (tr X d0 k0_t3.val 7 (s 7) 6).i1 (tr X d0 k0_t3.val 7 (s 7) 6).m1 (dv d0 6) (tr X d0 k0_t3.val 0 (s 0) 7).i2 (tr X d0 k0_t3.val 0 (s 0) 7).m2 (tr X d0 k0_t3.val 0 (s 0) 7).i1 (tr X d0 k0_t3.val 0 (s 0) 7).m1 (tr X d0 k0_t3.val 1 (s 1) 7).i2 (tr X d0 k0_t3.val 1 (s 1) 7).m2 (tr X d0 k0_t3.val 1 (s 1) 7).i1 (tr X d0 k0_t3.val 1 (s 1) 7).m1 (tr X d0 k0_t3.val 2 (s 2) 7).i2 (tr X d0 k0_t3.val 2 (s 2) 7).m2 (tr X d0 k0_t3.val 2 (s 2) 7).i1 (tr X d0 k0_t3.val 2 (s 2) 7).m1) Φ := by
  rw [k0_part29_eq_skeleton]; unfold k0_part29_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 6 7 k0_t3.isLt (by decide) (by decide) _ _ (k0_off124_eq k0_t3), hX]
  iapply (wp_load 𝒱₀ _ none Set.univ (m := arg5) (S := Finset.univ) (Finset.subset_univ _)) $$ H; iintro H
  rw [readAt_row arg5 f k0_t3.val 7 0 k0_t3.isLt (by decide) (by decide) _ _ (k0_off125_eq k0_t3), hX]
  iapply (wp_load 𝒱₀ _ none Set.univ (m := arg5) (S := Finset.univ) (Finset.subset_univ _)) $$ H; iintro H
  rw [readAt_row arg5 f k0_t3.val 7 1 k0_t3.isLt (by decide) (by decide) _ _ (k0_off126_eq k0_t3), hX]
  iapply (wp_load 𝒱₀ _ none Set.univ (m := arg5) (S := Finset.univ) (Finset.subset_univ _)) $$ H; iintro H
  rw [readAt_row arg5 f k0_t3.val 7 2 k0_t3.isLt (by decide) (by decide) _ _ (k0_off127_eq k0_t3), hX]
  iapply (wp_load 𝒱₀ _ none Set.univ (m := arg5) (S := Finset.univ) (Finset.subset_univ _)) $$ H; iintro H
  rw [readAt_row arg5 f k0_t3.val 7 3 k0_t3.isLt (by decide) (by decide) _ _ (k0_off128_eq k0_t3), hX]
  rw [wp_ret]
  imodintro
  ihave HQ := HΦ $$ H
  istop
  exact BI.Entails.refl _

/-- Part 30, from and to the states of the eight groups. -/
theorem part30_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (k0_t3 : Fin k0_t3_loop.trips) (arg11 : BitVec 32)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ ⟨(tr X d0 k0_t3.val 3 (s 3) 8).i2, (tr X d0 k0_t3.val 3 (s 3) 8).m2, (tr X d0 k0_t3.val 3 (s 3) 8).i1, (tr X d0 k0_t3.val 3 (s 3) 8).m1, (tr X d0 k0_t3.val 4 (s 4) 8).i2, (tr X d0 k0_t3.val 4 (s 4) 8).m2, (tr X d0 k0_t3.val 4 (s 4) 8).i1, (tr X d0 k0_t3.val 4 (s 4) 8).m1, (tr X d0 k0_t3.val 5 (s 5) 8).i2, (tr X d0 k0_t3.val 5 (s 5) 8).m2, (tr X d0 k0_t3.val 5 (s 5) 8).i1, (tr X d0 k0_t3.val 5 (s 5) 8).m1, (tr X d0 k0_t3.val 6 (s 6) 8).i2, (tr X d0 k0_t3.val 6 (s 6) 8).m2, (tr X d0 k0_t3.val 6 (s 6) 8).i1, (tr X d0 k0_t3.val 6 (s 6) 8).m1, (lv X k0_t3.val 7 7), (cmpf .ogt (lv X k0_t3.val 7 7) (tr X d0 k0_t3.val 7 (s 7) 7).m1), (tr X d0 k0_t3.val 7 (s 7) 8).i2⟩))
      ⊢ wp frame (wpE (defs₀ (F := F)) 𝒱₀ (V d (cV L) (jV L)) none) Set.univ
          (k0_part30 L arg2 harg2 arg3 harg3 arg4 harg4 arg5 harg5 arg6 harg6 arg7 arg8 v42_r0 k0_t3 arg11 (tr X d0 k0_t3.val 3 (s 3) 7).i2 (tr X d0 k0_t3.val 3 (s 3) 7).m2 (tr X d0 k0_t3.val 3 (s 3) 7).i1 (tr X d0 k0_t3.val 3 (s 3) 7).m1 (tr X d0 k0_t3.val 4 (s 4) 7).i2 (tr X d0 k0_t3.val 4 (s 4) 7).m2 (tr X d0 k0_t3.val 4 (s 4) 7).i1 (tr X d0 k0_t3.val 4 (s 4) 7).m1 (tr X d0 k0_t3.val 5 (s 5) 7).i2 (tr X d0 k0_t3.val 5 (s 5) 7).m2 (tr X d0 k0_t3.val 5 (s 5) 7).i1 (tr X d0 k0_t3.val 5 (s 5) 7).m1 (tr X d0 k0_t3.val 6 (s 6) 7).i2 (tr X d0 k0_t3.val 6 (s 6) 7).m2 (tr X d0 k0_t3.val 6 (s 6) 7).i1 (tr X d0 k0_t3.val 6 (s 6) 7).m1 (tr X d0 k0_t3.val 7 (s 7) 7).i2 (tr X d0 k0_t3.val 7 (s 7) 7).m2 (tr X d0 k0_t3.val 7 (s 7) 7).i1 (tr X d0 k0_t3.val 7 (s 7) 7).m1 (dv d0 7) (lv X k0_t3.val 7 3)) Φ := by
  rw [k0_part30_eq_skeleton]; unfold k0_part30_skel
  simp only [Prog.lift, Prog.bind_op, Prog.bind_ret, Prog.pure_eq_ret]
  iintro ⟨H, HΦ⟩
  iapply (wp_load 𝒱₀ _ none Set.univ (m := arg5) (S := Finset.univ) (Finset.subset_univ _)) $$ H; iintro H
  rw [readAt_row arg5 f k0_t3.val 7 4 k0_t3.isLt (by decide) (by decide) _ _ (k0_off129_eq k0_t3), hX]
  iapply (wp_load 𝒱₀ _ none Set.univ (m := arg5) (S := Finset.univ) (Finset.subset_univ _)) $$ H; iintro H
  rw [readAt_row arg5 f k0_t3.val 7 5 k0_t3.isLt (by decide) (by decide) _ _ (k0_off130_eq k0_t3), hX]
  iapply (wp_load 𝒱₀ _ none Set.univ (m := arg5) (S := Finset.univ) (Finset.subset_univ _)) $$ H; iintro H
  rw [readAt_row arg5 f k0_t3.val 7 6 k0_t3.isLt (by decide) (by decide) _ _ (k0_off131_eq k0_t3), hX]
  iapply (wp_load 𝒱₀ _ none Set.univ (m := arg5) (S := Finset.univ) (Finset.subset_univ _)) $$ H; iintro H
  rw [readAt_row arg5 f k0_t3.val 7 7 k0_t3.isLt (by decide) (by decide) _ _ (k0_off132_eq k0_t3), hX]
  rw [wp_ret]
  imodintro
  ihave HQ := HΦ $$ H
  istop
  exact BI.Entails.refl _

end

end Cert.Proof.KernelIdeal
-- ==== Proof.TripB.lean ====
/-
  The loop over the planes of `arg5`: its trip from its parts, and the loop.
-/
module

public import proofs.«01_k».proof.Proof.InnerB

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-- One trip of the loop over the planes of `arg5`: eight rows into each of the eight groups. -/
theorem tripB_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (v30 : FVec F S16 .f32) (v31 : IVec S16 32) (k0_t1 : Fin k0_t1_loop.trips) (v42 : BitVec 32) (k0_t3 : Fin k0_t3_loop.trips)
    (f : Buf (Elt F) (arg5.view.loc (V d (cV L) (jV L)))) (q : PosShare TreeShare) (s : ℕ → ST F) (d0 : IVec S16 32) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ (pack (dv d0 8) fun g => tr X d0 k0_t3.val g (s g) 8)))
      ⊢ wp frame (wpE (defs₀ (F := F)) 𝒱₀ (V d (cV L) (jV L)) none) Set.univ
          (k0_t3_body L arg2 harg2 arg3 harg3 arg4 harg4 arg5 harg5 arg6 harg6 arg7 arg8 v42_r0 v30 v31 (broadcast S16 1#32) k0_t1 v42 k0_t3 (pack d0 s)) Φ := by
  unfold k0_t3_body pack
  iintro ⟨H, HΦ⟩
  rw [wp_bind]; iapply (part16_wp d L arg2 harg2 arg3 harg3 arg4 harg4 arg5 harg5 arg6 harg6 arg7 arg8 v42_r0 _ _ k0_t3 f q s d0 X hX); isplitl [H]; · iexact H
  iintro H; dsimp only
  rw [wp_bind]; iapply (part17_wp d L arg2 harg2 arg3 harg3 arg4 harg4 arg5 harg5 arg6 harg6 arg7 arg8 v42_r0 k0_t3 _ f q s d0 X hX); isplitl [H]; · iexact H
  iintro H; dsimp only
  rw [wp_bind]; iapply (part18_wp d L arg2 harg2 arg3 harg3 arg4 harg4 arg5 harg5 arg6 harg6 arg7 arg8 v42_r0 k0_t3 _ f q s d0 X hX); isplitl [H]; · iexact H
  iintro H; dsimp only
  rw [wp_bind]; iapply (part19_wp d L arg2 harg2 arg3 harg3 arg4 harg4 arg5 harg5 arg6 harg6 arg7 arg8 v42_r0 k0_t3 _ f q s d0 X hX); isplitl [H]; · iexact H
  iintro H; dsimp only
  rw [wp_bind]; iapply (part20_wp d L arg2 harg2 arg3 harg3 arg4 harg4 arg5 harg5 arg6 harg6 arg7 arg8 v42_r0 k0_t3 _ f q s d0 X hX); isplitl [H]; · iexact H
  iintro H; dsimp only
  rw [wp_bind]; iapply (part21_wp d L arg2 harg2 arg3 harg3 arg4 harg4 arg5 harg5 arg6 harg6 arg7 arg8 v42_r0 k0_t3 _ f q s d0 X hX); isplitl [H]; · iexact H
  iintro H; dsimp only
  rw [wp_bind]; iapply (part22_wp d L arg2 harg2 arg3 harg3 arg4 harg4 arg5 harg5 arg6 harg6 arg7 arg8 v42_r0 k0_t3 _ f q s d0 X hX); isplitl [H]; · iexact H
  iintro H; dsimp only
  rw [wp_bind]; iapply (part23_wp d L arg2 harg2 arg3 harg3 arg4 harg4 arg5 harg5 arg6 harg6 arg7 arg8 v42_r0 k0_t3 _ f q s d0 X hX); isplitl [H]; · iexact H
  iintro H; dsimp only
  rw [wp_bind]; iapply (part24_wp d L arg2 harg2 arg3 harg3 arg4 harg4 arg5 harg5 arg6 harg6 arg7 arg8 v42_r0 k0_t3 _ f q s d0 X hX); isplitl [H]; · iexact H
  iintro H; dsimp only
  rw [wp_bind]; iapply (part25_wp d L arg2 harg2 arg3 harg3 arg4 harg4 arg5 harg5 arg6 harg6 arg7 arg8 v42_r0 k0_t3 _ f q s d0 X hX); isplitl [H]; · iexact H
  iintro H; dsimp only
  rw [wp_bind]; iapply (part26_wp d L arg2 harg2 arg3 harg3 arg4 harg4 arg5 harg5 arg6 harg6 arg7 arg8 v42_r0 k0_t3 _ f q s d0 X hX); isplitl [H]; · iexact H
  iintro H; dsimp only
  rw [wp_bind]; iapply (part27_wp d L arg2 harg2 arg3 harg3 arg4 harg4 arg5 harg5 arg6 harg6 arg7 arg8 v42_r0 k0_t3 _ f q s d0 X hX); isplitl [H]; · iexact H
  iintro H; dsimp only
  rw [wp_bind]; iapply (part28_wp d L arg2 harg2 arg3 harg3 arg4 harg4 arg5 harg5 arg6 harg6 arg7 arg8 v42_r0 k0_t3 _ f q s d0 X hX); isplitl [H]; · iexact H
  iintro H; dsimp only
  rw [wp_bind]; iapply (part29_wp d L arg2 harg2 arg3 harg3 arg4 harg4 arg5 harg5 arg6 harg6 arg7 arg8 v42_r0 k0_t3 _ f q s d0 X hX); isplitl [H]; · iexact H
  iintro H; dsimp only
  rw [wp_bind]; iapply (part30_wp d L arg2 harg2 arg3 harg3 arg4 harg4 arg5 harg5 arg6 harg6 arg7 arg8 v42_r0 k0_t3 _ f q s d0 X hX); isplitl [H]; · iexact H
  iintro H; dsimp only
  rw [wp_pure]
  imodintro
  ihave HQ := HΦ $$ H
  istop
  exact BI.Entails.refl _

/-- The loop over the planes of `arg5`: from nothing read to the chunk's eight groups read whole. -/
theorem loopB_wp (arg2 : Memref sig .scVector .hbm S4x24x8x65536 .f32) (harg2 : arg2.IsWhole) (arg3 : Memref sig .scVector .hbm S98304 .f32) (harg3 : arg3.IsWhole) (arg4 : Memref sig .scVector .vmem S24x8x128 .f32) (harg4 : arg4.IsWhole) (arg5 : Memref sig .scVector .vmem S24x8x128 .f32) (harg5 : arg5.IsWhole) (arg6 : Memref sig .scVector .vmem S3072 .f32) (harg6 : arg6.IsWhole) (arg7 : DmaSems sig S_) (arg8 : DmaSems sig S_) (v42_r0 : DmaSems sig S_) (v30 : FVec F S16 .f32) (v31 : IVec S16 32) (k0_t1 : Fin k0_t1_loop.trips) (v42 : BitVec 32)
    (f : Buf (Elt F) (arg5.view.loc (V d (cV L) (jV L)))) (q : PosShare TreeShare) (X : S24x8x128.Idx → F .f32) (hX : arg5.view.read (Elt F) f = X)
    {Φ : _ → sProp 𝕄} :
    iprop((arg5.view.loc (V d (cV L) (jV L)) ↦{q} f) ∗ ((arg5.view.loc (V d (cV L) (jV L)) ↦{q} f) -∗ Φ (pack (dvs 24) fun g => sts X g 24)))
      ⊢ wp frame (wpE (defs₀ (F := F)) 𝒱₀ (V d (cV L) (jV L)) none) Set.univ
          (Scf.Loop.for k0_t3_loop k0_t3_ok (pack (dvs 0) fun g => sts X g 0) (k0_t3_body L arg2 harg2 arg3 harg3 arg4 harg4 arg5 harg5 arg6 harg6 arg7 arg8 v42_r0 v30 v31 (broadcast S16 1#32) k0_t1 v42)) Φ := by
  iintro ⟨H, HΦ⟩
  iapply (Scf.wp_for frame (wpE (defs₀ (F := F)) 𝒱₀ (V d (cV L) (jV L)) none) Set.univ _ _ _ _ _ _
    (fun k acc => iprop((arg5.view.loc (V d (cV L) (jV L)) ↦{q} f) ∗ ⌜acc = pack (dvs k) fun g => sts X g k⌝))
    (by
      intro k0_t3 acc
      iintro ⟨H, %e⟩
      subst e
      iapply (tripB_wp d L arg2 harg2 arg3 harg3 arg4 harg4 arg5 harg5 arg6 harg6 arg7 arg8 v42_r0 v30 v31 k0_t1 v42 k0_t3 f q _ _ X hX)
      isplitl [H]
      · iexact H
      iintro H
      isplitl [H]
      · iexact H
      ipureintro
      rfl))
  isplitl [H]
  · isplitl [H]
    · iexact H
    ipureintro; rfl
  iintro %acc ⟨H, %e⟩
  subst e
  ihave HQ := HΦ $$ H
  istop
  exact BI.Entails.refl _

end

end Cert.Proof.KernelIdeal
-- ==== Proof.Chunk.lean ====
/-
  The chunk transfers and the stores of a chunk's disparities.
-/
module

public import proofs.«01_k».proof.Proof.TripA
public import proofs.«01_k».proof.Proof.TripB
public import Idealize.ShloMosaic.Lib.ValueLayout
public import Idealize.ShloMosaic.Lib.Writes

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-! ## The chunks of the cost volume -/

abbrev xW : Memref sig Kind.scVector Space.hbm S4x24x8x65536 EltTy.f32 := Memref.whole main_v1_scv

/-- The chunk of batch `b` whose first pixel is `col`: all planes and rows of 128 neighbouring pixels. -/
def chunkX (A : S4x24x8x65536.Idx → F .f32) (b col : ℕ) : S24x8x128.Idx → F .f32 :=
  fun x => A (fun a => match a with
    | ⟨0, _⟩ => Fin.ofNat 4 b
    | ⟨1, _⟩ => x 0
    | ⟨2, _⟩ => x 1
    | ⟨3, _⟩ => Fin.ofNat 65536 (col + (x 2).val))

omit [FloatOps F] in
/-- What a chunk's memref reads off the array. -/
theorem src_read (A : S4x24x8x65536.Idx → F .f32) (b col : ℕ) (hb : b < 4) (hc : col + 128 ≤ 65536) (off : Fin 4 → ℕ)
    (h : ∀ a, off a + S1x24x8x128.size a ≤ S4x24x8x65536.size a) (ho : off = ![b, 0, 0, col]) :
    ((xW.slice (Rect.unit (s := S4x24x8x65536) off S1x24x8x128.size h) (fun _ => rfl)).squeeze S24x8x128 squeezes_S1x24x8x128_S24x8x128).view.read (Elt F) A
      = chunkX A b col := by
  subst ho
  funext x
  have e : Shape.reshapeEquiv squeezes_S1x24x8x128_S24x8x128.numel_eq x
      = (ValueIdx.ix4 (0 : Fin 1) (x 0) (x 1) (x 2) : S1x24x8x128.Idx) := by
    conv_lhs => rw [show x = ValueIdx.ix3 (x 0) (x 1) (x 2) from by funext a; fin_cases a <;> rfl]
    exact ValueIdx.reshapeEquiv_ix3_1abc _ _ _ _
  show A ((Rect.unit (s := S4x24x8x65536) ![b, 0, 0, col] S1x24x8x128.size h).emb (Shape.reshapeEquiv squeezes_S1x24x8x128_S24x8x128.numel_eq x)) = chunkX A b col x
  rw [e]
  unfold chunkX
  congr 1
  funext a
  apply Fin.ext
  have h2 : (x 2).val < 128 := (x 2).isLt
  match a with
  | ⟨0, _⟩ => show b + 1 * 0 = b % 4; rw [Nat.mod_eq_of_lt hb]; omega
  | ⟨1, _⟩ => show 0 + 1 * (x 0).val = (x 0).val; omega
  | ⟨2, _⟩ => show 0 + 1 * (x 1).val = (x 1).val; omega
  | ⟨3, _⟩ => show col + 1 * (x 2).val = (col + (x 2).val) % 65536; rw [Nat.mod_eq_of_lt (by omega)]; omega

/-! ## A chunk on its way in -/

/-- A chunk in flight to `dst`, counted on `sm`: landed, `dst` reads `X`; the read share lent comes back whole. -/
def FL (sm : DmaSem sig) (dst : Memref sig .scVector .vmem S24x8x128 .f32) (A : Buf (Elt F) (xW.view.loc (V d (cV L) (jV L))))
    (q : PosShare TreeShare) (X : S24x8x128.Idx → F .f32) : sProp 𝕄 :=
  iprop(∃ S : Finset (Idx (xW.view.loc (V d (cV L) (jV L)))),
    Transfers.Flight countersEmb (V d (cV L) (jV L)) (.dma sm) (none : HIx 1) dst.view.dmaCredit
      (iprop((∃ f : Buf (Elt F) (dst.view.loc (V d (cV L) (jV L))), ⌜dst.view.read (Elt F) f = X⌝ ∗ dst.view.loc (V d (cV L) (jV L)) ↦{fullShare} f)
        ∗ xW.view.loc (V d (cV L) (jV L)) ↦[S]{q} A))
    ∗ xW.view.loc (V d (cV L) (jV L)) ↦[Finset.univ \ S]{q} A)

/-- A buffer written over whole reads what was written. -/
theorem landed (dst : Memref sig .scVector .vmem S24x8x128 .f32) (fd : Buf (Elt F) (dst.view.loc (V d (cV L) (jV L)))) (w : S24x8x128.Idx → F .f32) :
    (dst.view.loc (V d (cV L) (jV L)) ↦{fullShare} (dst.view.write (Elt F) fd w Finset.univ) : sProp 𝕄)
      ⊢ iprop(∃ f : Buf (Elt F) (dst.view.loc (V d (cV L) (jV L))), ⌜dst.view.read (Elt F) f = w⌝ ∗ dst.view.loc (V d (cV L) (jV L)) ↦{fullShare} f) := by
  iintro H
  iexists (dst.view.write (Elt F) fd w Finset.univ)
  isplitr [H]
  · ipureintro
    exact View.read_write_univ _ _
  · iexact H

/-- Starting a chunk's transfer. -/
theorem issue_wp (sm : DmaSem sig) (dst : Memref sig .scVector .vmem S24x8x128 .f32) (A : Buf (Elt F) (xW.view.loc (V d (cV L) (jV L))))
    (q : PosShare TreeShare) (fd : Buf (Elt F) (dst.view.loc (V d (cV L) (jV L))))
    (b col : ℕ) (hb : b < 4) (hc : col + 128 ≤ 65536) (off : Fin 4 → ℕ)
    (h : ∀ a, off a + S1x24x8x128.size a ≤ S4x24x8x65536.size a) (ho : off = ![b, 0, 0, col])
    {hsrc : ((xW.slice (Rect.unit (s := S4x24x8x65536) off S1x24x8x128.size h) (fun _ => rfl)).squeeze S24x8x128 squeezes_S1x24x8x128_S24x8x128).view.WordExact}
    {hdst : dst.view.WordExact} {hsem : DmaTarget.Typed (nD := nD) (p := Proc.scVector (cV L) (jV L)) .hbm (.dma sm) (.here dst)}
    {α : Type} {k : PUnit → Prog (TpuEff nD τ sig (Elt F) Λ₀ (.scVector (cV L) (jV L))) α} {Φ : α → sProp 𝕄} :
    iprop((xW.view.loc (V d (cV L) (jV L)) ↦{q} A) ∗ (dst.view.loc (V d (cV L) (jV L)) ↦{fullShare} fd) ∗ semVal (V d (cV L) (jV L), .dma sm) 0)
      ⊢ iprop((FL d L sm dst A q (chunkX A b col) -∗ wp frame (wpE (defs₀ (F := F)) 𝒱₀ (V d (cV L) (jV L)) none) Set.univ (k ⟨⟩) Φ)
        -∗ wp frame (wpE (defs₀ (F := F)) 𝒱₀ (V d (cV L) (jV L)) none) Set.univ
            (.op (.enqueueDma ((xW.slice (Rect.unit (s := S4x24x8x65536) off S1x24x8x128.size h) (fun _ => rfl)).squeeze S24x8x128 squeezes_S1x24x8x128_S24x8x128)
              (.here dst) (.dma sm) hsrc hdst hsem) k) Φ) := by
  have hr := src_read A b col hb hc off h ho
  iintro ⟨HA, Hd, Hs⟩ Hk
  ihave HA' := (pointsTo_split_subset (Finset.subset_univ ((xW.slice (Rect.unit (s := S4x24x8x65536) off S1x24x8x128.size h) (fun _ => rfl)).squeeze S24x8x128 squeezes_S1x24x8x128_S24x8x128).view.set)).1 $$ HA
  icases HA' with ⟨HA, Hrest⟩
  iapply (Transfers.wp_dmaLocal countersEmb 𝒱₀ (V d (cV L) (jV L)) none (none : HIx 1) dst.view.dmaCredit rfl (View.dmaCredit_pos _ (by decide)) (Finset.subset_univ _)) $$ [HA Hd Hs]
  · isplitl [HA]; · iexact HA
    isplitl [Hd] <;> iassumption
  iintro Hf
  iapply Hk
  unfold FL
  iexists _
  isplitl [Hf]
  · istop
    refine Transfers.Flight_mono countersEmb (V d (cV L) (jV L)) (BI.Laws.sep_mono ?_ (BI.Entails.refl _))
    rw [← hr]
    exact landed d L dst fd _
  · iexact Hrest

/-- What the thread owes, with leave to wait: its waits so far are `W`'s or the transfers' own. -/
def Ow (O : CellTallies nD τ sig (HIx 1)) (W : Waits sig (HIx 1)) : sProp 𝕄 :=
  iprop(Transfers.MayWaits (V d (cV L) (jV L)) (none : HIx 1) O
    ∗ ∃ W', ⌜∀ p ∈ W', p ∈ W ∨ p.2 = none⌝ ∗ owes (V d (cV L) (jV L)) O W')

/-- Waiting for a chunk. -/
theorem await_wp (sm : DmaSem sig) (dst : Memref sig .scVector .vmem S24x8x128 .f32) (A : Buf (Elt F) (xW.view.loc (V d (cV L) (jV L))))
    (q : PosShare TreeShare) (X : S24x8x128.Idx → F .f32) (O : CellTallies nD τ sig (HIx 1)) (W : Waits sig (HIx 1))
    {s' : Shape} {e' : EltTy} {sp' : Space} {srcw : Memref sig Kind.scVector sp' s' e'} {hsrc : srcw.view.WordExact} {hdst : dst.view.WordExact}
    {α : Type} {k : PUnit → Prog (TpuEff nD τ sig (Elt F) Λ₀ (.scVector (cV L) (jV L))) α} {Φ : α → sProp 𝕄} :
    iprop(FL d L sm dst A q X ∗ Ow d L O W)
      ⊢ iprop((iprop((∃ f : Buf (Elt F) (dst.view.loc (V d (cV L) (jV L))), ⌜dst.view.read (Elt F) f = X⌝ ∗ dst.view.loc (V d (cV L) (jV L)) ↦{fullShare} f)
            ∗ (xW.view.loc (V d (cV L) (jV L)) ↦{q} A) ∗ semVal (V d (cV L) (jV L), .dma sm) 0
            ∗ Ow d L O W)
          -∗ wp frame (wpE (defs₀ (F := F)) 𝒱₀ (V d (cV L) (jV L)) none) Set.univ (k ⟨⟩) Φ)
        -∗ wp frame (wpE (defs₀ (F := F)) 𝒱₀ (V d (cV L) (jV L)) none) Set.univ (.op (.waitDma2 sm srcw dst hsrc hdst) k) Φ) := by
  unfold FL Ow
  iintro ⟨⟨%S, Hf, Hrest⟩, #Hmw, ⟨%W', %hW, HO⟩⟩ Hk
  iapply (Transfers.wp_waitLocalO countersEmb 𝒱₀ (V d (cV L) (jV L)) none (none : HIx 1) rfl (O := O) (W := W')) $$ [Hf Hmw HO]
  · isplitl [Hf]; · iexact Hf
    isplitl [HO]; · iexact HO
    iapply (Transfers.MayWaits.elim (SemLoc.dma sm))
    iexact Hmw
  iintro ⟨⟨Hd, HA⟩, Hs, HO⟩
  iapply Hk
  isplitl [Hd]; · iexact Hd
  isplitl [HA Hrest]
  · iapply (pointsTo_split_subset (Finset.subset_univ S)).2
    isplitl [HA] <;> iassumption
  isplitl [Hs]; · iexact Hs
  isplitr [HO]; · iexact Hmw
  iexists (insert (SemLoc.dma sm, (none : HIx 1)) W')
  isplitr [HO]
  · ipureintro
    intro p hp
    rcases Finset.mem_insert.mp hp with hp | hp
    · rw [hp]; exact Or.inr rfl
    · exact hW p hp
  · iexact HO

/-! ## The stores of a chunk's disparities -/

/-- The first `n` pixels of the task's buffer are done. -/
def Upto (m6 : Memref sig .scVector .vmem S3072 .f32) (out : ℕ → F .f32) (n : ℕ) : sProp 𝕄 :=
  iprop(∃ fo : Buf (Elt F) (m6.view.loc (V d (cV L) (jV L))), ⌜∀ y : S3072.Idx, (y 0).val < n → m6.view.read (Elt F) fo y = out (y 0).val⌝
    ∗ m6.view.loc (V d (cV L) (jV L)) ↦{fullShare} fo)

/-- Sixteen more pixels, by a load of what was there and the store over it. -/
theorem put_wp (m6 : Memref sig .scVector .vmem S3072 .f32) (out : ℕ → F .f32) (n n' : ℕ) (hn : n' = n + 16) (off : Fin 1 → ℕ)
    (h : ∀ a, off a + S16.size a ≤ S3072.size a) (ho : off = ![n]) (p : FVec F S16 .f32) (hp : ∀ l : S16.Idx, p l = out (n + (l 0).val))
    {hl : m6.view.LoadsAt (Rect.unit (s := S3072) off S16.size h).toLoadRect}
    {hx : (m6.access (Rect.unit (s := S3072) off S16.size h)).Stores Finset.univ} {hm : Finset.univ = Finset.univ ∨ ∀ a, (Rect.unit (s := S3072) off S16.size h).stride a = 1}
    {α : Type} {k : PUnit → Prog (TpuEff nD τ sig (Elt F) Λ₀ (.scVector (cV L) (jV L))) α} {Φ : α → sProp 𝕄} :
    Upto d L m6 out n
      ⊢ iprop((Upto d L m6 out n' -∗ wp frame (wpE (defs₀ (F := F)) 𝒱₀ (V d (cV L) (jV L)) none) Set.univ (k ⟨⟩) Φ)
        -∗ wp frame (wpE (defs₀ (F := F)) 𝒱₀ (V d (cV L) (jV L)) none) Set.univ
            (.op (.load m6 (Rect.unit (s := S3072) off S16.size h).toLoadRect hl) fun _ =>
              .op (.store m6 (Rect.unit (s := S3072) off S16.size h) p Finset.univ hx hm) k) Φ) := by
  subst ho hn
  unfold Upto
  iintro ⟨%fo, %hfo, H⟩ Hk
  iapply (wp_load 𝒱₀ _ none Set.univ (m := m6) (S := Finset.univ) (Finset.subset_univ _)) $$ H; iintro H
  iapply (wp_store 𝒱₀ (V d (cV L) (jV L)) none Set.univ (m := m6) (r := Rect.unit (s := S3072) ![n] S16.size h) (S := Finset.univ) (f := fo) (Finset.subset_univ _)) $$ H; iintro H
  iapply Hk
  iexists (View.write (Elt F) (m6.view.slice (Rect.unit (s := S3072) ![n] S16.size h)) fo p Finset.univ)
  isplitr [H]
  · ipureintro
    intro y hy
    by_cases hlt : (y 0).val < n
    · refine (View.read_slice_write_of_not_mem (v := m6.view) (Rect.unit (s := S3072) ![n] S16.size h) fo p Finset.univ ?_).trans (hfo y hlt)
      intro hmem
      obtain ⟨x, -, hx⟩ := Finset.mem_map.mp hmem
      have := congrArg (fun z : S3072.Idx => (z 0).val) hx
      have e : ((Rect.unit (s := S3072) ![n] S16.size h).emb x 0).val = n + 1 * (x 0).val := rfl
      simp only [e] at this
      omega
    · have hlt' : (y 0).val - n < 16 := by omega
      have hy' : y = (Rect.unit (s := S3072) ![n] S16.size h).emb ((fun a => match a with | ⟨0, _⟩ => ⟨(y 0).val - n, hlt'⟩ : S16.Idx)) := by
        funext a
        obtain rfl : a = 0 := Subsingleton.elim _ _
        apply Fin.ext
        show (y 0).val = n + 1 * ((y 0).val - n)
        omega
      conv_lhs => rw [hy']
      refine (View.read_slice_write_emb (v := m6.view) (Rect.unit (s := S3072) ![n] S16.size h) fo p (Finset.mem_univ _)).trans ((hp _).trans ?_)
      congr 1
      show n + ((y 0).val - n) = (y 0).val
      omega
  · iexact H

end

end Cert.Proof.KernelIdeal
-- ==== Proof.Chunks.lean ====
/-
  The loop over a task's chunks: two at a time, each one's transfer under the other's reading.
-/
module

public import proofs.«01_k».proof.Proof.Chunk

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-! ## The tasks' places -/

/-- The batch a task works on, of the number `2 s + c` of subcore `s` of core `c`. -/
def bT (L : grid0.Coords) : ℕ := (2 * (L 1).val + (L 0).val) / 8
/-- The task's first chunk. -/
def nT (L : grid0.Coords) : ℕ := ((2 * (L 1).val + (L 0).val) % 8) * 24

theorem bT_lt (L : grid0.Coords) : bT L < 4 := by
  have h0 : (L 0).val < 2 := (L 0).isLt
  have h1 : (L 1).val < 16 := (L 1).isLt
  unfold bT
  omega

theorem nT_le (L : grid0.Coords) (c : ℕ) (hc : c < 24) : (nT L + c) * 128 + 128 ≤ 65536 := by
  unfold nT
  omega

theorem off1_eq : ∀ L : grid0.Coords, k0_off1 L = ![bT L, 0, 0, (nT L + 0) * 128] := by decide +kernel
theorem off2_eq : ∀ (L : grid0.Coords) (t : Fin k0_t1_loop.trips), k0_off2 L t = ![bT L, 0, 0, (nT L + (2 * t.val + 1)) * 128] := by decide +kernel
theorem cond1_iff : ∀ t : Fin k0_t1_loop.trips, k0_cond1 t = 1#1 ↔ t.val < 11 := by decide +kernel
theorem off68_eq : ∀ (L : grid0.Coords) (t : Fin k0_t1_loop.trips), k0_cond1 t = 1#1 →
    k0_off68 L t = ![bT L, 0, 0, (nT L + 2 * (t.val + 1)) * 128] := by decide +kernel

theorem vec1 (a b : ℕ) (h : a = b) : ![a] = ![b] := by rw [h]

/-- The task's chunk `c`. -/
def Xc (A : S4x24x8x65536.Idx → F .f32) (L : grid0.Coords) (c : ℕ) : S24x8x128.Idx → F .f32 := chunkX A (bT L) ((nT L + c) * 128)

/-- The disparity of the task's pixel `n`. -/
def outT (A : S4x24x8x65536.Idx → F .f32) (L : grid0.Coords) (n : ℕ) : F .f32 :=
  disp (sts (Xc A L (n / 128)) (n % 128 / 16) 24) (fun a => match a with | ⟨0, _⟩ => Fin.ofNat 16 (n % 16))

/-- A lane's disparity is its pixel's. -/
theorem out_eq (A : S4x24x8x65536.Idx → F .f32) (L : grid0.Coords) (c g n : ℕ) (hg : g < 8) (hn : n = 128 * c + 16 * g) (l : S16.Idx) :
    disp (sts (Xc A L c) g 24) l = outT A L (n + (l 0).val) := by
  subst hn
  have hl : (l 0).val < 16 := (l 0).isLt
  unfold outT
  rw [show (128 * c + 16 * g + (l 0).val) / 128 = c by omega, show (128 * c + 16 * g + (l 0).val) % 128 / 16 = g by omega]
  congr 1
  funext a
  match a with
  | ⟨0, _⟩ =>
    apply Fin.ext
    show (l 0).val = (128 * c + 16 * g + (l 0).val) % 16 % 16
    omega

/-! ## The parts of a trip over two chunks -/

variable (arg3 : Memref sig .scVector .hbm S98304 .f32) (harg3 : arg3.IsWhole) (arg4 : Memref sig .scVector .vmem S24x8x128 .f32) (harg4 : arg4.IsWhole)
  (arg5 : Memref sig .scVector .vmem S24x8x128 .f32) (harg5 : arg5.IsWhole) (arg6 : Memref sig .scVector .vmem S3072 .f32) (harg6 : arg6.IsWhole)
  (arg7 : DmaSems sig S_) (arg8 : DmaSems sig S_) (v42_r0 : DmaSems sig S_) (harg2 : xW.IsWhole)
  (A : Buf (Elt F) (xW.view.loc (V d (cV L) (jV L)))) (qa qb : PosShare TreeShare) (O : CellTallies nD τ sig (HIx 1)) (W : Waits sig (HIx 1))

/-- The first of the two buffers before trip `n`: its chunk on the way, or, after the last trip, nothing. -/
def Nx (n : ℕ) : sProp 𝕄 :=
  if n < 12 then FL d L arg7.sem arg4 A qa (Xc A L (2 * n))
  else iprop((∃ f, arg4.view.loc (V d (cV L) (jV L)) ↦{fullShare} f) ∗ (xW.view.loc (V d (cV L) (jV L)) ↦{qa} A) ∗ semVal ((V d (cV L) (jV L)), .dma arg7.sem) 0)

/-- The second chunk asked for, the first waited for and read whole, and its first sixteen pixels stored. -/
theorem part31_wp' (t : Fin k0_t1_loop.trips) (v29 : BitVec 32) {Φ : _ → sProp 𝕄} :
    iprop((FL d L arg7.sem arg4 A qa (Xc A L (2 * t.val)) ∗ (xW.view.loc (V d (cV L) (jV L)) ↦{qb} A) ∗ (∃ f, arg5.view.loc (V d (cV L) (jV L)) ↦{fullShare} f)
        ∗ semVal ((V d (cV L) (jV L)), .dma arg8.sem) 0 ∗ Upto d L arg6 (outT A L) (256 * t.val + 0) ∗ Ow d L O W)
        ∗ (((∃ f, arg4.view.loc (V d (cV L) (jV L)) ↦{fullShare} f) ∗ (xW.view.loc (V d (cV L) (jV L)) ↦{qa} A) ∗ semVal ((V d (cV L) (jV L)), .dma arg7.sem) 0
            ∗ FL d L arg8.sem arg5 A qb (Xc A L (2 * t.val + 1)) ∗ Upto d L arg6 (outT A L) (256 * t.val + 16) ∗ Ow d L O W)
          -∗ Φ ⟨Scf.iv (w := 32) 0#32 1#32 t, Scalar.muli (Scf.iv (w := 32) 0#32 1#32 t) 2#32, (sts (Xc A L (2 * t.val)) 2 24).m1, (sts (Xc A L (2 * t.val)) 2 24).m2, (sts (Xc A L (2 * t.val)) 2 24).i1, (sts (Xc A L (2 * t.val)) 2 24).i2, (sts (Xc A L (2 * t.val)) 3 24).m1, (sts (Xc A L (2 * t.val)) 3 24).m2, (sts (Xc A L (2 * t.val)) 3 24).i1, (sts (Xc A L (2 * t.val)) 3 24).i2, (sts (Xc A L (2 * t.val)) 4 24).m1, (sts (Xc A L (2 * t.val)) 4 24).m2, (sts (Xc A L (2 * t.val)) 4 24).i1, (sts (Xc A L (2 * t.val)) 4 24).i2, (sts (Xc A L (2 * t.val)) 5 24).m1, (sts (Xc A L (2 * t.val)) 5 24).m2, (sts (Xc A L (2 * t.val)) 5 24).i1, (sts (Xc A L (2 * t.val)) 5 24).i2, (sts (Xc A L (2 * t.val)) 6 24).m1, (sts (Xc A L (2 * t.val)) 6 24).m2, (sts (Xc A L (2 * t.val)) 6 24).i1, (sts (Xc A L (2 * t.val)) 6 24).i2, (sts (Xc A L (2 * t.val)) 7 24).m1, (sts (Xc A L (2 * t.val)) 7 24).m2, (sts (Xc A L (2 * t.val)) 7 24).i1, (sts (Xc A L (2 * t.val)) 7 24).i2, k0_pay784 (sts (Xc A L (2 * t.val)) 1 24).m1 (sts (Xc A L (2 * t.val)) 1 24).m2, k0_pay785 (sts (Xc A L (2 * t.val)) 1 24).m1 (sts (Xc A L (2 * t.val)) 1 24).m2 (sts (Xc A L (2 * t.val)) 1 24).i1 (sts (Xc A L (2 * t.val)) 1 24).i2, k0_pay786⟩))
      ⊢ wp frame (wpE (defs₀ (F := F)) 𝒱₀ (V d (cV L) (jV L)) none) Set.univ (k0_part31 L xW harg2 arg3 harg3 arg4 harg4 arg5 harg5 arg6 harg6 arg7 arg8 v42_r0 v29 k0_pay808 k0_pay809 k0_pay810 0#32 1#32 t) Φ := by
  rw [k0_part31_eq_skeleton]
  unfold k0_part31_skel
  simp only [Prog.lift, Prog.bind_op, Prog.bind_ret, Prog.pure_eq_ret]
  iintro ⟨⟨HF, Hb, ⟨%f5, H5⟩, Hs8, HU, HO⟩, HΦ⟩
  iapply (issue_wp d L arg8.sem arg5 A qb f5 (bT L) ((nT L + (2 * t.val + 1)) * 128) (bT_lt L) (nT_le L _ (by have := t.isLt; have e : k0_t1_loop.trips = 12 := rfl; omega)) _ _ (off2_eq L t)) $$ [Hb H5 Hs8]
  · isplitl [Hb]; · iexact Hb
    isplitl [H5] <;> iassumption
  iintro HF5
  iapply (await_wp d L arg7.sem arg4 A qa (Xc A L (2 * t.val)) O W) $$ [HF HO]
  · isplitl [HF] <;> iassumption
  iintro ⟨⟨%f4, %hf4, H4⟩, Ha, Hs7, HO⟩
  rw [wp_bind]
  rw [show (((k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809) : Carry F)) = pack (dvs 0) (fun g => sts (Xc A L (2 * t.val)) g 0) from rfl]
  iapply (loopA_wp d L xW harg2 arg3 harg3 arg4 harg4 arg5 harg5 arg6 harg6 arg7 arg8 v42_r0 v29 k0_pay808 k0_pay809 0#32 1#32 t f4 fullShare (Xc A L (2 * t.val)) hf4)
  isplitl [H4]
  · iexact H4
  iintro H4
  dsimp only [pack]
  iapply (put_wp d L arg6 (outT A L) (256 * t.val + 0) (256 * t.val + 16) (by omega) _ _ ((k0_off67_eq t 0).trans (vec1 _ _ (rfl))) _ (fun l => out_eq A L (2 * t.val) 0 (256 * t.val + 0) (by decide) (by omega) l)) $$ HU
  iintro HU
  rw [wp_ret]
  imodintro
  ihave HQ := HΦ $$ [H4 Ha Hs7 HF5 HU HO]
  · isplitl [H4]
    · iexists f4; iexact H4
    isplitl [Ha]; · iexact Ha
    isplitl [Hs7]; · iexact Hs7
    isplitl [HF5]; · iexact HF5
    isplitl [HU] <;> iassumption
  istop
  exact BI.Entails.refl _

/-- The next sixty-four pixels. -/
theorem part32_wp' (t : Fin k0_t1_loop.trips) (v42 : BitVec 32) {Φ : _ → sProp 𝕄} :
    iprop(Upto d L arg6 (outT A L) (256 * t.val + 16) ∗ (Upto d L arg6 (outT A L) (256 * t.val + 80) -∗ Φ ⟨⟩))
      ⊢ wp frame (wpE (defs₀ (F := F)) 𝒱₀ (V d (cV L) (jV L)) none) Set.univ (k0_part32 L xW harg2 arg3 harg3 arg4 harg4 arg5 harg5 arg6 harg6 arg7 arg8 v42_r0 t v42 (sts (Xc A L (2 * t.val)) 2 24).m1 (sts (Xc A L (2 * t.val)) 2 24).m2 (sts (Xc A L (2 * t.val)) 2 24).i1 (sts (Xc A L (2 * t.val)) 2 24).i2 (sts (Xc A L (2 * t.val)) 3 24).m1 (sts (Xc A L (2 * t.val)) 3 24).m2 (sts (Xc A L (2 * t.val)) 3 24).i1 (sts (Xc A L (2 * t.val)) 3 24).i2 (sts (Xc A L (2 * t.val)) 4 24).m1 (sts (Xc A L (2 * t.val)) 4 24).m2 (sts (Xc A L (2 * t.val)) 4 24).i1 (sts (Xc A L (2 * t.val)) 4 24).i2 (k0_pay784 (sts (Xc A L (2 * t.val)) 1 24).m1 (sts (Xc A L (2 * t.val)) 1 24).m2) (k0_pay785 (sts (Xc A L (2 * t.val)) 1 24).m1 (sts (Xc A L (2 * t.val)) 1 24).m2 (sts (Xc A L (2 * t.val)) 1 24).i1 (sts (Xc A L (2 * t.val)) 1 24).i2) k0_pay786) Φ := by
  rw [k0_part32_eq_skeleton]
  unfold k0_part32_skel
  simp only [Prog.lift, Prog.bind_op, Prog.bind_ret, Prog.pure_eq_ret]
  iintro ⟨HU, HΦ⟩
  iapply (put_wp d L arg6 (outT A L) (256 * t.val + 16) (256 * t.val + 32) (by omega) _ _ ((k0_off67_eq t 1).trans (vec1 _ _ (rfl))) _ (fun l => out_eq A L (2 * t.val) 1 (256 * t.val + 16) (by decide) (by omega) l)) $$ HU
  iintro HU
  iapply (put_wp d L arg6 (outT A L) (256 * t.val + 32) (256 * t.val + 48) (by omega) _ _ ((k0_off67_eq t 2).trans (vec1 _ _ (rfl))) _ (fun l => out_eq A L (2 * t.val) 2 (256 * t.val + 32) (by decide) (by omega) l)) $$ HU
  iintro HU
  iapply (put_wp d L arg6 (outT A L) (256 * t.val + 48) (256 * t.val + 64) (by omega) _ _ ((k0_off67_eq t 3).trans (vec1 _ _ (rfl))) _ (fun l => out_eq A L (2 * t.val) 3 (256 * t.val + 48) (by decide) (by omega) l)) $$ HU
  iintro HU
  iapply (put_wp d L arg6 (outT A L) (256 * t.val + 64) (256 * t.val + 80) (by omega) _ _ ((k0_off67_eq t 4).trans (vec1 _ _ (rfl))) _ (fun l => out_eq A L (2 * t.val) 4 (256 * t.val + 64) (by decide) (by omega) l)) $$ HU
  iintro HU
  rw [wp_ret]
  imodintro
  iapply HΦ $$ HU

/-- The chunk's last forty-eight pixels, and the chunk after the next asked for if there is one. -/
theorem part33_wp' (t : Fin k0_t1_loop.trips) (v29 arg9 v42 : BitVec 32) {Φ : _ → sProp 𝕄} :
    iprop(((∃ f, arg4.view.loc (V d (cV L) (jV L)) ↦{fullShare} f) ∗ (xW.view.loc (V d (cV L) (jV L)) ↦{qa} A) ∗ semVal ((V d (cV L) (jV L)), .dma arg7.sem) 0 ∗ Upto d L arg6 (outT A L) (256 * t.val + 80))
        ∗ ((Nx d L arg4 arg7 A qa (t.val + 1) ∗ Upto d L arg6 (outT A L) (256 * t.val + 128)) -∗ Φ ⟨⟩))
      ⊢ wp frame (wpE (defs₀ (F := F)) 𝒱₀ (V d (cV L) (jV L)) none) Set.univ (k0_part33 L xW harg2 arg3 harg3 arg4 harg4 arg5 harg5 arg6 harg6 arg7 arg8 v42_r0 v29 t arg9 v42 (sts (Xc A L (2 * t.val)) 5 24).m1 (sts (Xc A L (2 * t.val)) 5 24).m2 (sts (Xc A L (2 * t.val)) 5 24).i1 (sts (Xc A L (2 * t.val)) 5 24).i2 (sts (Xc A L (2 * t.val)) 6 24).m1 (sts (Xc A L (2 * t.val)) 6 24).m2 (sts (Xc A L (2 * t.val)) 6 24).i1 (sts (Xc A L (2 * t.val)) 6 24).i2 (sts (Xc A L (2 * t.val)) 7 24).m1 (sts (Xc A L (2 * t.val)) 7 24).m2 (sts (Xc A L (2 * t.val)) 7 24).i1 (sts (Xc A L (2 * t.val)) 7 24).i2) Φ := by
  rw [k0_part33_eq_skeleton]
  unfold k0_part33_skel
  simp only [Prog.lift, Prog.bind_op, Prog.bind_ret, Prog.pure_eq_ret]
  iintro ⟨⟨⟨%f4, H4⟩, Ha, Hs7, HU⟩, HΦ⟩
  iapply (put_wp d L arg6 (outT A L) (256 * t.val + 80) (256 * t.val + 96) (by omega) _ _ ((k0_off67_eq t 5).trans (vec1 _ _ (rfl))) _ (fun l => out_eq A L (2 * t.val) 5 (256 * t.val + 80) (by decide) (by omega) l)) $$ HU
  iintro HU
  iapply (put_wp d L arg6 (outT A L) (256 * t.val + 96) (256 * t.val + 112) (by omega) _ _ ((k0_off67_eq t 6).trans (vec1 _ _ (rfl))) _ (fun l => out_eq A L (2 * t.val) 6 (256 * t.val + 96) (by decide) (by omega) l)) $$ HU
  iintro HU
  iapply (put_wp d L arg6 (outT A L) (256 * t.val + 112) (256 * t.val + 128) (by omega) _ _ ((k0_off67_eq t 7).trans (vec1 _ _ (rfl))) _ (fun l => out_eq A L (2 * t.val) 7 (256 * t.val + 112) (by decide) (by omega) l)) $$ HU
  iintro HU
  unfold Nx
  by_cases h : k0_cond1 t = 1#1
  · rw [dif_pos h]
    have ht : t.val < 11 := (cond1_iff t).mp h
    iapply (issue_wp d L arg7.sem arg4 A qa f4 (bT L) ((nT L + 2 * (t.val + 1)) * 128) (bT_lt L) (nT_le L _ (by omega)) _ _ (off68_eq L t h)) $$ [Ha H4 Hs7]
    · isplitl [Ha]; · iexact Ha
      isplitl [H4] <;> iassumption
    iintro HF
    rw [wp_ret]
    imodintro
    iapply HΦ $$ [HF HU]
    isplitl [HF]
    · rw [if_pos (show t.val + 1 < 12 by omega)]
      iexact HF
    · iexact HU
  · rw [dif_neg h]
    have ht : ¬ t.val < 11 := fun h' => h ((cond1_iff t).mpr h')
    rw [wp_ret]
    imodintro
    iapply HΦ $$ [H4 Ha Hs7 HU]
    isplitl [H4 Ha Hs7]
    · rw [if_neg (show ¬ t.val + 1 < 12 by omega)]
      isplitl [H4]
      · iexists f4; iexact H4
      isplitl [Ha] <;> iassumption
    · iexact HU

/-- The second chunk waited for and read whole, and its first thirty-two pixels stored. -/
theorem part34_wp' (t : Fin k0_t1_loop.trips) (v42 : BitVec 32) {Φ : _ → sProp 𝕄} :
    iprop((FL d L arg8.sem arg5 A qb (Xc A L (2 * t.val + 1)) ∗ Upto d L arg6 (outT A L) (256 * t.val + 128) ∗ Ow d L O W)
        ∗ (((∃ f, arg5.view.loc (V d (cV L) (jV L)) ↦{fullShare} f) ∗ (xW.view.loc (V d (cV L) (jV L)) ↦{qb} A) ∗ semVal ((V d (cV L) (jV L)), .dma arg8.sem) 0
            ∗ Upto d L arg6 (outT A L) (256 * t.val + 160) ∗ Ow d L O W)
          -∗ Φ ⟨Scalar.addi v42 1#32, (sts (Xc A L (2 * t.val + 1)) 3 24).m1, (sts (Xc A L (2 * t.val + 1)) 3 24).m2, (sts (Xc A L (2 * t.val + 1)) 3 24).i1, (sts (Xc A L (2 * t.val + 1)) 3 24).i2, (sts (Xc A L (2 * t.val + 1)) 4 24).m1, (sts (Xc A L (2 * t.val + 1)) 4 24).m2, (sts (Xc A L (2 * t.val + 1)) 4 24).i1, (sts (Xc A L (2 * t.val + 1)) 4 24).i2, (sts (Xc A L (2 * t.val + 1)) 5 24).m1, (sts (Xc A L (2 * t.val + 1)) 5 24).m2, (sts (Xc A L (2 * t.val + 1)) 5 24).i1, (sts (Xc A L (2 * t.val + 1)) 5 24).i2, (sts (Xc A L (2 * t.val + 1)) 6 24).m1, (sts (Xc A L (2 * t.val + 1)) 6 24).m2, (sts (Xc A L (2 * t.val + 1)) 6 24).i1, (sts (Xc A L (2 * t.val + 1)) 6 24).i2, (sts (Xc A L (2 * t.val + 1)) 7 24).m1, (sts (Xc A L (2 * t.val + 1)) 7 24).m2, (sts (Xc A L (2 * t.val + 1)) 7 24).i1, (sts (Xc A L (2 * t.val + 1)) 7 24).i2, k0_pay801 (sts (Xc A L (2 * t.val + 1)) 2 24).m1 (sts (Xc A L (2 * t.val + 1)) 2 24).m2 (sts (Xc A L (2 * t.val + 1)) 2 24).i1 (sts (Xc A L (2 * t.val + 1)) 2 24).i2, k0_pay802 (sts (Xc A L (2 * t.val + 1)) 2 24).m1 (sts (Xc A L (2 * t.val + 1)) 2 24).m2⟩))
      ⊢ wp frame (wpE (defs₀ (F := F)) 𝒱₀ (V d (cV L) (jV L)) none) Set.univ (k0_part34 L xW harg2 arg3 harg3 arg4 harg4 arg5 harg5 arg6 harg6 arg7 arg8 v42_r0 k0_pay808 k0_pay809 k0_pay810 t v42) Φ := by
  rw [k0_part34_eq_skeleton]
  unfold k0_part34_skel
  simp only [Prog.lift, Prog.bind_op, Prog.bind_ret, Prog.pure_eq_ret]
  iintro ⟨⟨HF, HU, HO⟩, HΦ⟩
  iapply (await_wp d L arg8.sem arg5 A qb (Xc A L (2 * t.val + 1)) O W) $$ [HF HO]
  · isplitl [HF] <;> iassumption
  iintro ⟨⟨%f5, %hf5, H5⟩, Hb, Hs8, HO⟩
  rw [wp_bind]
  rw [show (((k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809, k0_pay808, k0_pay808, k0_pay809, k0_pay809) : Carry F)) = pack (dvs 0) (fun g => sts (Xc A L (2 * t.val + 1)) g 0) from rfl]
  iapply (loopB_wp d L xW harg2 arg3 harg3 arg4 harg4 arg5 harg5 arg6 harg6 arg7 arg8 v42_r0 k0_pay808 k0_pay809 t v42 f5 fullShare (Xc A L (2 * t.val + 1)) hf5)
  isplitl [H5]
  · iexact H5
  iintro H5
  dsimp only [pack]
  iapply (put_wp d L arg6 (outT A L) (256 * t.val + 128) (256 * t.val + 144) (by omega) _ _ ((k0_off133_eq t 0).trans (vec1 _ _ (by show 256 * t.val + 16 * 0 + 128 = _; omega))) _ (fun l => out_eq A L (2 * t.val + 1) 0 (256 * t.val + 128) (by decide) (by omega) l)) $$ HU
  iintro HU
  iapply (put_wp d L arg6 (outT A L) (256 * t.val + 144) (256 * t.val + 160) (by omega) _ _ ((k0_off133_eq t 1).trans (vec1 _ _ (by show 256 * t.val + 16 * 1 + 128 = _; omega))) _ (fun l => out_eq A L (2 * t.val + 1) 1 (256 * t.val + 144) (by decide) (by omega) l)) $$ HU
  iintro HU
  rw [wp_ret]
  imodintro
  ihave HQ := HΦ $$ [H5 Hb Hs8 HU HO]
  · isplitl [H5]
    · iexists f5; iexact H5
    isplitl [Hb]; · iexact Hb
    isplitl [Hs8]; · iexact Hs8
    isplitl [HU] <;> iassumption
  istop
  exact BI.Entails.refl _

/-- The next sixty-four. -/
theorem part35_wp' (t : Fin k0_t1_loop.trips) (v167 : BitVec 32) {Φ : _ → sProp 𝕄} :
    iprop(Upto d L arg6 (outT A L) (256 * t.val + 160) ∗ (Upto d L arg6 (outT A L) (256 * t.val + 224) -∗ Φ (k0_pay807 (sts (Xc A L (2 * t.val + 1)) 6 24).m1 (sts (Xc A L (2 * t.val + 1)) 6 24).m2)))
      ⊢ wp frame (wpE (defs₀ (F := F)) 𝒱₀ (V d (cV L) (jV L)) none) Set.univ (k0_part35 L xW harg2 arg3 harg3 arg4 harg4 arg5 harg5 arg6 harg6 arg7 arg8 v42_r0 t v167 (sts (Xc A L (2 * t.val + 1)) 3 24).m1 (sts (Xc A L (2 * t.val + 1)) 3 24).m2 (sts (Xc A L (2 * t.val + 1)) 3 24).i1 (sts (Xc A L (2 * t.val + 1)) 3 24).i2 (sts (Xc A L (2 * t.val + 1)) 4 24).m1 (sts (Xc A L (2 * t.val + 1)) 4 24).m2 (sts (Xc A L (2 * t.val + 1)) 4 24).i1 (sts (Xc A L (2 * t.val + 1)) 4 24).i2 (sts (Xc A L (2 * t.val + 1)) 5 24).m1 (sts (Xc A L (2 * t.val + 1)) 5 24).m2 (sts (Xc A L (2 * t.val + 1)) 5 24).i1 (sts (Xc A L (2 * t.val + 1)) 5 24).i2 (sts (Xc A L (2 * t.val + 1)) 6 24).m1 (sts (Xc A L (2 * t.val + 1)) 6 24).m2 (k0_pay801 (sts (Xc A L (2 * t.val + 1)) 2 24).m1 (sts (Xc A L (2 * t.val + 1)) 2 24).m2 (sts (Xc A L (2 * t.val + 1)) 2 24).i1 (sts (Xc A L (2 * t.val + 1)) 2 24).i2) (k0_pay802 (sts (Xc A L (2 * t.val + 1)) 2 24).m1 (sts (Xc A L (2 * t.val + 1)) 2 24).m2)) Φ := by
  rw [k0_part35_eq_skeleton]
  unfold k0_part35_skel
  simp only [Prog.lift, Prog.bind_op, Prog.bind_ret, Prog.pure_eq_ret]
  iintro ⟨HU, HΦ⟩
  iapply (put_wp d L arg6 (outT A L) (256 * t.val + 160) (256 * t.val + 176) (by omega) _ _ ((k0_off133_eq t 2).trans (vec1 _ _ (by show 256 * t.val + 16 * 2 + 128 = _; omega))) _ (fun l => out_eq A L (2 * t.val + 1) 2 (256 * t.val + 160) (by decide) (by omega) l)) $$ HU
  iintro HU
  iapply (put_wp d L arg6 (outT A L) (256 * t.val + 176) (256 * t.val + 192) (by omega) _ _ ((k0_off133_eq t 3).trans (vec1 _ _ (by show 256 * t.val + 16 * 3 + 128 = _; omega))) _ (fun l => out_eq A L (2 * t.val + 1) 3 (256 * t.val + 176) (by decide) (by omega) l)) $$ HU
  iintro HU
  iapply (put_wp d L arg6 (outT A L) (256 * t.val + 192) (256 * t.val + 208) (by omega) _ _ ((k0_off133_eq t 4).trans (vec1 _ _ (by show 256 * t.val + 16 * 4 + 128 = _; omega))) _ (fun l => out_eq A L (2 * t.val + 1) 4 (256 * t.val + 192) (by decide) (by omega) l)) $$ HU
  iintro HU
  iapply (put_wp d L arg6 (outT A L) (256 * t.val + 208) (256 * t.val + 224) (by omega) _ _ ((k0_off133_eq t 5).trans (vec1 _ _ (by show 256 * t.val + 16 * 5 + 128 = _; omega))) _ (fun l => out_eq A L (2 * t.val + 1) 5 (256 * t.val + 208) (by decide) (by omega) l)) $$ HU
  iintro HU
  rw [wp_ret]
  imodintro
  iapply HΦ $$ HU

/-- One trip: two chunks in, and their two hundred and fifty-six pixels stored. -/
theorem trip_wp (t : Fin k0_t1_loop.trips) (v29 acc : BitVec 32) {Φ : _ → sProp 𝕄} :
    iprop((Nx d L arg4 arg7 A qa t.val ∗ (xW.view.loc (V d (cV L) (jV L)) ↦{qb} A) ∗ (∃ f, arg5.view.loc (V d (cV L) (jV L)) ↦{fullShare} f)
        ∗ semVal ((V d (cV L) (jV L)), .dma arg8.sem) 0 ∗ Upto d L arg6 (outT A L) (256 * t.val) ∗ Ow d L O W)
        ∗ ((Nx d L arg4 arg7 A qa (t.val + 1) ∗ (xW.view.loc (V d (cV L) (jV L)) ↦{qb} A) ∗ (∃ f, arg5.view.loc (V d (cV L) (jV L)) ↦{fullShare} f)
            ∗ semVal ((V d (cV L) (jV L)), .dma arg8.sem) 0 ∗ Upto d L arg6 (outT A L) (256 * (t.val + 1)) ∗ Ow d L O W)
          -∗ Φ 0#32))
      ⊢ wp frame (wpE (defs₀ (F := F)) 𝒱₀ (V d (cV L) (jV L)) none) Set.univ (k0_t1_body L xW harg2 arg3 harg3 arg4 harg4 arg5 harg5 arg6 harg6 arg7 arg8 v42_r0 v29 k0_pay808 k0_pay809 k0_pay810 t acc) Φ := by
  have ht : t.val < 12 := t.isLt
  unfold k0_t1_body
  rw [show Nx d L arg4 arg7 A qa t.val = FL d L arg7.sem arg4 A qa (Xc A L (2 * t.val)) from if_pos ht]
  iintro ⟨⟨HF, Hb, H5, Hs8, HU, HO⟩, HΦ⟩
  rw [wp_bind]
  iapply (part31_wp' d L arg3 harg3 arg4 harg4 arg5 harg5 arg6 harg6 arg7 arg8 v42_r0 harg2 A qa qb O W t v29)
  isplitl [HF Hb H5 Hs8 HU HO]
  · isplitl [HF]; · iexact HF
    isplitl [Hb]; · iexact Hb
    isplitl [H5]; · iexact H5
    isplitl [Hs8]; · iexact Hs8
    isplitl [HU] <;> iassumption
  iintro ⟨H4, Ha, Hs7, HF5, HU, HO⟩
  dsimp only
  rw [wp_bind]
  iapply (part32_wp' d L arg3 harg3 arg4 harg4 arg5 harg5 arg6 harg6 arg7 arg8 v42_r0 harg2 A t _)
  isplitl [HU]; · iexact HU
  iintro HU
  rw [wp_bind]
  iapply (part33_wp' d L arg3 harg3 arg4 harg4 arg5 harg5 arg6 harg6 arg7 arg8 v42_r0 harg2 A qa t v29 _ _)
  isplitl [H4 Ha Hs7 HU]
  · isplitl [H4]; · iexact H4
    isplitl [Ha]; · iexact Ha
    isplitl [Hs7] <;> iassumption
  iintro ⟨HN, HU⟩
  rw [wp_bind]
  iapply (part34_wp' d L arg3 harg3 arg4 harg4 arg5 harg5 arg6 harg6 arg7 arg8 v42_r0 harg2 A qb O W t _)
  isplitl [HF5 HU HO]
  · isplitl [HF5]; · iexact HF5
    isplitl [HU] <;> iassumption
  iintro ⟨H5, Hb, Hs8, HU, HO⟩
  dsimp only
  rw [wp_bind]
  iapply (part35_wp' d L arg3 harg3 arg4 harg4 arg5 harg5 arg6 harg6 arg7 arg8 v42_r0 harg2 A t _)
  isplitl [HU]; · iexact HU
  iintro HU
  simp only [Prog.lift, Prog.bind_op, Prog.bind_ret, Prog.pure_eq_ret]
  iapply (put_wp d L arg6 (outT A L) (256 * t.val + 224) (256 * t.val + 240) (by omega) _ _ ((k0_off133_eq t 6).trans (vec1 _ _ (by show 256 * t.val + 16 * 6 + 128 = _; omega))) _ (fun l => out_eq A L (2 * t.val + 1) 6 (256 * t.val + 224) (by decide) (by omega) l)) $$ HU
  iintro HU
  iapply (put_wp d L arg6 (outT A L) (256 * t.val + 240) (256 * t.val + 256) (by omega) _ _ ((k0_off133_eq t 7).trans (vec1 _ _ (by show 256 * t.val + 16 * 7 + 128 = _; omega))) _ (fun l => out_eq A L (2 * t.val + 1) 7 (256 * t.val + 240) (by decide) (by omega) l)) $$ HU
  iintro HU
  rw [wp_ret]
  imodintro
  iapply HΦ $$ [HN Hb H5 Hs8 HU HO]
  isplitl [HN]; · iexact HN
  isplitl [Hb]; · iexact Hb
  isplitl [H5]; · iexact H5
  isplitl [Hs8]; · iexact Hs8
  isplitl [HU]
  · rw [show 256 * (t.val + 1) = 256 * t.val + 256 by omega]
    iexact HU
  · iexact HO

/-- The loop over the task's twelve pairs of chunks. -/
theorem chunks_wp (v29 : BitVec 32) {Φ : _ → sProp 𝕄} :
    iprop((Nx d L arg4 arg7 A qa 0 ∗ (xW.view.loc (V d (cV L) (jV L)) ↦{qb} A) ∗ (∃ f, arg5.view.loc (V d (cV L) (jV L)) ↦{fullShare} f)
        ∗ semVal ((V d (cV L) (jV L)), .dma arg8.sem) 0 ∗ Upto d L arg6 (outT A L) 0 ∗ Ow d L O W)
        ∗ (∀ v, ((Nx d L arg4 arg7 A qa 12 ∗ (xW.view.loc (V d (cV L) (jV L)) ↦{qb} A) ∗ (∃ f, arg5.view.loc (V d (cV L) (jV L)) ↦{fullShare} f)
            ∗ semVal ((V d (cV L) (jV L)), .dma arg8.sem) 0 ∗ Upto d L arg6 (outT A L) 3072 ∗ Ow d L O W)
          -∗ Φ v)))
      ⊢ wp frame (wpE (defs₀ (F := F)) 𝒱₀ (V d (cV L) (jV L)) none) Set.univ (Scf.Loop.for k0_t1_loop k0_t1_ok 0#32 (k0_t1_body L xW harg2 arg3 harg3 arg4 harg4 arg5 harg5 arg6 harg6 arg7 arg8 v42_r0 v29 k0_pay808 k0_pay809 k0_pay810)) Φ := by
  iintro ⟨H, HΦ⟩
  iapply (Scf.wp_for frame (wpE (defs₀ (F := F)) 𝒱₀ (V d (cV L) (jV L)) none) Set.univ _ _ _ _ _ _
    (fun k _ => iprop(Nx d L arg4 arg7 A qa k ∗ (xW.view.loc (V d (cV L) (jV L)) ↦{qb} A) ∗ (∃ f, arg5.view.loc (V d (cV L) (jV L)) ↦{fullShare} f)
        ∗ semVal ((V d (cV L) (jV L)), .dma arg8.sem) 0 ∗ Upto d L arg6 (outT A L) (256 * k) ∗ Ow d L O W))
    (by
      intro t acc
      iintro H
      iapply (trip_wp d L arg3 harg3 arg4 harg4 arg5 harg5 arg6 harg6 arg7 arg8 v42_r0 harg2 A qa qb O W t v29 acc)
      isplitl [H]
      · iexact H
      iintro H
      iexact H))
  isplitl [H]
  · iexact H
  iintro %acc H
  rw [show Scf.trips k0_t1_loop.lb k0_t1_loop.ub k0_t1_loop.st = 12 from rfl]
  iapply HΦ $$ H

end

end Cert.Proof.KernelIdeal
-- ==== Proof.Tile.lean ====
/-
  A task whole: its chunks read, its disparities written out.
-/
module

public import proofs.«01_k».proof.Proof.Chunks

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-! ## What the SparseCore kernel leaves in its result -/

abbrev oW : Memref sig Kind.scVector Space.hbm S98304 EltTy.f32 := Memref.whole main_v2_scv

/-- Pixel `y` of the result: task `y / 3072`'s, lane `y % 16` of group `y % 128 / 16` of its chunk `y % 3072 / 128`. -/
def resG (A : S4x24x8x65536.Idx → F .f32) : S98304.Idx → F .f32 := fun y =>
  disp (sts (chunkX A ((y 0).val / 3072 / 8) (((y 0).val / 3072 % 8 * 24 + (y 0).val % 3072 / 128) * 128)) ((y 0).val % 3072 % 128 / 16) 24)
    (fun a => match a with | ⟨0, _⟩ => Fin.ofNat 16 ((y 0).val % 3072 % 16))

/-- The pixels of task `w`. -/
def oRow (w : ℕ) : Finset S98304.Idx := Finset.univ.filter fun y => (y 0).val / 3072 = w

/-- The task's number. -/
def wT (L : grid0.Coords) : ℕ := 2 * (L 1).val + (L 0).val

/-- What the task's pixel `n` is in the result. -/
theorem outT_resG (A : S4x24x8x65536.Idx → F .f32) (L : grid0.Coords) (y : S98304.Idx) (n : ℕ) (hn : n < 3072) (hy : (y 0).val = 3072 * wT L + n) :
    outT A L n = resG A y := by
  have h1 : (y 0).val / 3072 = 2 * (L 1).val + (L 0).val := by unfold wT at hy; omega
  have h2 : (y 0).val % 3072 = n := by omega
  unfold outT resG Xc bT nT
  rw [h1, h2]
  rfl

abbrev oT (L : grid0.Coords) : Memref sig Kind.scVector Space.hbm S3072 EltTy.f32 :=
  oW.slice (Rect.unit (s := S98304) (k0_off134 L) S3072.size (k0_off134_inb L)) (fun _ => rfl)

omit [FloatOps F] in
theorem oT_emb (L : grid0.Coords) (x : S3072.Idx) : (((oT L).view.emb x : S98304.Idx) 0).val = 3072 * wT L + (x 0).val := by
  show k0_off134 L 0 + 1 * (x 0).val = _
  rw [k0_off134_eq]
  show 6144 * (L 1).val + 3072 * (L 0).val + 1 * (x 0).val = _
  unfold wT
  omega

/-- The slice the task writes is its pixels. -/
theorem oT_set (L : grid0.Coords) : (oT L).view.set = oRow (wT L) := by
  ext y
  constructor
  · intro hy
    obtain ⟨x, -, hx⟩ := Finset.mem_map.mp hy
    refine Finset.mem_filter.mpr ⟨Finset.mem_univ _, ?_⟩
    have h := oT_emb L x
    have hx' : (x 0).val < 3072 := (x 0).isLt
    rw [show (oT L).view.emb x = y from hx] at h
    omega
  · intro hy
    have h := (Finset.mem_filter.mp hy).2
    refine Finset.mem_map.mpr ⟨(fun a => match a with | ⟨0, _⟩ => Fin.ofNat 3072 ((y 0).val % 3072) : S3072.Idx), Finset.mem_univ _, ?_⟩
    funext a
    match a with
    | ⟨0, _⟩ =>
      apply Fin.ext
      refine (oT_emb L _).trans ?_
      show 3072 * wT L + (y 0).val % 3072 % 3072 = (y 0).val
      omega

theorem oT_sub : (oT L).view.set ⊆ (oRow (wT L) : Finset (Idx ((oT L).view.loc (V d (cV L) (jV L))))) := by
  intro y hy
  have h := oT_set L
  exact h ▸ hy

/-- The slice written with the task's pixels holds the result there. -/
theorem oT_written (A : S4x24x8x65536.Idx → F .f32) (fd : Buf (Elt F) (oW.view.loc (V d (cV L) (jV L)))) (w : S3072.Idx → F .f32)
    (hw : ∀ x : S3072.Idx, w x = outT A L (x 0).val) :
    ((oT L).view.loc (V d (cV L) (jV L)) ↦[oRow (wT L)]{fullShare} ((oT L).view.write (Elt F) fd w Finset.univ) : sProp 𝕄)
      = oW.view.loc (V d (cV L) (jV L)) ↦[oRow (wT L)]{fullShare} resG A := by
  refine pointsTo_congr fun y hy => ?_
  rw [← oT_set] at hy
  obtain ⟨x, -, hx⟩ := Finset.mem_map.mp hy
  rw [← hx]
  refine (View.write_emb_of_mem (v := (oT L).view) fd w (Finset.mem_univ x)).trans ?_
  show w x = resG A ((oT L).view.emb x)
  rw [hw x]
  exact outT_resG A L _ _ (x 0).isLt (oT_emb L x)

/-! ## A task's own semaphores and buffers -/

abbrev c3 : GSem nD τ sig := (V d (cV L) (jV L), .dma cc0_scratch3.sem)
abbrev c4 : GSem nD τ sig := (V d (cV L) (jV L), .dma cc0_scratch4.sem)
abbrev c5 : GSem nD τ sig := (V d (cV L) (jV L), .dma cc0_scoped0.sem)

omit [FloatOps F] in
theorem ownSems0_V :
    (SparseCore.Cfg.ownSems0 (V d (cV L) (jV L)) : sProp 𝕄)
      = iprop(semVal (c3 d L) 0 ∗ semVal (c4 d L) 0 ∗ semVal (c5 d L) 0
          ∗ bigSep ((((SparseCore.Cfg.ownCells (V d (cV L) (jV L))).erase (c3 d L)).erase (c4 d L)).erase (c5 d L)) fun g => semVal g 0) := by
  unfold SparseCore.Cfg.ownSems0
  rw [SparseCore.bigSep_erase' ((SparseCore.Cfg.mem_ownCells (g := c3 d L)).mpr ⟨rfl, by
      show (SemLoc.dma cc0_scratch3.sem : SemLoc sig).isScoped .scVector = true; decide⟩),
    SparseCore.bigSep_erase' (Finset.mem_erase.mpr ⟨by simp [c3, c4]; decide, (SparseCore.Cfg.mem_ownCells (g := c4 d L)).mpr ⟨rfl, by
      show (SemLoc.dma cc0_scratch4.sem : SemLoc sig).isScoped .scVector = true; decide⟩⟩),
    SparseCore.bigSep_erase' (Finset.mem_erase.mpr ⟨by simp [c4, c5]; decide, Finset.mem_erase.mpr ⟨by simp [c3, c5]; decide,
      (SparseCore.Cfg.mem_ownCells (g := c5 d L)).mpr ⟨rfl, by show (SemLoc.dma cc0_scoped0.sem : SemLoc sig).isScoped .scVector = true; decide⟩⟩⟩)]

omit [FloatOps F] in
theorem ownBufs_V :
    (SparseCore.Cfg.ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((SparseCore.Cfg.ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The write-out -/

/-- The task's pixels, all done, go out to their place in the result. -/
theorem out_wp (A : S4x24x8x65536.Idx → F .f32) (O : CellTallies nD τ sig (HIx 1)) (W : Waits sig (HIx 1))
    (fd : Buf (Elt F) (oW.view.loc (V d (cV L) (jV L)))) {Φ : PUnit → sProp 𝕄}
    {h1 : (Memref.whole cc0_scratch2 : Memref sig .scVector .vmem S3072 .f32).view.WordExact} {h2 : (oT L).view.WordExact}
    {h3 : DmaTarget.Typed (nD := nD) (p := Proc.scVector (cV L) (jV L)) .vmem (.dma cc0_scoped0.sem) (.here (oT L))}
    {h4 : (Memref.whole cc0_scratch2 : Memref sig .scVector .vmem S3072 .f32).view.WordExact} {h5 : (oT L).view.WordExact} :
    iprop(Upto d L (Memref.whole cc0_scratch2) (outT A L) 3072 ∗ (oW.view.loc (V d (cV L) (jV L)) ↦[oRow (wT L)]{fullShare} fd) ∗ semVal (c5 d L) 0 ∗ Ow d L O W)
      ⊢ iprop((((∃ f, (V d (cV L) (jV L)).loc cc0_scratch2 ↦{fullShare} f) ∗ (oW.view.loc (V d (cV L) (jV L)) ↦[oRow (wT L)]{fullShare} resG A)
            ∗ semVal (c5 d L) 0 ∗ Ow d L O W) -∗ Φ ⟨⟩)
        -∗ wp frame (wpE (defs₀ (F := F)) 𝒱₀ (V d (cV L) (jV L)) none) Set.univ
            (.op (.enqueueDma (Memref.whole cc0_scratch2 : Memref sig .scVector .vmem S3072 .f32) (.here (oT L)) (.dma cc0_scoped0.sem) h1 h2 h3) fun _ =>
              .op (.waitDma2 cc0_scoped0.sem (Memref.whole cc0_scratch2 : Memref sig .scVector .vmem S3072 .f32) (oT L) h4 h5) fun _ => .ret ⟨⟩) Φ) := by
  unfold Upto Ow
  iintro ⟨⟨%fo, %hfo, H6⟩, Ho, Hs, #Hmw, ⟨%W', %hW, HO⟩⟩ Hk
  ihave H6' := (pointsTo_split_subset (Finset.subset_univ (Memref.whole cc0_scratch2 : Memref sig .scVector .vmem S3072 .f32).view.set)).1 $$ H6
  icases H6' with ⟨H6, H6r⟩
  iapply (Transfers.wp_dmaLocal countersEmb 𝒱₀ (V d (cV L) (jV L)) none (none : HIx 1) (oT L).view.dmaCredit rfl (View.dmaCredit_pos _ (by decide))
    (src := (Memref.whole cc0_scratch2 : Memref sig .scVector .vmem S3072 .f32)) (dst := oT L) (fs := fo) (fd := fd) (Sd := (oRow (wT L) : Finset (Idx ((oT L).view.loc (V d (cV L) (jV L)))))) (oT_sub L)) $$ [H6 Ho Hs]
  · isplitl [H6]; · iexact H6
    isplitl [Ho]; · iexact Ho
    iexact Hs
  iintro Hf
  iapply (Transfers.wp_waitLocalO countersEmb 𝒱₀ (V d (cV L) (jV L)) none (none : HIx 1) rfl (O := O) (W := W')) $$ [Hf Hmw HO]
  · isplitl [Hf]; · iexact Hf
    isplitl [HO]; · iexact HO
    iapply (Transfers.MayWaits.elim (SemLoc.dma cc0_scoped0.sem))
    iexact Hmw
  iintro ⟨⟨Ho, H6⟩, Hs, HO⟩
  rw [wp_ret]
  imodintro
  iapply Hk
  isplitl [H6 H6r]
  · iexists fo
    iapply (pointsTo_split_subset (Finset.subset_univ (Memref.whole cc0_scratch2 : Memref sig .scVector .vmem S3072 .f32).view.set)).2
    isplitl [H6] <;> iassumption
  isplitl [Ho]
  · ihave Ho' := (Idealize.SL.BI.BIBase.Entails.of_eq (oT_written d L A fd ((Memref.whole cc0_scratch2 : Memref sig .scVector .vmem S3072 .f32).view.read (Elt F) fo) fun x => hfo x (x 0).isLt)) $$ Ho
    iexact Ho'
  isplitl [Hs]; · iexact Hs
  isplitr [HO]; · iexact Hmw
  iexists (insert (SemLoc.dma cc0_scoped0.sem, (none : HIx 1)) W')
  isplitr [HO]
  · ipureintro
    intro p hp
    rcases Finset.mem_insert.mp hp with hp | hp
    · rw [hp]; exact Or.inr rfl
    · exact hW p hp
  · iexact HO

/-! ## The whole task -/

/-- After the last pair nothing is in flight. -/
theorem Nx_end (m4 : Memref sig .scVector .vmem S24x8x128 .f32) (m7 : DmaSems sig S_) (A : Buf (Elt F) (xW.view.loc (V d (cV L) (jV L)))) (q : PosShare TreeShare) :
    Nx d L m4 m7 A q 12 ⊢ iprop((∃ f, m4.view.loc (V d (cV L) (jV L)) ↦{fullShare} f) ∗ (xW.view.loc (V d (cV L) (jV L)) ↦{q} A)
      ∗ semVal ((V d (cV L) (jV L)), .dma m7.sem) 0) := by
  unfold Nx
  rw [if_neg (by decide)]

/-- What the thread owes, its leave to wait forgotten. -/
theorem Ow_end (O : CellTallies nD τ sig (HIx 1)) (W : Waits sig (HIx 1)) :
    Ow d L O W ⊢ (iprop(∃ W', ⌜∀ p ∈ W', p ∈ W ∨ p.2 = none⌝ ∗ owes (V d (cV L) (jV L)) O W') : sProp 𝕄) := by
  unfold Ow
  iintro ⟨-, H⟩
  iexact H

/-- A task, from read shares of the cost volume: its pixels of the result. -/
theorem tile_body (hF : (K (F := F)).Facts) (A : S4x24x8x65536.Idx → F .f32) (q : PosShare TreeShare) (fd : Buf (Elt F) (oW.view.loc (V d (cV L) (jV L))))
    (O : CellTallies nD τ sig (HIx 1)) (W : Waits sig (HIx 1)) (hO : ∀ g, O g none = 0) :
    (iprop(levAts (K (F := F)).L (K (F := F)).lev
        ∗ ((xW.view.loc (V d (cV L) (jV L)) ↦{q} A) ∗ oW.view.loc (V d (cV L) (jV L)) ↦[oRow (wT L)]{fullShare} fd)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_disp_kernel L xW (Memref.isWhole_whole _) oW (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0)
          fun _ => iprop(((xW.view.loc (V d (cV L) (jV L)) ↦{q} A) ∗ oW.view.loc (V d (cV L) (jV L)) ↦[oRow (wT L)]{fullShare} resG A)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_disp_kernel_eq_skeleton]
  unfold cc0_disp_kernel_skel
  rw [k0_part36_eq_skeleton]
  unfold k0_part36_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, ⟨HA, Ho⟩, ⟨⟨%f0, H0⟩, ⟨%f1, H1⟩, ⟨%f2, H2⟩, Hbufs⟩, ⟨H3, H4, H5, Hsems⟩, HO⟩
  ihave #Hmw := (show (levAts (K (F := F)).L (K (F := F)).lev : sProp 𝕄) ⊢ Transfers.MayWaits (V d (cV L) (jV L)) (none : HIx 1) O from (K (F := F)).mayWaits_none hO) $$ Hlv
  ihave HA' := (pointsTo_share (PosShare.mem_left_op_right q)).1 $$ HA
  icases HA' with ⟨HA, HB⟩
  iapply (issue_wp d L cc0_scratch3.sem (Memref.whole cc0_scratch0) A q.left f0 (bT L) ((nT L + 0) * 128) (bT_lt L) (nT_le L 0 (by omega)) (k0_off1 L)
    (k0_off1_inb L) (off1_eq L)) $$ [HA H0 H3]
  · isplitl [HA]; · iexact HA
    isplitl [H0] <;> iassumption
  iintro Hf
  rw [wp_bind]
  iapply (chunks_wp d L oW (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scoped0 (Memref.isWhole_whole _) A q.left q.right O W)
  isplitl [Hf HB H1 H4 H2 HO]
  · isplitl [Hf]
    · unfold Nx
      rw [if_pos (by decide)]
      iexact Hf
    isplitl [HB]; · iexact HB
    isplitl [H1]; · iexists f1; iexact H1
    isplitl [H4]; · iexact H4
    isplitl [H2]
    · unfold Upto
      iexists f2
      isplitr [H2]
      · ipureintro
        intro y hy
        exact absurd hy (Nat.not_lt_zero _)
      · iexact H2
    unfold Ow
    isplitr [HO]; · iexact Hmw
    iexists W
    isplitr [HO]
    · ipureintro
      intro p hp
      exact Or.inl hp
    · iexact HO
  iintro %v ⟨Hn, HB, ⟨%g1, H1⟩, H4, H2, HO⟩
  iapply (out_wp d L A O W fd) $$ [H2 Ho H5 HO]
  · isplitl [H2]; · iexact H2
    isplitl [Ho]; · iexact Ho
    isplitl [H5]; · iexact H5
    iexact HO
  iintro ⟨H2, Ho, H5, HO⟩
  ihave Hn' := (Nx_end d L (Memref.whole cc0_scratch0) cc0_scratch3 A q.left) $$ Hn
  icases Hn' with ⟨H0, HA, H3⟩
  ihave HO' := (Ow_end d L O W) $$ HO
  isplitl [HA HB Ho]
  · isplitl [HA HB]
    · iapply (pointsTo_share (PosShare.mem_left_op_right q)).2
      isplitl [HA] <;> iassumption
    · iexact Ho
  isplitl [H0 H1 H2 Hbufs]
  · isplitl [H0]; · iexact H0
    isplitl [H1]; · iexists g1; iexact H1
    isplitl [H2]; · iexact H2
    iexact Hbufs
  isplitl [H3 H4 H5 Hsems]
  · isplitl [H3]; · iexact H3
    isplitl [H4]; · iexact H4
    isplitl [H5]; · iexact H5
    iexact Hsems
  iexact HO'

end

end Cert.Proof.KernelIdeal
-- ==== Proof.Region.lean ====
/-
  The TensorCore call: its body, its blocks, what it leaves.
-/
module

public import proofs.«01_k».proof.Proof.Tile
public import proofs.«01_k».proof.Proof.Gen.KernelIdeal.Points
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

open Idealize.ShloMosaic.Pipeline (Dat)

/-! ## The body on the TensorCore -/

theorem z4 : (![0, 0, 0, 0] : Fin 4 → ℕ) = fun _ => 0 := funext fun a => by fin_cases a <;> rfl
theorem z1 : (![0] : Fin 1 → ℕ) = fun _ => 0 := funext fun a => by fin_cases a; rfl

/-- A load of the whole of a memref reads its contents. -/
theorem whole_read (m : Memref sig .tc .vmem S1x24x8x8192 .f32) (f : m.view.ty.Contents (Elt F)) :
    m.view.readAt (Elt F) (Rect.unit (s := S1x24x8x8192) ![0, 0, 0, 0] S1x24x8x8192.size inb_S1x24x8x8192_S1x24x8x8192_0_0_0_0).toLoadRect f
      = m.view.read (Elt F) f := by
  refine (show _ = View.ld (m.view.read (Elt F) f) (Rect.unit (s := S1x24x8x8192) ![0, 0, 0, 0] S1x24x8x8192.size inb_S1x24x8x8192_S1x24x8x8192_0_0_0_0) from rfl).trans ?_
  exact View.ld_unit_zero z4 _ _

/-- A store over the whole of a memref leaves what was stored. -/
theorem whole_write (m : Memref sig .tc .vmem S8192 .f32) (f : m.view.ty.Contents (Elt F)) (w : S8192.Idx → F .f32) :
    m.view.read (Elt F) (m.view.writes (Elt F) f [⟨Rect.unit (s := S8192) ![0] S8192.size inb_S8192_S8192_0, w⟩]) = w := by
  funext y
  refine View.read_writes_cons_hit_of_coords m.view f (Rect.unit (s := S8192) ![0] S8192.size inb_S8192_S8192_0) w [] y y fun a => ?_
  obtain rfl : a = (0 : Fin 1) := Subsingleton.elim (α := Fin 1) _ _
  show (y 0).val = 0 + 1 * (y 0).val
  omega

/-- The body reads its block and leaves the block's disparities. -/
theorem tc_body (c : Dev nD) (i : grid1.Coords) (arg2 : Memref sig .tc .vmem S1x24x8x8192 .f32) (harg2 : arg2.IsWhole)
    (arg3 : Memref sig .tc .vmem S8192 .f32) (harg3 : arg3.IsWhole) (X : S1x24x8x8192.Idx → F .f32) (Y : S8192.Idx → F .f32) :
    (iprop(owns (c.tc : Thread nD τ) arg2 fullShare X ∗ owns (c.tc : Thread nD τ) arg3 fullShare Y) : sProp 𝕄)
      ⊢ wp frame (wpE (defs₀ (F := F)) 𝒱₀ (c.tc : Thread nD τ) none) Set.univ (cc1__tc_block i arg2 harg2 arg3 harg3)
          fun _ => iprop(owns (c.tc : Thread nD τ) arg2 fullShare X ∗ owns (c.tc : Thread nD τ) arg3 fullShare (k1_pay1 X)) := by
  rw [cc1__tc_block_eq_skeleton]
  unfold cc1__tc_block_skel
  simp only [Prog.lift, Prog.bind_op, Prog.bind_ret, Prog.pure_eq_ret]
  unfold owns
  iintro ⟨⟨%f2, %h2, H2⟩, ⟨%f3, %h3, H3⟩⟩
  iapply (wp_load 𝒱₀ _ none Set.univ (m := arg2) (S := arg2.view.set) (View.setOn_subset_set _ _)) $$ H2; iintro H2
  iapply (wp_load 𝒱₀ _ none Set.univ (m := arg3) (S := arg3.view.set) (View.setOn_subset_set _ _)) $$ H3; iintro H3
  iapply (wp_store_writes₀ 𝒱₀ (c.tc : Thread nD τ) none Set.univ (m := arg3) (S := arg3.view.set) (f := f3) (View.set_slice_subset _ _)) $$ H3; iintro H3
  rw [wp_ret]
  imodintro
  isplitl [H2]
  · iexists f2
    isplitr [H2]
    · ipureintro; exact h2
    · iexact H2
  · iexists _
    isplitr [H3]
    swap
    · iexact H3
    · ipureintro
      refine (whole_write arg3 f3 _).trans (congrArg k1_pay1 ?_)
      rw [← h2]
      exact whole_read arg2 f2

/-! ## The blocks -/

/-- Block `j` of batch `b`, of the pixels past the SparseCores'. -/
def blkX (X : S4x24x8x65536.Idx → F .f32) (b j : ℕ) : S1x24x8x8192.Idx → F .f32 :=
  fun x => X (fun a => match a with
    | ⟨0, _⟩ => Fin.ofNat 4 b
    | ⟨1, _⟩ => Fin.ofNat 24 (x 1).val
    | ⟨2, _⟩ => Fin.ofNat 8 (x 2).val
    | ⟨3, _⟩ => Fin.ofNat 65536 ((3 + j) * 8192 + (x 3).val))

/-- The disparities of every block. -/
def tcG (X : S4x24x8x65536.Idx → F .f32) : S163840.Idx → F .f32 :=
  fun y => k1_pay1 (blkX X ((y 0).val / 40960) ((y 0).val % 40960 / 8192)) (fun a => match a with | ⟨0, _⟩ => Fin.ofNat 8192 ((y 0).val % 8192))

/-- Where the input's block is, at each point. -/
theorem ix0 : ∀ t : Fin grid1.N, win1_0.index t 0 = t.val / 5 ∧ win1_0.index t 1 = 0 ∧ win1_0.index t 2 = 0 ∧ win1_0.index t 3 = 3 + t.val % 5 := by
  decide +kernel

/-- Where the result's block is, at each point. -/
theorem ix1 : ∀ t : Fin grid1.N, win1_1.index t 0 = t.val ∧ win1_1.xsize (grid1.coords t) 0 = 8192 := by
  decide +kernel

/-- The input's block, read off the array. -/
theorem blk_read (X : S4x24x8x65536.Idx → F .f32) (t : Fin grid1.N) :
    (win1_0.blk t).view.read (Elt F) X = blkX X (t.val / 5) (t.val % 5) := by
  have ht : t.val < 20 := t.isLt.trans_eq N_1
  obtain ⟨e0, e1, e2, e3⟩ := ix0 t
  funext x
  unfold blkX
  have h0 : (x 0).val < 1 := (x 0).isLt
  have h1 : (x 1).val < 24 := (x 1).isLt
  have h2 : (x 2).val < 8 := (x 2).isLt
  have h3 : (x 3).val < 8192 := (x 3).isLt
  refine (show (win1_0.blk t).view.read (Elt F) X x = X ((win1_0.blk t).view.emb x) from rfl).trans (congrArg X (funext fun a => Fin.ext ?_))
  match a with
  | ⟨0, _⟩ =>
    show win1_0.index t 0 * 1 + 1 * (x 0).val = t.val / 5 % 4
    omega
  | ⟨1, _⟩ =>
    show win1_0.index t 1 * 24 + 1 * (x 1).val = (x 1).val % 24
    omega
  | ⟨2, _⟩ =>
    show win1_0.index t 2 * 8 + 1 * (x 2).val = (x 2).val % 8
    omega
  | ⟨3, _⟩ =>
    show win1_0.index t 3 * 8192 + 1 * (x 3).val = ((3 + t.val % 5) * 8192 + (x 3).val) % 65536
    omega

/-- The result's block of all the disparities is that block's. -/
theorem blk_tcG (X : S4x24x8x65536.Idx → F .f32) (t : Fin grid1.N) :
    (win1_1.blk t).view.read (Elt F) (tcG X) = k1_pay1 (blkX X (t.val / 5) (t.val % 5)) := by
  have ht : t.val < 20 := t.isLt.trans_eq N_1
  obtain ⟨e0, -⟩ := ix1 t
  funext x
  refine (show (win1_1.blk t).view.read (Elt F) (tcG X) x = tcG X ((win1_1.blk t).view.emb x) from rfl).trans ?_
  unfold tcG
  have h0 : (x 0).val < 8192 := (x 0).isLt
  have e : (((win1_1.blk t).view.emb x) 0).val = t.val * 8192 + (x 0).val := by
    show win1_1.index t 0 * 8192 + 1 * (x 0).val = _
    omega
  rw [e, show (t.val * 8192 + (x 0).val) / 40960 = t.val / 5 by omega, show (t.val * 8192 + (x 0).val) % 40960 / 8192 = t.val % 5 by omega]
  refine congrArg (k1_pay1 (blkX X (t.val / 5) (t.val % 5))) (funext fun a => Fin.ext ?_)
  obtain rfl : a = (0 : Fin 1) := Subsingleton.elim (α := Fin 1) _ _
  show (t.val * 8192 + (x 0).val) % 8192 % 8192 = (x 0).val
  omega

/-- An index of the result is in point `t`'s block. -/
theorem mem_blk (t : Fin grid1.N) (i : S163840.Idx) :
    i ∈ (win1_1.blk t).view.set ↔ t.val * 8192 ≤ (i 0).val ∧ (i 0).val < t.val * 8192 + 8192 := by
  obtain ⟨e0, e1⟩ := ix1 t
  show i ∈ ((View.whole main_v4).slice (win1_1.rect t)).set ↔ _
  rw [View.set_slice_whole, Rect.mem_set_unit]
  refine ⟨fun h => ?_, fun h a => ?_⟩
  · have := h 0
    have h' : win1_1.index t 0 * 8192 ≤ (i 0).val ∧ (i 0).val < win1_1.index t 0 * 8192 + win1_1.xsize (grid1.coords t) 0 := this
    rw [e0, e1] at h'
    exact h'
  · obtain rfl : a = (0 : Fin 1) := Subsingleton.elim (α := Fin 1) _ _
    show win1_1.index t 0 * 8192 ≤ (i 0).val ∧ (i 0).val < win1_1.index t 0 * 8192 + win1_1.xsize (grid1.coords t) 0
    rw [e0, e1]
    exact h

/-- The blocks tile the result. -/
theorem cover (i : S163840.Idx) : ∃ t : Fin cfg1.N, (cfg1.win 1).flush t = true ∧ i ∈ ((cfg1.win 1).blk t).view.set := by
  have h0 : (i 0).val < 163840 := (i 0).isLt
  have hN : cfg1.N = 20 := N_1
  have ht : (i 0).val / 8192 < cfg1.N := by omega
  refine ⟨⟨(i 0).val / 8192, ht⟩, flush1_1 _, (mem_blk _ i).2 ?_⟩
  show (i 0).val / 8192 * 8192 ≤ (i 0).val ∧ (i 0).val < (i 0).val / 8192 * 8192 + 8192
  omega

/-! ## The pipeline's data -/

section Data
variable (VV : (c : Dev nD) → (b : Ref sig .tc) → Buf (Elt F) ((c.tc : Thread nD τ).loc b))

/-- What the waits recorded before the region may be. -/
abbrev recd (c : Dev nD) : Set (SemLoc sig × HIx 1) := {p | (K (F := F)).lev ((c.tc : Thread nD τ), p.1) p.2 ≤ 8 * 1}

/-- The region's data: the arrays as found; after the body, the fetched block and its disparities. -/
def dats (_ : Fin 1) (c : Dev nD) : Dat τ (Elt F) (HIx 1) ℕ UU ℕ cfg1 c where
  A w := VV c (Pipeline.arrRef spec1 w)
  after w t := match w with
    | ⟨0, _⟩ => blkX (VV c main_v1) (t.val / 5) (t.val % 5)
    | ⟨1, _⟩ => k1_pay1 (blkX (VV c main_v1) (t.val / 5) (t.val % 5))
  Φ _ := iprop(emp)
  q _ := fullShare
  owed _ := 0
  recorded _ := recd (F := F) c

theorem A_eq (c : Dev nD) (w : Fin cfg1.W) : (dats VV 0 c).A w = VV c (Pipeline.arrRef spec1 w) := by
  dsimp only [dats]

/-- The fetched window's buffer holds the array's block when the body runs. -/
theorem before_in (c : Dev nD) (t : Fin cfg1.N) (x : (cfg1.win 0).block.Idx → Elt F (cfg1.win 0).elt) :
    (dats VV 0 c).before 0 t x = blkX (VV c main_v1) (t.val / 5) (t.val % 5) := by
  unfold Dat.before
  rw [if_pos (fetch1_0 t)]
  exact blk_read (VV c main_v1) t

/-- The body, at each point. -/
theorem body_obligation (c : Dev nD) : Pipeline.BodyObligation (dats VV 0 c) (defs₀ (F := F)) 𝒱₀ (none : HIx 1) Set.univ := fun t => by
  rw [bigSep_W1, bigSep_W1]
  show iprop(emp ∗ (dats VV 0 c).owesAt (none : HIx 1) t.castSucc
      ∗ (∃ d, owns (c.tc : Thread nD τ) (st1_0 t) fullShare ((dats VV 0 c).before 0 t d)) ∗ (∃ d, owns (c.tc : Thread nD τ) (st1_1 t) fullShare ((dats VV 0 c).before 1 t d)))
    ⊢ wp frame (wpE (defs₀ (F := F)) 𝒱₀ (c.tc : Thread nD τ) none) Set.univ (bodyAt1 t) fun _ => iprop(emp ∗ (dats VV 0 c).owesAt (none : HIx 1) t.castSucc
      ∗ owns (c.tc : Thread nD τ) (st1_0 t) fullShare (blkX (VV c main_v1) (t.val / 5) (t.val % 5))
      ∗ owns (c.tc : Thread nD τ) (st1_1 t) fullShare (k1_pay1 (blkX (VV c main_v1) (t.val / 5) (t.val % 5))))
  iintro ⟨-, HO, ⟨%d0, H0⟩, ⟨%d1, H1⟩⟩
  rw [before_in]
  iapply (wp_wand_r frame (wpE (defs₀ (F := F)) 𝒱₀ (c.tc : Thread nD τ) none) Set.univ)
  isplitl [H0 H1]
  · iapply (tc_body c (grid1.coords t) (st1_0 t) (hstage1_0 ((cfg1.slots t 0).cast nbuf1_0)) (st1_1 t) (hstage1_1 ((cfg1.slots t 1).cast nbuf1_1))
      (blkX (VV c main_v1) (t.val / 5) (t.val % 5)) ((dats VV 0 c).before 1 t d1))
    isplitl [H0]; · iexact H0
    iexact H1
  iintro %u ⟨H0, H1⟩
  isplitr; · iempintro
  isplitl [HO]; · iexact HO
  isplitl [H0] <;> iassumption

/-- The result's array, at the end. -/
theorem final_v4 (c : Dev nD) : (dats VV 0 c).arrAt 1 cfg1.N = tcG (VV c main_v1) :=
  (dats VV 0 c).arrAt_eq_of_cover 1 (tcG (VV c main_v1)) (fun t _ => (blk_tcG (VV c main_v1) t).symm) cover

/-- The tables' admissible contents: no table. -/
abbrev adm : (p : Fin 1) → (pcfgs (F := F) p).Adm := fun p => (cfgs p).toPCfg_adm

/-- The kernel has no semaphore of its own. -/
abbrev osem : Fin 0 → SemLoc sig := fun a => a.elim0

theorem ownSemFacts : Pipeline.OwnSemFacts spec1 osem := by decide

/-- What the core owes outside the region: nothing; what its waits recorded, the call's and the region's. -/
abbrev RR (c : Dev nD) : sProp 𝕄 := iprop(∃ W, ⌜(K (F := F)).WBelow (c.tc : Thread nD τ) W (8 * 1)⌝ ∗ owes (c.tc : Thread nD τ) (0 : CellTallies nD τ sig (HIx 1)) W)

/-- What the region leaves as found, and the result. -/
abbrev Tpost (c : Dev nD) : sProp 𝕄 :=
  iprop(((c.tc : Thread nD τ).loc main_arg0 ↦{fullShare} VV c main_arg0) ∗ ((c.tc : Thread nD τ).loc main_v3 ↦{fullShare} VV c main_v3)
    ∗ ((c.tc : Thread nD τ).loc main_v4 ↦{fullShare} tcG (VV c main_v1)) ∗ ((c.tc : Thread nD τ).loc main_v5 ↦{fullShare} VV c main_v5)
    ∗ ((c.tc : Thread nD τ).loc main_v6 ↦{fullShare} VV c main_v6))

theorem lev_none (g : GSem nD τ sig) : (K (F := F)).lev g none = 0 := by
  simp [SparseCore.Cfg.lev]

set_option backward.isDefEq.respectTransparency.types false in
/-- The region: entered from the unscoped buffers, left with the result's array at every block's disparities. -/
def reg : Pipeline.RegionSeg (pcfgs (F := F)) adm (dats VV) (none : HIx 1) defs₀ 𝒱₀ (K (F := F)).L (K (F := F)).lev 0 where
  win := launch1.win.to₀
  block_pos := launch1.block_pos
  stage_whole := launch1.stage_whole
  K := Fin 0
  osem := osem
  ho := ownSemFacts
  hbody c := (body_obligation VV c).loose
  hwaits := Pipeline.hwaits_of_owed_zero _ _ _ _ (K (F := F)).L (K (F := F)).lev 0 fun _ _ => rfl
  pre c := iprop(unscopedBufs c (VV c) ∗ RR c)
  post c := iprop(Tpost VV c ∗ RR c)
  X c := iprop(emp)
  Y c := iprop(emp)
  Z c := iprop(((c.tc : Thread nD τ).loc main_arg0 ↦{fullShare} VV c main_arg0) ∗ ((c.tc : Thread nD τ).loc main_v3 ↦{fullShare} VV c main_v3)
    ∗ ((c.tc : Thread nD τ).loc main_v5 ↦{fullShare} VV c main_v5) ∗ ((c.tc : Thread nD τ).loc main_v6 ↦{fullShare} VV c main_v6))
  hentry c := by
    have hsplit := (Pipeline.arrays_of_unscopedBufs (pcfgs (F := F)) adm (dats VV) launch1.win launch1.arr_whole c
      ((dats VV 0 c).share_full fun _ => rfl) (VV c) (A_eq VV c)).trans (sep_mono .rfl (Entails.of_eq (unscopedRest1_eq c (VV c))))
    iintro ⟨⟨Hub, HO⟩, -, -⟩
    ihave H := hsplit $$ Hub
    icases H with ⟨Ha, H0, -, -, H3, H5, H6⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro
        exact fun p hp => Or.inl (hW p hp)
      iexact HO
    isplitr; · iempintro
    isplitl [H0]; · iexact H0
    isplitl [H3]; · iexact H3
    isplitl [H5] <;> iassumption
  hin c := by
    rw [show (dats VV 0 c).Φ 0 = iprop(emp) from rfl]
    iintro -
    iempintro
  hout c := by
    rw [show (dats VV 0 c).Φ (Fin.last cfg1.N) = iprop(emp) from rfl, scopedRest1_eq]
    unfold Pipeline.ownSems0
    rw [show (Finset.univ : Finset (Fin 0)) = ∅ from rfl, BI.bigSep_empty]
    iintro -
    isplitr; · iempintro
    isplitr <;> iempintro
  hexit c := by
    rw [Pipeline.arrays_eq (Pipeline.pin (pcfgs (F := F)) adm) (dats VV) 0 c launch1.arr_whole ((dats VV 0 c).share_full fun _ => rfl), bigSep_W1]
    rw [show (dats VV 0 c).arrAt 1 (Pipeline.pin (pcfgs (F := F)) adm 0).N = tcG (VV c main_v1) from final_v4 VV c]
    iintro ⟨⟨-, H4⟩, HO, -, H0, H3, H5, H6⟩
    imodintro
    isplitr [HO]
    · isplitl [H0]; · iexact H0
      isplitl [H3]; · iexact H3
      isplitl [H4]; · iexact H4
      isplitl [H5] <;> iassumption
    · unfold Pipeline.Dat.owesAt Pipeline.owesWithin
      icases HO with ⟨%W, %hW, HO⟩
      iexists W
      isplitr
      · ipureintro
        intro p hp
        rcases hW hp with h | ⟨w, s, rfl⟩
        · exact h
        · rw [lev_none]; omega
      iexact HO

end Data

end

end Cert.Proof.KernelIdeal
-- ==== Proof.Values.lean ====
/-
  @main's values: what its buffers hold after each operation and call.
-/
module

public import proofs.«01_k».proof.Proof.Region

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

end

section Main
variable [FloatOps F]

/-! ## The launch: @main's values, its rule, the run -/

open Idealize.ShloMosaic.StableHlo (held wp_hlo_within)

/-- The TensorCore's unscoped references, as device buffers. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W (Proc.devRef .tc b)) : sProp 𝕄) = held (c.tc : Thread nD τ) ucRefs W := by
  unfold unscopedBufs StableHlo.held ucRefs StableHlo.tcRefs
  rw [Finset.filter_map, bigSep_map]; rfl

/-- A host operation names unscoped buffers only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The unscoped buffers, one by one. -/
theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0)
      ∗ ((d.tc : Thread nD τ).loc main_v0 ↦{fullShare} W main_v0) ∗ ((d.tc : Thread nD τ).loc main_v1 ↦{fullShare} W main_v1)
      ∗ ((d.tc : Thread nD τ).loc main_v2 ↦{fullShare} W main_v2) ∗ ((d.tc : Thread nD τ).loc main_v3 ↦{fullShare} W main_v3)
      ∗ ((d.tc : Thread nD τ).loc main_v4 ↦{fullShare} W main_v4) ∗ ((d.tc : Thread nD τ).loc main_v5 ↦{fullShare} W main_v5)
      ∗ ((d.tc : Thread nD τ).loc main_v6 ↦{fullShare} W main_v6)) := by
  unfold unscopedBufs
  rw [show (Finset.univ.filter fun b : Ref sig .tc => ¬ b.isScoped)
      = {main_arg0, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! @main's steps as operations on valuations: its host operations, and the two calls as the operations they are. -/

abbrev opT : HloOp τ sig (Elt F) := StableHlo.unary main_arg0 main_v0 ((transpose S4x192x65536 [0, 2, 1] · transposes_S4x65536x192_S4x192x65536_0_2_1) : (⟨S4x65536x192, .f32⟩ : BufTy).Contents (Elt F) → (⟨S4x192x65536, .f32⟩ : BufTy).Contents (Elt F))
abbrev opR : HloOp τ sig (Elt F) := StableHlo.reshape main_v0 main_v1 (rfl : (.f32 : EltTy) = .f32) shapeCasts_S4x192x65536_S4x24x8x65536
/-- The SparseCore call's effect on the buffers. -/
abbrev opS : HloOp τ sig (Elt F) := StableHlo.unary main_v1 main_v2 ((fun A => resG A) : (⟨S4x24x8x65536, .f32⟩ : BufTy).Contents (Elt F) → (⟨S98304, .f32⟩ : BufTy).Contents (Elt F))
abbrev op3 : HloOp τ sig (Elt F) := StableHlo.reshape main_v2 main_v3 (rfl : (.f32 : EltTy) = .f32) shapeCasts_S98304_S4x24576
/-- The TensorCore call's effect on the buffers. -/
abbrev opP : HloOp τ sig (Elt F) := StableHlo.unary main_v1 main_v4 ((fun A => tcG A) : (⟨S4x24x8x65536, .f32⟩ : BufTy).Contents (Elt F) → (⟨S163840, .f32⟩ : BufTy).Contents (Elt F))
abbrev op5 : HloOp τ sig (Elt F) := StableHlo.reshape main_v4 main_v5 (rfl : (.f32 : EltTy) = .f32) shapeCasts_S163840_S4x40960
abbrev opC : HloOp τ sig (Elt F) := StableHlo.binary main_v3 main_v5 main_v6 ((fun a b => concatenate S4x65536 1 [⟨S4x24576, a⟩, ⟨S4x40960, b⟩] concatenates_S4x24576_S4x40960_S4x65536_d1) : (⟨S4x24576, .f32⟩ : BufTy).Contents (Elt F) → (⟨S4x40960, .f32⟩ : BufTy).Contents (Elt F) → (⟨S4x65536, .f32⟩ : BufTy).Contents (Elt F))

variable (m : (ℓ : Loc nD τ sig) → Buf (Elt F) ℓ) (ρ : Dev nD → PrngReg)

def W0 (d : Dev nD) : Valuation τ sig (Elt F) := fun b => m (d, b)
def W1 (d : Dev nD) : Valuation τ sig (Elt F) := (opT (F := F)).result (W0 m d)
def W2 (d : Dev nD) : Valuation τ sig (Elt F) := (opR (F := F)).result (W1 m d)
def W3 (d : Dev nD) : Valuation τ sig (Elt F) := (opS (F := F)).result (W2 m d)
def W4 (d : Dev nD) : Valuation τ sig (Elt F) := (op3 (F := F)).result (W3 m d)
def W5 (d : Dev nD) : Valuation τ sig (Elt F) := (opP (F := F)).result (W4 m d)
def W6 (d : Dev nD) : Valuation τ sig (Elt F) := (op5 (F := F)).result (W5 m d)
def W7 (d : Dev nD) : Valuation τ sig (Elt F) := (opC (F := F)).result (W6 m d)

/-- What the two calls read: the input, channels first. -/
abbrev Ain (d : Dev nD) : S4x24x8x65536.Idx → F .f32 :=
  shapeCast S4x24x8x65536 (transpose S4x192x65536 [0, 2, 1] (m ((d.tc : Thread nD τ).loc main_arg0) : S4x65536x192.Idx → F .f32) transposes_S4x65536x192_S4x192x65536_0_2_1)
    shapeCasts_S4x192x65536_S4x24x8x65536
/-- What the SparseCore call's result array holds before it. -/
abbrev fo (d : Dev nD) : S98304.Idx → F .f32 := m ((d.tc : Thread nD τ).loc main_v2)
/-- @main's result. -/
abbrev OUT (d : Dev nD) : S4x65536.Idx → F .f32 :=
  concatenate S4x65536 1 [⟨S4x24576, shapeCast S4x24576 (resG (Ain m d)) shapeCasts_S98304_S4x24576⟩,
    ⟨S4x40960, shapeCast S4x40960 (tcG (Ain m d)) shapeCasts_S163840_S4x40960⟩] concatenates_S4x24576_S4x40960_S4x65536_d1

theorem W2_v1 (d : Dev nD) : W2 m d (Proc.devRef .tc main_v1) = Ain m d := by
  unfold W2 W1
  exact (StableHlo.reshape_result main_v0 main_v1 _ _ _ _ _).trans (by rw [StableHlo.unary_result]; rfl)
theorem W2_v2 (d : Dev nD) : W2 m d (Proc.devRef .tc main_v2) = fo m d := by
  unfold W2 W1
  rw [StableHlo.reshape_result_ne _ _ _ _ _ _ _ (by decide), StableHlo.unary_result_ne _ _ _ _ _ _ (by decide)]; rfl

/-- The SparseCore call's effect, buffer by buffer. -/
theorem W3_v2 (d : Dev nD) : W3 m d (Proc.devRef .tc main_v2) = resG (Ain m d) := by
  unfold W3; rw [StableHlo.unary_result, W2_v1]
theorem W3_ne (d : Dev nD) {r : Ref sig .tc} (h : r ≠ main_v2) : W3 m d (Proc.devRef .tc r) = W2 m d (Proc.devRef .tc r) := by
  unfold W3; exact StableHlo.unary_result_ne _ _ _ _ _ _ h
theorem W4_ne (d : Dev nD) {r : Ref sig .tc} (h : r ≠ main_v3) : W4 m d (Proc.devRef .tc r) = W3 m d (Proc.devRef .tc r) := by
  unfold W4; exact StableHlo.reshape_result_ne _ _ _ _ _ _ _ h
theorem W4_v1 (d : Dev nD) : W4 m d (Proc.devRef .tc main_v1) = Ain m d := by
  rw [W4_ne m d (by decide), W3_ne m d (by decide), W2_v1]
theorem W4_v3 (d : Dev nD) : W4 m d (Proc.devRef .tc main_v3) = shapeCast S4x24576 (resG (Ain m d)) shapeCasts_S98304_S4x24576 := by
  unfold W4
  exact (StableHlo.reshape_result main_v2 main_v3 _ _ _ _ _).trans (by rw [W3_v2]; rfl)

theorem W5_v4 (d : Dev nD) : W5 m d (Proc.devRef .tc main_v4) = tcG (Ain m d) := by
  unfold W5; rw [StableHlo.unary_result, W4_v1]
theorem W5_ne (d : Dev nD) {r : Ref sig .tc} (h : r ≠ main_v4) : W5 m d (Proc.devRef .tc r) = W4 m d (Proc.devRef .tc r) := by
  unfold W5; exact StableHlo.unary_result_ne _ _ _ _ _ _ h
theorem W6_v5 (d : Dev nD) : W6 m d (Proc.devRef .tc main_v5) = shapeCast S4x40960 (tcG (Ain m d)) shapeCasts_S163840_S4x40960 := by
  unfold W6
  exact (StableHlo.reshape_result main_v4 main_v5 _ _ _ _ _).trans (by rw [W5_v4]; rfl)
theorem W6_ne (d : Dev nD) {r : Ref sig .tc} (h : r ≠ main_v5) : W6 m d (Proc.devRef .tc r) = W5 m d (Proc.devRef .tc r) := by
  unfold W6; exact StableHlo.reshape_result_ne _ _ _ _ _ _ _ h

theorem W7_v6 (d : Dev nD) : W7 m d (Proc.devRef .tc main_v6) = OUT m d := by
  unfold W7; rw [StableHlo.binary_result, W6_v5, W6_ne m d (by decide), W5_ne m d (by decide), W4_v3]
theorem W7_arg0 (d : Dev nD) : W7 m d (Proc.devRef .tc main_arg0) = m ((d.tc : Thread nD τ).loc main_arg0) := by
  unfold W7
  rw [StableHlo.binary_result_ne _ _ _ _ _ _ _ _ (by decide), W6_ne m d (by decide), W5_ne m d (by decide), W4_ne m d (by decide), W3_ne m d (by decide)]
  unfold W2 W1
  rw [StableHlo.reshape_result_ne _ _ _ _ _ _ _ (by decide), StableHlo.unary_result_ne _ _ _ _ _ _ (by decide)]; rfl

end Main

section

end

end Cert.Proof.KernelIdeal
-- ==== Proof.Deal.lean ====
/-
  The SparseCore call as the launch sees it: what each SparseCore and each task is handed and hands back, and that they add up.
-/
module

public import proofs.«01_k».proof.Proof.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

/-! ## What the SparseCore call is handed, and hands back -/

section Deal

abbrev xLoc (d : Dev nD) : Loc nD τ sig := (SparseCore.T d).loc main_v1
abbrev oLoc (d : Dev nD) : Loc nD τ sig := (SparseCore.T d).loc main_v2

/-- The two SparseCores' read shares of the cost volume. -/
abbrev qC (c : Fin 2) : PosShare TreeShare := Transfers.dealOf fullShare (Finset.univ : Finset (Fin 2)) c
/-- The sixteen tasks' shares of their SparseCore's. -/
abbrev qV (c : Fin 2) (i : Fin 16) : PosShare TreeShare := Transfers.dealOf (qC c) (Finset.univ : Finset (Fin 16)) i

/-- The pixels one SparseCore's tasks fill. -/
def oCore (c : Fin 2) : Finset S98304.Idx := Finset.univ.biUnion fun j : Fin 16 => oRow (2 * j.val + c.val)

theorem nCore_zero : (K (F := F)).nCore 0 = 2 := rfl

variable (A : Dev nD → S4x24x8x65536.Idx → F .f32) (fo : Dev nD → S98304.Idx → F .f32)

abbrev stP (d : Dev nD) (c : Fin 2) (g : S98304.Idx → F .f32) : sProp 𝕄 :=
  iprop((xLoc d ↦{qC c} A d) ∗ oLoc d ↦[oCore c]{fullShare} g)
abbrev goP (d : Dev nD) (c : Fin 2) (i : Fin 16) (g : S98304.Idx → F .f32) : sProp 𝕄 :=
  iprop((xLoc d ↦{qV c i} A d) ∗ oLoc d ↦[oRow (2 * i.val + c.val)]{fullShare} g)

/-- The call takes the volume to read and the result to fill; each SparseCore, and each of its tasks, a share of the one
    and its own pixels of the other. -/
def P : (K (F := F)).Pay (nD := nD) (Val := Elt F) (Name := ℕ) (U := UU) where
  st := fun q d c => match q with | 0 => stP A d (Fin.cast nCore_zero c) (fo d)
  dn := fun q d c => match q with | 0 => stP A d (Fin.cast nCore_zero c) (resG (A d))
  go := fun q d c i => match q with | 0 => goP A d (Fin.cast nCore_zero c) (Fin.cast nSub_zero i) (fo d)
  td := fun q d c i => match q with | 0 => goP A d (Fin.cast nCore_zero c) (Fin.cast nSub_zero i) (resG (A d))
  x := fun _ _ => iprop(emp)

instance P_storable : (P (F := F) A fo).IsStorable where
  st q d c := match q with
    | 0 => (inferInstance : BI.Storable (upEmb : UEmb _ 𝕄) (stP A d (Fin.cast nCore_zero c) (fo d)))
  dn q d c := match q with
    | 0 => (inferInstance : BI.Storable (upEmb : UEmb _ 𝕄) (stP A d (Fin.cast nCore_zero c) (resG (A d))))
  go q d c i := match q with
    | 0 => (inferInstance : BI.Storable (upEmb : UEmb _ 𝕄) (goP A d (Fin.cast nCore_zero c) (Fin.cast nSub_zero i) (fo d)))
  td q d c i := match q with
    | 0 => (inferInstance : BI.Storable (upEmb : UEmb _ 𝕄) (goP A d (Fin.cast nCore_zero c) (Fin.cast nSub_zero i) (resG (A d))))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_disp_kernel (coordsV c s) xW (Memref.isWhole_whole _) oW (Memref.isWhole_whole _)
          (Memref.whole cc0_scratch0) (Memref.isWhole_whole _) (Memref.whole cc0_scratch1) (Memref.isWhole_whole _) (Memref.whole cc0_scratch2)
          (Memref.isWhole_whole _) cc0_scratch3 cc0_scratch4 cc0_scoped0) ⟨⟩ c s := rfl

/-- Waits recorded at no index may also be called the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

/-- Every task of the call: the body, at its place. -/
theorem tileObl (hF : (K (F := F)).Facts) : (K (F := F)).TileObl (D (F := F)) 𝒱 (P A fo) v₀ 0 := by
  intro d c i O W hO _ _
  simp only [show (P A fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  refine BI.Entails.trans ?_ ((tile_body d (coordsV ⟨_, hc.1⟩ ⟨_, hc.2⟩) hF (A d) (qV (Fin.cast nCore_zero c) (Fin.cast nSub_zero i)) (fo d) O W hO).trans
    (wp_mono frame _ _ fun _ => obl_post))
  show iprop(levAts (K (F := F)).L (K (F := F)).lev ∗ emp ∗ goP A d (Fin.cast nCore_zero c) (Fin.cast nSub_zero i) (fo d) ∗ _ ∗ _ ∗ _) ⊢ _
  iintro ⟨Hl, -, ⟨Hx, Ho⟩, Hb, Hs, HO⟩
  isplitl [Hl]; · iexact Hl
  isplitl [Hx Ho]
  · isplitl [Hx]; · iexact Hx
    iexact Ho
  isplitl [Hb]; · iexact Hb
  isplitl [Hs]; · iexact Hs
  iexact HO

/-! ## Dealing the volume and the result -/

theorem oRow_disjoint {a b : ℕ} (h : a ≠ b) : Disjoint (oRow a) (oRow b) :=
  Finset.disjoint_left.mpr fun y hy hy' => h ((Finset.mem_filter.mp hy).2.symm.trans (Finset.mem_filter.mp hy').2)

theorem oCore_disjoint : ∀ c ∈ (Finset.univ : Finset (Fin 2)), ∀ c' ∈ (Finset.univ : Finset (Fin 2)), c ≠ c' → Disjoint (oCore c) (oCore c') := by
  intro c _ c' _ h
  refine (Finset.disjoint_biUnion_left _ _ _).mpr fun i _ => (Finset.disjoint_biUnion_right _ _ _).mpr fun j _ => oRow_disjoint fun e => h (Fin.ext ?_)
  have := c.isLt; have := c'.isLt
  omega

theorem oCore_cover : (Finset.univ : Finset (Fin 2)).biUnion oCore = (Finset.univ : Finset S98304.Idx) := by
  refine Finset.eq_univ_of_forall fun y => ?_
  have hy : (y 0).val < 98304 := (y 0).isLt
  refine Finset.mem_biUnion.mpr ⟨⟨(y 0).val / 3072 % 2, by omega⟩, Finset.mem_univ _, Finset.mem_biUnion.mpr ⟨⟨(y 0).val / 3072 / 2, by omega⟩, Finset.mem_univ _, ?_⟩⟩
  refine Finset.mem_filter.mpr ⟨Finset.mem_univ _, ?_⟩
  show (y 0).val / 3072 = 2 * ((y 0).val / 3072 / 2) + (y 0).val / 3072 % 2
  omega

/-- A SparseCore's part of the call, dealt to its tasks. -/
theorem st_deal (d : Dev nD) (c : Fin 2) (g : S98304.Idx → F .f32) :
    (stP A d c g : sProp 𝕄) = bigSep Finset.univ fun i : Fin 16 => goP A d c i g := by
  unfold stP goP
  rw [bigSep_sep']
  refine congrArg₂ (fun a b : sProp 𝕄 => iprop(a ∗ b)) (Transfers.pointsTo_deal (Finset.univ : Finset (Fin 16)) ⟨0, Finset.mem_univ _⟩ (qC c)) ?_
  exact pointsTo_biUnion Finset.univ (ℓ := oLoc d) (fun i : Fin 16 => oRow (2 * i.val + c.val))
    fun i _ j _ h => oRow_disjoint fun e => h (Fin.ext (by omega))

/-- The whole of the call, dealt to the SparseCores. -/
theorem all_deal (d : Dev nD) (g : S98304.Idx → F .f32) :
    (iprop((xLoc d ↦{fullShare} A d) ∗ oLoc d ↦{fullShare} g) : sProp 𝕄) = bigSep Finset.univ fun c : Fin 2 => stP A d c g := by
  unfold stP
  rw [bigSep_sep']
  refine congrArg₂ (fun a b : sProp 𝕄 => iprop(a ∗ b)) (Transfers.pointsTo_deal (Finset.univ : Finset (Fin 2)) ⟨0, Finset.mem_univ _⟩ fullShare) ?_
  rw [← pointsTo_biUnion Finset.univ (ℓ := oLoc d) oCore oCore_disjoint, oCore_cover]
  try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A sequencer deals its part and gathers it again. -/
theorem vecSplit : (K (F := F)).VecSplit' (P A fo) 0 := by
  intro d c
  show stP A d (Fin.cast nCore_zero c) (fo d) ⊢ |={Set.univ}=> iprop(
      (bigSep Finset.univ fun i : Fin ((K (F := F)).nSub 0) => goP A d (Fin.cast nCore_zero c) (Fin.cast nSub_zero i) (fo d))
      ∗ ((bigSep Finset.univ fun i : Fin ((K (F := F)).nSub 0) => goP A d (Fin.cast nCore_zero c) (Fin.cast nSub_zero i) (resG (A d)))
          -∗ stP A d (Fin.cast nCore_zero c) (resG (A d))))
  rw [bigSep_tasks (F := F) (fun i => goP A d (Fin.cast nCore_zero c) i (fo d)), bigSep_tasks (F := F) (fun i => goP A d (Fin.cast nCore_zero c) i (resG (A d))),
    st_deal A d _ (fo d), st_deal A d _ (resG (A d))]
  iintro H
  imodintro
  isplitl [H]; · iexact H
  iintro H
  iexact H

/-- What @main hands the call. -/
theorem st0_eq (d : Dev nD) : (bigSep Finset.univ fun c : Fin ((K (F := F)).nCore 0) => (P A fo).st 0 d c)
    = (iprop((xLoc d ↦{fullShare} A d) ∗ oLoc d ↦{fullShare} fo d) : sProp 𝕄) := by
  rw [all_deal]
  exact bigSep_cores (F := F) fun c => stP A d c (fo d)

/-- What the call hands @main. -/
theorem dn0_eq (d : Dev nD) : (bigSep Finset.univ fun c : Fin ((K (F := F)).nCore 0) => (P A fo).dn 0 d c)
    = (iprop((xLoc d ↦{fullShare} A d) ∗ oLoc d ↦{fullShare} resG (A d)) : sProp 𝕄) := by
  rw [all_deal]
  exact bigSep_cores (F := F) fun c => stP A d c (resG (A d))

end Deal

end

end Cert.Proof.KernelIdeal
-- ==== Proof.Run.lean ====
/-
  @main's rule and the run.
-/
module

public import proofs.«01_k».proof.Proof.Values
public import proofs.«01_k».proof.Proof.Deal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section
variable [FloatOps F] (d : Dev nD) (L : grid0.Coords)

end

section Run
variable [FloatOps F]

/-! ## @main's rule and the run -/

open Idealize.ShloMosaic.StableHlo (held wp_hlo_within)

variable (m : (ℓ : Loc nD τ sig) → Buf (Elt F) ℓ) (ρ : Dev nD → PrngReg)

/-- What the calls' ghost state is taken from at launch. -/
def u₀ : UU := (initOf (K (F := F)).hsCells (K (F := F)).hsToks, (initOf (Pipeline.cells cfgs cellOf_inj) (Pipeline.launchToks cfgs cellOf_inj), 1))

/-- The TensorCore call's ghost state on one core. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP × Counters) : (ownU (a, b) : sProp 𝕄) ⊢ iprop(BI.own (EH a) ∗ BI.own (EP b.1)) := by
  obtain ⟨b1, b2⟩ := b
  have h1 : (ownU (a, (b1, b2)) : sProp 𝕄) ⊢ iprop(BI.own (EH a)
      ∗ BI.own ((uEmb (nD := nD) (sig := sig) (Ix := HIx 1) (Val := Elt F) (Name := ℕ) (U := UU) (Lvl := ℕ)).toEmb ((1 : UH), (b1, b2)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b1, b2))))
  have h2 : (BI.own ((uEmb (nD := nD) (sig := sig) (Ix := HIx 1) (Val := Elt F) (Name := ℕ) (U := UU) (Lvl := ℕ)).toEmb ((1 : UH), (b1, b2))) : sProp 𝕄)
      ⊢ iprop(BI.own (EP b1)
        ∗ BI.own ((uEmb (nD := nD) (sig := sig) (Ix := HIx 1) (Val := Elt F) (Name := ℕ) (U := UU) (Lvl := ℕ)).toEmb ((1 : UH), ((1 : UP), b2)))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b1) (URA.mem_one_op b2))))
  iintro H
  ihave H' := h1 $$ H
  icases H' with ⟨Ha, Hb⟩
  ihave Hb' := h2 $$ Hb
  icases Hb' with ⟨Hb, -⟩
  isplitl [Ha] <;> iassumption

theorem bigSep_emp' {I : Type} (s : Finset I) : (bigSep s fun _ => iprop(emp)) = (iprop(emp) : sProp 𝕄) := bigSep_emp_const s

theorem P_x_emp (A : Dev nD → S4x24x8x65536.Idx → F .f32) (f : Dev nD → S98304.Idx → F .f32) :
    (bigSep Finset.univ fun thr : Thread nD τ => bigSep Finset.univ fun q : Fin 1 => (P A f).x q thr) = (iprop(emp) : sProp 𝕄) := by
  show (bigSep Finset.univ fun thr : Thread nD τ => bigSep Finset.univ fun q : Fin 1 => (iprop(emp) : sProp 𝕄)) = _
  rw [show (fun thr : Thread nD τ => bigSep Finset.univ fun q : Fin 1 => (iprop(emp) : sProp 𝕄)) = fun _ => iprop(emp) from funext fun _ => bigSep_emp' _,
    bigSep_emp']

theorem fund_G : BI.own (EP (initOf (Pipeline.cells cfgs cellOf_inj) (Pipeline.launchToks cfgs cellOf_inj)))
    ⊢ iprop(|==> bigSep Finset.univ fun d : Dev nD => (G d : sProp 𝕄)) := by
  have h := Pipeline.fund_ghost (nD := nD) (τ := τ) (Pipeline.pin (pcfgs (F := F)) adm) (EP (F := F)) cellOf_inj
  iintro H
  imod h $$ H with ⟨HC, HT⟩
  imodintro
  rw [bigSep_sep']
  have e1 : ∀ d : Dev nD, (bigSep Finset.univ fun p : Fin 1 => (Pipeline.cellsGhost (Pipeline.pin (pcfgs (F := F)) adm) EP p d : sProp 𝕄))
      = Pipeline.cellsGhost (Pipeline.pin (pcfgs (F := F)) adm) EP 0 d := fun d => bigSep_univ_of_subsingleton (0 : Fin 1)
  have e2 : ∀ d : Dev nD, (bigSep Finset.univ fun p : Fin 1 => (Pipeline.toksInit (Pipeline.pin (pcfgs (F := F)) adm) EP p d : sProp 𝕄))
      = Pipeline.toksInit (Pipeline.pin (pcfgs (F := F)) adm) EP 0 d := fun d => bigSep_univ_of_subsingleton (0 : Fin 1)
  ihave HC' := (Idealize.SL.BI.BIBase.Entails.of_eq (bigSep_congr fun d _ => e1 d)) $$ HC
  ihave HT' := (Idealize.SL.BI.BIBase.Entails.of_eq (bigSep_congr fun d _ => e2 d)) $$ HT
  isplitl [HC'] <;> iassumption

theorem hu₀ (A : Dev nD → S4x24x8x65536.Idx → F .f32) (f : Dev nD → S98304.Idx → F .f32) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P A f).x q thr) := by
  unfold u₀
  iintro Hu
  ihave H := (ownU_split _ _) $$ Hu
  icases H with ⟨HH, HK⟩
  imod (fund_G) $$ HK with HG
  imodintro
  isplitl [HH]; · iexact HH
  isplitl [HG]; · iexact HG
  rw [P_x_emp]; iempintro

/-- A host operation of @main: the boundary and the unscoped buffers, before and after. -/
theorem host_step (d : Dev nD) (op : HloOp τ sig (Elt F)) (hS : op.bufs ⊆ StableHlo.tcRefs τ sig) (W : Valuation τ sig (Elt F)) (hf : op.fresh = ∅)
    {Q : PUnit → sProp 𝕄} :
    iprop(boundary (d.tc : Thread nD τ) ∗ held (d.tc : Thread nD τ) ucRefs W
        ∗ ((boundary (d.tc : Thread nD τ) ∗ held (d.tc : Thread nD τ) ucRefs (op.result W)) -∗ Q ⟨⟩))
      ⊢ wp frame (wpE ((K (F := F)).defs (D (F := F))) 𝒱 (d.tc : Thread nD τ) none) Set.univ (hlo rfl op (fun _ => .ret ⟨⟩)) Q := by
  iintro ⟨Hb, Hh, Hk⟩
  iapply (wp_hlo_within 𝒱 (d.tc : Thread nD τ) none Set.univ (op := op) (S := ucRefs) (sub_ucRefs op hS) (V := W) hf) $$ [Hb Hh]
  · isplitl [Hb] <;> iassumption
  iintro H
  rw [wp_ret]
  imodintro
  iapply Hk; iexact H

/-- The values the region is entered at. -/
abbrev VVm (c : Dev nD) (b : Ref sig .tc) : Buf (Elt F) ((c.tc : Thread nD τ).loc b) := W4 m c (Proc.devRef .tc b)

/-- Before the SparseCore call: the arrays it reads and writes, and the rest. -/
theorem open2 (d : Dev nD) : (held (d.tc : Thread nD τ) ucRefs (W2 m d) : sProp 𝕄)
    ⊢ iprop(((xLoc d ↦{fullShare} Ain m d) ∗ oLoc d ↦{fullShare} fo m d)
      ∗ (((xLoc d ↦{fullShare} Ain m d) ∗ oLoc d ↦{fullShare} resG (Ain m d)) -∗ held (d.tc : Thread nD τ) ucRefs (W3 m d))) := by
  rw [← unscopedBufs_held, ← unscopedBufs_held, unscopedBufs_eq, unscopedBufs_eq, W2_v1, W2_v2, W3_v2, W3_ne m d (r := main_v1) (by decide), W2_v1,
    W3_ne m d (r := main_arg0) (by decide), W3_ne m d (r := main_v0) (by decide), W3_ne m d (r := main_v3) (by decide),
    W3_ne m d (r := main_v4) (by decide), W3_ne m d (r := main_v5) (by decide), W3_ne m d (r := main_v6) (by decide)]
  iintro ⟨H0, Hv0, H1, H2, H3, H4, H5, H6⟩
  isplitl [H1 H2]
  · isplitl [H1] <;> iassumption
  iintro ⟨H1, H2⟩
  isplitl [H0]; · iexact H0
  isplitl [Hv0]; · iexact Hv0
  isplitl [H1]; · iexact H1
  isplitl [H2]; · iexact H2
  isplitl [H3]; · iexact H3
  isplitl [H4]; · iexact H4
  isplitl [H5] <;> iassumption

/-- Entering the TensorCore call: its buffers, and what the core owes. -/
theorem open4 (d : Dev nD) : (iprop(held (d.tc : Thread nD τ) ucRefs (W4 m d)) : sProp 𝕄) ⊢ unscopedBufs d (VVm m d) :=
  Idealize.SL.BI.BIBase.Entails.of_eq (unscopedBufs_held d (W4 m d)).symm

/-- What the last two host operations touch. -/
def endRefs : Finset (DevRef τ sig) :=
  {Proc.devRef .tc main_arg0, Proc.devRef .tc main_v3, Proc.devRef .tc main_v4, Proc.devRef .tc main_v5, Proc.devRef .tc main_v6}

theorem held_end (d : Dev nD) (W : Valuation τ sig (Elt F)) :
    (held (d.tc : Thread nD τ) endRefs W : sProp 𝕄) = iprop(((d.tc : Thread nD τ).loc main_arg0 ↦{fullShare} W (Proc.devRef .tc main_arg0))
      ∗ ((d.tc : Thread nD τ).loc main_v3 ↦{fullShare} W (Proc.devRef .tc main_v3)) ∗ ((d.tc : Thread nD τ).loc main_v4 ↦{fullShare} W (Proc.devRef .tc main_v4))
      ∗ ((d.tc : Thread nD τ).loc main_v5 ↦{fullShare} W (Proc.devRef .tc main_v5)) ∗ ((d.tc : Thread nD τ).loc main_v6 ↦{fullShare} W (Proc.devRef .tc main_v6))) := by
  unfold StableHlo.held endRefs
  rw [SparseCore.bigSep_insert' (by decide), SparseCore.bigSep_insert' (by decide), SparseCore.bigSep_insert' (by decide),
    SparseCore.bigSep_insert' (by decide), bigSep_singleton]

/-- After the TensorCore call. -/
theorem post4 (d : Dev nD) : (Tpost (VVm m) d : sProp 𝕄) ⊢ held (d.tc : Thread nD τ) endRefs (W5 m d) := by
  rw [held_end, W5_v4, W5_ne m d (r := main_arg0) (by decide), W5_ne m d (r := main_v3) (by decide), W5_ne m d (r := main_v5) (by decide),
    W5_ne m d (r := main_v6) (by decide)]
  unfold Tpost
  rw [show VVm m d main_v1 = Ain m d from W4_v1 m d]

/-- A host operation on the last buffers. -/
theorem end_step (d : Dev nD) (op : HloOp τ sig (Elt F)) (hS : op.bufs ⊆ endRefs) (W : Valuation τ sig (Elt F)) (hf : op.fresh = ∅)
    {Q : PUnit → sProp 𝕄} :
    iprop(boundary (d.tc : Thread nD τ) ∗ held (d.tc : Thread nD τ) endRefs W
        ∗ ((boundary (d.tc : Thread nD τ) ∗ held (d.tc : Thread nD τ) endRefs (op.result W)) -∗ Q ⟨⟩))
      ⊢ wp frame (wpE ((K (F := F)).defs (D (F := F))) 𝒱 (d.tc : Thread nD τ) none) Set.univ (hlo rfl op (fun _ => .ret ⟨⟩)) Q := by
  iintro ⟨Hb, Hh, Hk⟩
  iapply (wp_hlo_within 𝒱 (d.tc : Thread nD τ) none Set.univ (op := op) (S := endRefs) hS (V := W) hf) $$ [Hb Hh]
  · isplitl [Hb] <;> iassumption
  iintro H
  rw [wp_ret]
  imodintro
  iapply Hk; iexact H

theorem op5_sub : (op5 (F := F)).bufs ⊆ endRefs :=
  show ({Proc.devRef .tc main_v4, Proc.devRef .tc main_v5} : Finset (DevRef τ sig)) ⊆ endRefs by decide
theorem opC_sub : (opC (F := F)).bufs ⊆ endRefs :=
  show ({Proc.devRef .tc main_v3, Proc.devRef .tc main_v5, Proc.devRef .tc main_v6} : Finset (DevRef τ sig)) ⊆ endRefs by decide

/-- The TensorCore call in @main. -/
theorem region_step [∀ e, Nonempty (Elt F e)] (VV : (c : Dev nD) → (b : Ref sig .tc) → Buf (Elt F) ((c.tc : Thread nD τ).loc b)) (d : Dev nD) {Q : PUnit → sProp 𝕄} :
    iprop((iprop(boundary (d.tc : Thread nD τ) ∗ Tpost VV d ∗ RR d) -∗ Q ⟨⟩)
        ∗ boundary (d.tc : Thread nD τ) ∗ (unscopedBufs d (VV d) ∗ RR d) ∗ levAts (K (F := F)).L (K (F := F)).lev ∗ G d)
      ⊢ wp frame (wpE ((K (F := F)).defs (D (F := F))) 𝒱 (d.tc : Thread nD τ) none) Set.univ
        (Prog.lift (.customCall (SparseCore.inner (Pipeline.entry 0)) ())) Q := by
  iintro ⟨Hk, Hb, Hpre, Hl, HG⟩
  iapply ((K (F := F)).wp_liftProg (D (F := F)) 𝒱 (d.tc : Thread nD τ) Set.univ none
    (.op (.customCall (Pipeline.entry (0 : Fin 1)) ()) fun u => .ret u) Q)
  iapply (Pipeline.RegionSeg.wp (pcfgs (F := F)) adm (dats VV) (none : HIx 1) cellOf_inj EP defs₀ 𝒱₀ (K (F := F)).L (K (F := F)).lev (reg VV) d none
    (fun _ h => nomatch h) (fun u => .ret u) Q)
  isplitl [Hk]
  · iintro ⟨Hb, Hp⟩
    rw [wp_ret]
    imodintro
    ihave Hp' := (Idealize.SL.BI.BIBase.Entails.of_eq (show (reg VV).post d = (iprop(Tpost VV d ∗ RR d) : sProp 𝕄) from rfl)) $$ Hp
    iapply Hk
    isplitl [Hb] <;> iassumption
  isplitl [Hb]; · iexact Hb
  isplitl [Hpre]
  · ihave H := (Idealize.SL.BI.BIBase.Entails.of_eq (show (iprop(unscopedBufs d (VV d) ∗ RR d) : sProp 𝕄) = (reg VV).pre d from rfl)) $$ Hpre
    iexact H
  isplitl [Hl]; · iexact Hl
  iexact HG

/-- What the run leaves in the input and the result. -/
abbrev FIN (d : Dev nD) : sProp 𝕄 :=
  iprop(((d.tc : Thread nD τ).loc main_arg0 ↦{fullShare} m ((d.tc : Thread nD τ).loc main_arg0)) ∗ ((d.tc : Thread nD τ).loc main_v6 ↦{fullShare} OUT m d))

theorem post7 (d : Dev nD) : (held (d.tc : Thread nD τ) endRefs (W7 m d) : sProp 𝕄) ⊢ FIN m d := by
  rw [held_end, W7_v6, W7_arg0]
  iintro ⟨H0, -, -, -, H6⟩
  isplitl [H0] <;> iassumption

/-- What the core owes after the SparseCore call: nothing. -/
theorem tcSt_open (d : Dev nD) : ((K (F := F)).tcSt EH d ((0 : Fin 1).val + 1) : sProp 𝕄) ⊢ iprop(RR d ∗ (RR d -∗ (K (F := F)).tcSt EH d 1)) := by
  unfold SparseCore.Cfg.tcSt
  rw [show (K (F := F)).Otc d ((0 : Fin 1).val + 1) = 0 from (K (F := F)).Otc_end d le_rfl, show (K (F := F)).Otc d 1 = 0 from (K (F := F)).Otc_end d le_rfl]
  iintro ⟨HO, Hr⟩
  isplitl [HO]; · iexact HO
  iintro HO
  isplitl [HO]; · iexact HO
  iexact Hr

/-- @main on one device's TensorCore. -/
theorem hmain [∀ e, Nonempty (Elt F e)] (κ : GSem nD τ sig → ℕ) (d : Dev nD) :
    iprop((K (F := F)).ctx EH (P (Ain m) (fo m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) ucRefs (W0 m d) from unscopedBufs_held d (W0 m d)]
  simp only [main, wp_bind, wp_pure]
  iintro ⟨#Hctx, Hst, ⟨Hb, Hh, Hts, -⟩, HG⟩
  iapply (host_step d opT (StableHlo.unary_bufs_sub _ _ _ _ _) (W0 m d) rfl)
  isplitl [Hb]; · iexact Hb
  isplitl [Hh]; · iexact Hh
  iintro ⟨Hb, Hh⟩
  iapply (host_step d opR (StableHlo.reshape_bufs_sub _ _ _ _ _ _) (W1 m d) rfl)
  isplitl [Hb]; · iexact Hb
  isplitl [Hh]; · iexact Hh
  iintro ⟨Hb, Hh⟩
  ihave Hh2 := (Idealize.SL.BI.BIBase.Entails.of_eq (show (held (d.tc : Thread nD τ) ucRefs ((opR (F := F)).result (W1 m d)) : sProp 𝕄) = held (d.tc : Thread nD τ) ucRefs (W2 m d) from rfl)) $$ Hh
  ihave Hh' := (open2 m d) $$ Hh2
  icases Hh' with ⟨Hxo, Hback⟩
  iapply ((K (F := F)).wp_run (D (F := F)) 𝒱 (EH := EH) (P := P (Ain m) (fo m)) κ d 0) $$ [Hst Hxo Hback Hb Hts HG]
  isplitr; · iexact Hctx
  isplitl [Hst]; · iexact Hst
  isplitl [Hxo]
  · rw [st0_eq]; iexact Hxo
  iintro ⟨Hst, Hdn⟩
  ihave Hdn' := (Idealize.SL.BI.BIBase.Entails.of_eq (dn0_eq (Ain m) (fo m) d)) $$ Hdn
  ihave Hh := Hback $$ Hdn'
  iapply (host_step d op3 (StableHlo.reshape_bufs_sub _ _ _ _ _ _) (W3 m d) rfl)
  isplitl [Hb]; · iexact Hb
  isplitl [Hh]; · iexact Hh
  iintro ⟨Hb, Hh⟩
  ihave Hh4 := (Idealize.SL.BI.BIBase.Entails.of_eq (show (held (d.tc : Thread nD τ) ucRefs ((op3 (F := F)).result (W3 m d)) : sProp 𝕄) = held (d.tc : Thread nD τ) ucRefs (W4 m d) from rfl)) $$ Hh
  ihave Hub := (open4 m d) $$ Hh4
  ihave Hst' := (tcSt_open d) $$ Hst
  icases Hst' with ⟨HO, Hclose⟩
  ihave Hlev := ((K (F := F)).ctx_levAts κ) $$ Hctx
  iapply (region_step (VVm m) d)
  isplitl [Hclose Hts]
  · iintro ⟨Hb, Hp, HO⟩
    ihave Hst := Hclose $$ HO
    ihave Hh := (post4 m d) $$ Hp
    iapply (end_step d op5 op5_sub (W5 m d) rfl)
    isplitl [Hb]; · iexact Hb
    isplitl [Hh]; · iexact Hh
    iintro ⟨Hb, Hh⟩
    iapply (end_step d opC opC_sub (W6 m d) rfl)
    isplitl [Hb]; · iexact Hb
    isplitl [Hh]; · iexact Hh
    iintro ⟨Hb, Hh⟩
    imodintro
    isplitl [Hst]; · iexact Hst
    isplitl [Hh]
    · iapply (post7 m d); iexact Hh
    isplitl [Hb] <;> iassumption
  isplitl [Hb]; · iexact Hb
  isplitl [Hub HO]
  · isplitl [Hub] <;> iassumption
  isplitr [HG]; · iexact Hlev
  iexact HG

/-- What the final memory holds. -/
def fq (d : Dev nD) (s' : Phys nD τ sig (Elt F)) : Prop :=
  s'.mem.mem ((d.tc : Thread nD τ).loc main_arg0) = m ((d.tc : Thread nD τ).loc main_arg0) ∧ s'.mem.mem ((d.tc : Thread nD τ).loc main_v6) = OUT m d

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := (d.tc : Thread nD τ).loc main_arg0) (I := Finset.univ) (q := fullShare) (f := m ((d.tc : Thread nD τ).loc main_arg0)))) $$ [HSI Hi]
  · isplitl [HSI] <;> iassumption
  icases H with ⟨%h1, HSI, -⟩
  ihave H := (SI_pointsTo_agree (st := s') (ℓ := (d.tc : Thread nD τ).loc main_v6) (I := Finset.univ) (q := fullShare) (f := OUT m d)) $$ [HSI Hx]
  · isplitl [HSI] <;> iassumption
  icases H with %h2
  ipureintro; exact ⟨funext fun i => h1 i (Finset.mem_univ i), funext fun i => h2 i (Finset.mem_univ i)⟩

def QC : PUnit × MemSt nD τ sig (Elt F) → Prop := fun r =>
  (∀ c : Dev nD, r.2.mem ((c.tc : Thread nD τ).loc main_arg0) = m ((c.tc : Thread nD τ).loc main_arg0)
    ∧ r.2.mem ((c.tc : Thread nD τ).loc main_v6) = OUT m c) ∧ r.2.sem = fun _ => 0

/-- The whole run: no error, no deadlock, every semaphore at zero, the input as found, the result at `OUT`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Ain m) (fo m)) (A := ∅) facts v₀
    (fun q hq => match q with | 0 => nomatch hq)
    (fun q _ => match q with | 0 => tileObl (Ain m) (fo m) facts)
    (fun q _ => match q with | 0 => SparseCore.Cfg.VecSplit.of_plain (vecSplit (Ain m) (fo m)))
    m ρ main (fun d => G d) (FIN m) (u₀ (F := F)) (sep_elim_left.trans (hu₀ (Ain m) (fo m))) (hmain m ρ) (fq m) (hfin m) (QC m) (fun _ h hz => ⟨h, hz⟩)

end Run

section

end

end Cert.Proof.KernelIdeal
-- ==== Proof.Pixel.lean ====
/-
  One pixel: 192 extended reals, the greatest of them and where it first is, the greatest of the others and where that
  first is, and the disparity these give. Nothing here speaks of a program's arrays.
-/
module

public import Idealize.ShloMosaic.PureOps.Ideal
public import Idealize.ShloMosaic.PureOps.Ideal.Laws
public import Idealize.ShloMosaic.Lib.SortFacts
public import Idealize.ShloMosaic.Lib.IdealHost

@[expose] public section

noncomputable section

namespace Cert.Proof.Pixel

open Idealize.ShloMosaic

/-- Among the first `n` values, `a` is the first place of the greatest, `m` is the greatest of the others, and `β` is
    the first place of that one (of no account when every other value is −∞). -/
structure Top (x : ℕ → EReal) (n a : ℕ) (m β : EReal) : Prop where
  lt : a < n
  le : ∀ j < n, x j ≤ x a
  first : ∀ j < a, x j < x a
  le2 : ∀ j < n, j ≠ a → x j ≤ m
  att : m = ⊥ ∨ ∃ b : ℕ, β = ((b : ℝ) : EReal) ∧ b < n ∧ b ≠ a ∧ x b = m ∧ ∀ j < b, j ≠ a → x j < m

variable {x : ℕ → EReal} {n a a' : ℕ} {m m' β β' : EReal}

/-- The first place of the greatest value is one. -/
theorem Top.place_eq (h : Top x n a m β) (h' : Top x n a' m' β') : a = a' := by
  rcases lt_trichotomy a a' with g | g | g
  · exact absurd (h'.first a g) (not_lt.2 (h.le a' h'.lt))
  · exact g
  · exact absurd (h.first a' g) (not_lt.2 (h'.le a h.lt))

/-- One half of the next value's uniqueness. -/
theorem Top.next_le (h : Top x n a m β) (h' : Top x n a m' β') : m ≤ m' := by
  rcases h.att with g | ⟨b, -, hb, hba, hx, -⟩
  · rw [g]; exact bot_le
  · rw [← hx]; exact h'.le2 b hb hba

/-- The next value is one. -/
theorem Top.next_eq (h : Top x n a m β) (h' : Top x n a m' β') : m = m' :=
  le_antisymm (h.next_le h') (h'.next_le h)

/-- The first place of the next value is one, unless that value is −∞. -/
theorem Top.snd_eq (h : Top x n a m β) (h' : Top x n a m β') (hm : m ≠ ⊥) : β = β' := by
  rcases h.att with g | ⟨b, rfl, hb, hba, hx, hf⟩
  · exact absurd g hm
  rcases h'.att with g | ⟨b', rfl, hb', hba', hx', hf'⟩
  · exact absurd g hm
  rcases lt_trichotomy b b' with g | g | g
  · exact absurd (hf' b g hba) (not_lt.2 hx.ge)
  · rw [g]
  · exact absurd (hf b' g hba') (not_lt.2 hx'.ge)

/-- The disparity of the two places, weighted by the exponentials of the two values. -/
def val (α β m1 m2 : EReal) : EReal :=
  Ideal.div (α + β * Ideal.exp (m2 - m1)) (1 + Ideal.exp (m2 - m1))

/-- Two descriptions of one pixel give one disparity. -/
theorem Top.val_eq (h : Top x n a m β) (h' : Top x n a' m' β') :
    val ((a : ℝ) : EReal) β (x a) m = val ((a' : ℝ) : EReal) β' (x a') m' := by
  obtain rfl := h.place_eq h'
  obtain rfl := h.next_eq h'
  by_cases hm : m = ⊥
  · subst hm
    have he : Ideal.exp (⊥ - x a) = 0 := by rw [EReal.bot_sub]; rfl
    unfold val
    rw [he, mul_zero, mul_zero]
  · rw [h.snd_eq h' hm]

/-! ## The running two greatest -/

/-- An index word as an extended real. -/
def wordR (w : BitVec 32) : EReal := ((w.toInt : ℝ) : EReal)

theorem wordR_ofNat {k : ℕ} (h : k < 2 ^ 31) : wordR (BitVec.ofNat 32 k) = ((k : ℝ) : EReal) := by
  unfold wordR
  rw [BitVec.toInt_eq_toNat_of_lt (by rw [BitVec.toNat_ofNat]; omega), BitVec.toNat_ofNat, Nat.mod_eq_of_lt (by omega)]
  simp

/-- What the running pair says of the first `n` values. -/
def Run (x : ℕ → EReal) (n : ℕ) (m1 m2 : EReal) (i1 i2 : BitVec 32) : Prop :=
  (m1 = ⊥ ∧ m2 = ⊥ ∧ ∀ j < n, x j = ⊥) ∨
    (⊥ < m1 ∧ ∃ a : ℕ, m1 = x a ∧ i1 = BitVec.ofNat 32 a ∧ Top x n a m2 (wordR i2))

/-- Nothing read yet. -/
theorem Run.zero (i1 i2 : BitVec 32) : Run x 0 ⊥ ⊥ i1 i2 :=
  Or.inl ⟨rfl, rfl, fun j hj => absurd hj (Nat.not_lt_zero j)⟩

/-- One more value. -/
theorem Run.step {m1 m2 : EReal} {i1 i2 : BitVec 32} (hn : n < 2 ^ 31) (h : Run x n m1 m2 i1 i2) :
    Run x (n + 1) (max m1 (x n)) (if m1 < x n then m1 else max m2 (x n))
      (if m1 < x n then BitVec.ofNat 32 n else i1)
      (if m1 < x n then i1 else if m2 < x n then BitVec.ofNat 32 n else i2) := by
  rcases h with ⟨rfl, rfl, hb⟩ | ⟨hm, a, rfl, rfl, h⟩
  · by_cases hv : ⊥ < x n
    · rw [if_pos hv, if_pos hv, if_pos hv, max_eq_right bot_le]
      refine Or.inr ⟨hv, n, rfl, rfl, Nat.lt_succ_self n, ?_, ?_, ?_, Or.inl rfl⟩
      · intro j hj
        rcases Nat.lt_succ_iff_lt_or_eq.1 hj with g | rfl
        · rw [hb j g]; exact bot_le
        · exact le_rfl
      · intro j hj; rw [hb j hj]; exact hv
      · intro j hj hjn
        rw [hb j (by omega)]
    · rw [if_neg hv, if_neg hv, if_neg hv, if_neg hv]
      have hx : x n = ⊥ := not_bot_lt_iff.1 hv
      rw [hx, max_self]
      refine Or.inl ⟨rfl, rfl, fun j hj => ?_⟩
      rcases Nat.lt_succ_iff_lt_or_eq.1 hj with g | rfl
      · exact hb j g
      · exact hx
  · by_cases hv : x a < x n
    · rw [if_pos hv, if_pos hv, if_pos hv, max_eq_right hv.le]
      refine Or.inr ⟨hm.trans hv, n, rfl, rfl, Nat.lt_succ_self n, ?_, ?_, ?_, Or.inr ⟨a, ?_, ?_, ?_, rfl, ?_⟩⟩
      · intro j hj
        rcases Nat.lt_succ_iff_lt_or_eq.1 hj with g | rfl
        · exact (h.le j g).trans hv.le
        · exact le_rfl
      · intro j hj; exact (h.le j hj).trans_lt hv
      · intro j hj hjn; exact h.le j (by omega)
      · exact wordR_ofNat (h.lt.trans hn)
      · exact h.lt.trans (Nat.lt_succ_self n)
      · exact h.lt.ne
      · intro j hj _; exact h.first j hj
    · rw [if_neg hv, if_neg hv, if_neg hv, max_eq_left (not_lt.1 hv)]
      refine Or.inr ⟨hm, a, rfl, rfl, h.lt.trans (Nat.lt_succ_self n), ?_, h.first, ?_, ?_⟩
      · intro j hj
        rcases Nat.lt_succ_iff_lt_or_eq.1 hj with g | rfl
        · exact h.le j g
        · exact not_lt.1 hv
      · intro j hj hja
        rcases Nat.lt_succ_iff_lt_or_eq.1 hj with g | rfl
        · exact (h.le2 j g hja).trans (le_max_left _ _)
        · exact le_max_right _ _
      · by_cases hw : m2 < x n
        · rw [if_pos hw, max_eq_right hw.le]
          refine Or.inr ⟨n, wordR_ofNat hn, Nat.lt_succ_self n, h.lt.ne', rfl, ?_⟩
          intro j hj hja
          exact (h.le2 j hj hja).trans_lt hw
        · rw [if_neg hw, max_eq_left (not_lt.1 hw)]
          rcases h.att with g | ⟨b, h1, h2, h3, h4, h5⟩
          · exact Or.inl g
          · exact Or.inr ⟨b, h1, h2.trans (Nat.lt_succ_self n), h3, h4, h5⟩

/-- At the end, where some value is above −∞. -/
theorem Run.top {m1 m2 : EReal} {i1 i2 : BitVec 32} (h : Run x n m1 m2 i1 i2) (hx : ∃ j < n, x j ≠ ⊥) :
    ∃ a : ℕ, m1 = x a ∧ i1 = BitVec.ofNat 32 a ∧ Top x n a m2 (wordR i2) := by
  rcases h with ⟨-, -, hb⟩ | ⟨-, h⟩
  · obtain ⟨j, hj, g⟩ := hx
    exact absurd (hb j hj) g
  · exact h

/-! ## The two first of a stable sort -/

section Sorted

variable {N : ℕ} (y : Fin N → EReal)

/-- Greater first, and of equals the earlier first. -/
def Before (k k' : Fin N) : Prop := y k' < y k ∨ (y k' = y k ∧ k < k')

theorem pairwise_insert (B : Fin N → Fin N → Bool) (hB : ∀ k k', B k k' = true ↔ y k' < y k) (k : Fin N) (l : List (Fin N))
    (hk : ∀ j ∈ l, k < j) (hl : l.Pairwise (Before y)) : (insertBefore B k l).Pairwise (Before y) := by
  induction l with
  | nil => exact List.pairwise_singleton _ _
  | cons b l ih =>
    rw [List.pairwise_cons] at hl
    unfold insertBefore
    split
    · rename_i hb
      rw [List.pairwise_cons]
      refine ⟨fun j hj => ?_, ih (fun j hj => hk j (List.mem_cons_of_mem _ hj)) hl.2⟩
      rcases List.mem_cons.1 ((perm_insertBefore B k l).mem_iff.1 hj) with rfl | hj
      · exact Or.inl ((hB _ _).1 hb)
      · exact hl.1 j hj
    · rename_i hb
      have hb' : y b ≤ y k := not_lt.1 fun g => hb ((hB _ _).2 g)
      have hkb : k < b := hk b List.mem_cons_self
      rw [List.pairwise_cons, List.pairwise_cons]
      refine ⟨fun j hj => ?_, hl⟩
      rcases List.mem_cons.1 hj with rfl | hj
      · rcases hb'.lt_or_eq with g | g
        · exact Or.inl g
        · exact Or.inr ⟨g, hkb⟩
      · rcases hl.1 j hj with g | ⟨g, -⟩
        · exact Or.inl (g.trans_le hb')
        · rcases hb'.lt_or_eq with g' | g'
          · exact Or.inl (g.trans_lt g')
          · exact Or.inr ⟨g.trans g', hk j (List.mem_cons_of_mem _ hj)⟩

theorem pairwise_sort (B : Fin N → Fin N → Bool) (hB : ∀ k k', B k k' = true ↔ y k' < y k) (l : List (Fin N))
    (hl : l.Pairwise (· < ·)) : (stableSort B l).Pairwise (Before y) := by
  induction l with
  | nil => exact List.Pairwise.nil
  | cons k l ih =>
    rw [List.pairwise_cons] at hl
    unfold stableSort
    exact pairwise_insert y B hB k _ (fun j hj => hl.1 j ((perm_stableSort B l).mem_iff.1 hj)) (ih hl.2)

/-- What a stable sort by the values puts earlier comes before what it puts later. -/
theorem before_sortedFrom (B : Fin N → Fin N → Bool) (hB : ∀ k k', B k k' = true ↔ y k' < y k) (i j : Fin N) (h : i < j) :
    Before y (sortedFrom B i) (sortedFrom B j) := by
  have hp : (sortPositions N B).Pairwise (Before y) := pairwise_sort y B hB _ (List.pairwise_lt_finRange N)
  exact List.pairwise_iff_get.1 hp _ _ h

/-- The two places a stable sort by the values puts first describe the pixel. -/
theorem top_sortedFrom (hx : ∀ k : Fin N, x k.val = y k) (B : Fin N → Fin N → Bool)
    (hB : ∀ k k', B k k' = true ↔ y k' < y k) (h0 : 0 < N) (h1 : 1 < N) :
    Top x N (sortedFrom B ⟨0, h0⟩).val (x (sortedFrom B ⟨1, h1⟩).val) (((sortedFrom B ⟨1, h1⟩).val : ℝ) : EReal) := by
  have key0 : ∀ k : Fin N, k ≠ sortedFrom B ⟨0, h0⟩ → Before y (sortedFrom B ⟨0, h0⟩) k := by
    intro k hk
    obtain ⟨i, rfl⟩ := sortedFrom_surjective B k
    refine before_sortedFrom y B hB _ _ ?_
    rcases Nat.eq_zero_or_pos i.val with g | g
    · exact absurd (congrArg (sortedFrom B) (Fin.ext g)) hk
    · exact g
  have key1 : ∀ k : Fin N, k ≠ sortedFrom B ⟨0, h0⟩ → k ≠ sortedFrom B ⟨1, h1⟩ → Before y (sortedFrom B ⟨1, h1⟩) k := by
    intro k hk hk'
    obtain ⟨i, rfl⟩ := sortedFrom_surjective B k
    refine before_sortedFrom y B hB _ _ ?_
    rcases Nat.lt_trichotomy i.val 1 with g | g | g
    · exact absurd (congrArg (sortedFrom B) (Fin.ext (by show i.val = 0; omega))) hk
    · exact absurd (congrArg (sortedFrom B) (Fin.ext g)) hk'
    · exact g
  have hne : sortedFrom B ⟨1, h1⟩ ≠ sortedFrom B ⟨0, h0⟩ := fun g => by
    have := congrArg Fin.val (sortedFrom_injective B g)
    exact absurd this Nat.one_ne_zero
  generalize sortedFrom B ⟨0, h0⟩ = p at *
  generalize sortedFrom B ⟨1, h1⟩ = q at *
  refine ⟨p.isLt, fun j hj => ?_, fun j hj => ?_, fun j hj hjp => ?_, Or.inr ⟨q.val, rfl, q.isLt, fun g => hne (Fin.ext g), rfl, fun j hj hjp => ?_⟩⟩
  · by_cases g : (⟨j, hj⟩ : Fin N) = p
    · rw [← g]
    · rw [show x j = y ⟨j, hj⟩ from hx ⟨j, hj⟩, hx p]
      rcases key0 _ g with r | ⟨r, -⟩
      · exact r.le
      · exact r.le
  · have hjN : j < N := hj.trans p.isLt
    have g : (⟨j, hjN⟩ : Fin N) ≠ p := fun g => by rw [← g] at hj; exact lt_irrefl _ hj
    rw [show x j = y ⟨j, hjN⟩ from hx ⟨j, hjN⟩, hx p]
    rcases key0 _ g with r | ⟨-, r⟩
    · exact r
    · exact absurd hj (not_lt.2 (le_of_lt r))
  · have g : (⟨j, hj⟩ : Fin N) ≠ p := fun g => hjp (congrArg Fin.val g)
    by_cases g' : (⟨j, hj⟩ : Fin N) = q
    · rw [← g']
    · rw [show x j = y ⟨j, hj⟩ from hx ⟨j, hj⟩, hx q]
      rcases key1 _ g g' with r | ⟨r, -⟩
      · exact r.le
      · exact r.le
  · have hjN : j < N := hj.trans q.isLt
    have g : (⟨j, hjN⟩ : Fin N) ≠ p := fun g => hjp (congrArg Fin.val g)
    have g' : (⟨j, hjN⟩ : Fin N) ≠ q := fun g => by rw [← g] at hj; exact lt_irrefl _ hj
    rw [show x j = y ⟨j, hjN⟩ from hx ⟨j, hjN⟩, hx q]
    rcases key1 _ g g' with r | ⟨-, r⟩
    · exact r
    · exact absurd hj (not_lt.2 (le_of_lt r))

end Sorted

end Cert.Proof.Pixel

end
-- ==== Proof.PixelSC.lean ====
/-
  The SparseCores' pixels at the ideal values: a lane's running state describes the pixel the lane reads, so its
  disparity is the pixel's.
-/
module

public import proofs.«01_k».proof.Proof.Base
public import proofs.«01_k».proof.Proof.Pixel
public import Idealize.ShloMosaic.Lib.Pipeline.Value
public import Idealize.ShloMosaic.Lib.ValueIdxCore

@[expose] public section

noncomputable section

namespace Cert.Proof.PixelSC

open Idealize.ShloMosaic Idealize.ShloMosaic.ValueIdx Cert.KernelIdeal Cert.KernelIdeal.Gen Cert.Proof.KernelIdeal Cert.Proof.Pixel

/-- The word of −∞. -/
theorem ofBits_neg_inf : Ideal.ofBits .f32 0xFF800000#32 = ⊥ := by simp [Ideal.ofBits, Ideal.ieee]

/-- The word of +∞. -/
theorem ofBits_pos_inf : Ideal.ofBits .f32 0x7F800000#32 = ⊤ := by simp [Ideal.ofBits, Ideal.ieee]

/-- The comparison "greater" as a condition. -/
theorem select_ogt {α : Type} (v w : EReal) (p q : α) : Scalar.select (Ideal.cmp .ogt v w) p q = if w < v then p else q := by
  unfold Scalar.select Ideal.cmp
  by_cases h : w < v <;> simp [h]

/-- One lane's value. -/
theorem lv_apply (X : S24x8x128.Idx → Ideal .f32) (r d g : ℕ) (l : S16.Idx) :
    lv X r d g l = X (ix3 (Fin.ofNat 24 r) (Fin.ofNat 8 d) (Fin.ofNat 128 (16 * g + (l 0).val))) := by
  refine (shapeCast_apply (rowv X r d g) shapeCasts_S1x1x16_S16 l (ix3 0 0 (l 0)) ?_).trans ?_
  · rw [Shape.rowMajor_val_three, Shape.rowMajor_val_one]
    show (0 * _ + 0) * _ + (l 0).val = (l 0).val
    omega
  · unfold rowv
    refine congrArg X (funext fun a => ?_)
    match a with
    | ⟨0, _⟩ => rfl
    | ⟨1, _⟩ => rfl
    | ⟨2, _⟩ => rfl

/-- The index vector after `n` more ones. -/
theorem dv_apply (d0 : IVec S16 32) (k : ℕ) (l : S16.Idx) (h : d0 l = BitVec.ofNat 32 k) (n : ℕ) :
    dv d0 n l = BitVec.ofNat 32 (k + n) := by
  induction n with
  | zero => exact h
  | succ n ih =>
    show (dv d0 n l + 1#32 : BitVec 32) = _
    rw [ih, ← Nat.add_assoc, BitVec.ofNat_add (k + n) 1]

/-- The index vector at plane `k`. -/
theorem dvs_apply (k : ℕ) (l : S16.Idx) : dvs k l = BitVec.ofNat 32 (8 * k) := by
  induction k with
  | zero => rfl
  | succ k ih => exact (dv_apply (dvs k) (8 * k) l ih 8)

/-- What a lane's state says of the first `n` values. -/
def RunAt (x : ℕ → EReal) (n : ℕ) (s : ST Ideal) (l : S16.Idx) : Prop := Run x n (s.m1 l) (s.m2 l) (s.i1 l) (s.i2 l)

/-- One more value in a lane. -/
theorem stp_run {x : ℕ → EReal} {n : ℕ} (hn : n < 2 ^ 31) (s : ST Ideal) (q : IVec S16 32) (v : FVec Ideal S16 .f32) (l : S16.Idx)
    (hq : q l = BitVec.ofNat 32 n) (hv : v l = x n) (h : RunAt x n s l) : RunAt x (n + 1) (stp q v s) l := by
  have e := Run.step hn h
  unfold RunAt
  rw [show (stp q v s).m1 l = max (s.m1 l) (v l) from rfl,
    show (stp q v s).m2 l = Scalar.select (Ideal.cmp .ogt (v l) (s.m1 l)) (s.m1 l) (max (s.m2 l) (v l)) from rfl,
    show (stp q v s).i1 l = Scalar.select (Ideal.cmp .ogt (v l) (s.m1 l)) (q l) (s.i1 l) from rfl,
    show (stp q v s).i2 l = Scalar.select (Ideal.cmp .ogt (v l) (s.m1 l)) (s.i1 l) (Scalar.select (Ideal.cmp .ogt (v l) (s.m2 l)) (q l) (s.i2 l)) from rfl,
    select_ogt, select_ogt, select_ogt, select_ogt, hq, hv]
  exact e

variable {x : ℕ → EReal} (X : S24x8x128.Idx → Ideal .f32) (g : ℕ) (l : S16.Idx)
  (hx : ∀ k < 24, ∀ d < 8, x (8 * k + d) = X (ix3 (Fin.ofNat 24 k) (Fin.ofNat 8 d) (Fin.ofNat 128 (16 * g + (l 0).val))))

include hx in
/-- One plane's rows. -/
theorem tr_run (k : ℕ) (hk : k < 24) (s : ST Ideal) (h : RunAt x (8 * k) s l) (n : ℕ) (hn : n ≤ 8) :
    RunAt x (8 * k + n) (tr X (dvs k) k g s n) l := by
  induction n with
  | zero => exact h
  | succ n ih =>
    exact stp_run (n := 8 * k + n) (by omega) _ _ _ l (dv_apply _ _ l (dvs_apply k l) n)
      ((lv_apply X k n g l).trans (hx k hk n (by omega)).symm) (ih (by omega))

include hx in
/-- All the planes. -/
theorem sts_run (k : ℕ) (hk : k ≤ 24) : RunAt x (8 * k) (sts X g k) l := by
  induction k with
  | zero =>
    unfold RunAt
    rw [show (sts X g 0).m1 l = Ideal.ofBits .f32 0xFF800000#32 from rfl, show (sts X g 0).m2 l = Ideal.ofBits .f32 0xFF800000#32 from rfl,
      ofBits_neg_inf]
    exact Run.zero _ _
  | succ k ih => exact tr_run X g l hx k (by omega) _ (ih (by omega)) 8 le_rfl

/-- A state's disparity in a lane. -/
theorem disp_apply (s : ST Ideal) : disp s l = val (wordR (s.i1 l)) (wordR (s.i2 l)) (s.m1 l) (s.m2 l) := by
  show Ideal.div (wordR (s.i1 l) + wordR (s.i2 l) * Ideal.exp (s.m2 l - s.m1 l)) (Ideal.ofBits .f32 0x3F800000#32 + Ideal.exp (s.m2 l - s.m1 l)) = _
  rw [Ideal.ofBits_one_f32]
  rfl

include hx in
/-- A lane's disparity is its pixel's, where some value is above −∞. -/
theorem disp_eq (hne : ∃ j < 192, x j ≠ ⊥) :
    ∃ (a : ℕ) (m β : EReal), Top x 192 a m β ∧ disp (sts X g 24) l = val ((a : ℝ) : EReal) β (x a) m := by
  obtain ⟨a, h1, h2, h⟩ := (sts_run X g l hx 24 le_rfl : Run x 192 _ _ _ _).top hne
  refine ⟨a, _, _, h, ?_⟩
  rw [disp_apply, h1, h2, wordR_ofNat (h.lt.trans (by decide))]

end Cert.Proof.PixelSC

end
-- ==== Proof.PixelTC.lean ====
/-
  The TensorCore's pixels at the ideal values: the kernel's two rounds of greatest value and first place describe
  a pixel, so the block's row is the pixels' disparities.
-/
module

public import proofs.«01_k».proof.Proof.Region
public import proofs.«01_k».proof.Proof.PixelSC
public import Idealize.ShloMosaic.PureOps.Ideal.Laws

@[expose] public section

noncomputable section

namespace Cert.Proof.PixelTC

open Idealize.ShloMosaic Idealize.ShloMosaic.ValueIdx Cert.KernelIdeal Cert.KernelIdeal.Gen Cert.Proof.KernelIdeal Cert.Proof.Pixel Cert.Proof.PixelSC

/-! ### The greatest value and its first place -/

/-- The greatest of the first `n` values. -/
def top (n : ℕ) (x : ℕ → EReal) : EReal := (Finset.univ : Finset (Fin n)).fold max ⊥ fun k => x k.val

/-- The first place of the value `m` among the first `n`; `d` stands for no place. -/
def place (n : ℕ) (d : EReal) (x : ℕ → EReal) (m : EReal) : EReal :=
  (Finset.univ : Finset (Fin n)).fold min ⊤ fun k => if x k.val = m then ((k.val : ℝ) : EReal) else d

/-- Places in order. -/
theorem place_le {a b : ℕ} : ((a : ℝ) : EReal) ≤ ((b : ℝ) : EReal) ↔ a ≤ b := by
  rw [EReal.coe_le_coe_iff, Nat.cast_le]

/-- The greatest value lies at its first place. -/
theorem place_top {n : ℕ} (h0 : 0 < n) (x : ℕ → EReal) : ∃ a < n, top n x = x a ∧ (∀ j < n, x j ≤ x a) ∧ (∀ j < a, x j < x a) ∧
    place n ((n : ℝ) : EReal) x (x a) = ((a : ℝ) : EReal) := by
  classical
  have hle : ∀ j < n, x j ≤ top n x := fun j hj => (Finset.le_fold_max _).2 (.inr ⟨⟨j, hj⟩, Finset.mem_univ _, le_rfl⟩)
  have hat : ∃ j, j < n ∧ x j = top n x := by
    by_contra hc
    refine lt_irrefl (top n x) ?_
    rcases eq_or_ne (top n x) ⊥ with hb | hb
    · exact absurd ⟨0, h0, by rw [hb]; exact le_bot_iff.1 (hb ▸ hle 0 h0)⟩ hc
    · exact (Finset.fold_max_lt _).2 ⟨bot_lt_iff_ne_bot.2 hb, fun k _ => lt_of_le_of_ne (hle k k.2) fun e => hc ⟨k, k.2, e⟩⟩
  obtain ⟨ha, he⟩ := Nat.find_spec hat
  have hf : ∀ j < Nat.find hat, x j < x (Nat.find hat) := fun j hj => by
    rw [he]
    exact lt_of_le_of_ne (hle j (hj.trans ha)) fun e => Nat.find_min hat hj ⟨hj.trans ha, e⟩
  refine ⟨Nat.find hat, ha, he.symm, fun j hj => (hle j hj).trans_eq he.symm, hf, le_antisymm ?_ ?_⟩
  · exact (Finset.fold_min_le _).2 (.inr ⟨⟨_, ha⟩, Finset.mem_univ _, by simp⟩)
  · refine (Finset.le_fold_min _).2 ⟨le_top, fun k _ => ?_⟩
    split
    · next e =>
      refine place_le.2 (not_lt.1 fun hk => ?_)
      exact (hf k hk).ne e
    · exact place_le.2 ha.le

/-- The values without the one at `a`. -/
def dropX (a : ℕ) (x : ℕ → EReal) : ℕ → EReal := fun j => if j = a then ⊥ else x j

/-- Two rounds describe the first `n` values. -/
theorem rounds {n : ℕ} (h0 : 0 < n) (x : ℕ → EReal) : ∃ a : ℕ, top n x = x a ∧ place n ((n : ℝ) : EReal) x (x a) = ((a : ℝ) : EReal) ∧
    Top x n a (top n (dropX a x))
      (place n ((n : ℝ) : EReal) (dropX a x) (top n (dropX a x))) := by
  obtain ⟨a, ha, h1, h2, h3, h4⟩ := place_top h0 x
  obtain ⟨b, hb, g1, g2, g3, g4⟩ := place_top h0 (dropX a x)
  refine ⟨a, h1, h4, ha, h2, h3, fun j hj hja => ?_, ?_⟩
  · rw [g1]
    simpa only [dropX, if_neg hja] using g2 j hj
  · rw [g1, g4]
    rcases eq_or_ne b a with e | e
    · exact .inl (if_pos e)
    · refine .inr ⟨b, rfl, hb, e, (if_neg e).symm, fun j hj hja => ?_⟩
      simpa only [dropX, if_neg hja] using g3 j hj

/-! ### The block's operations -/

variable (v : FVec Ideal S192x8192 .f32) (m : FVec Ideal S8192 .f32)

/-- Each column's greatest value. -/
def topV : FVec Ideal S8192 .f32 := multiReduction .maximumf [0] S8192 v 0xFF800000#32 reduces_S192x8192_S8192 (.inl rfl) rfl

/-- A row repeated down the columns. -/
def downV : FVec Ideal S192x8192 .f32 := broadcastTo S192x8192 (shapeCast S1x8192 m shapeCasts_S8192_S1x8192) broadcasts_S1x8192_S192x8192

/-- Each element's place in its column. -/
def numV : FVec Ideal S192x8192 .f32 := sitofp .f32 (iota .tc S192x8192 32 [0] iota_S192x8192_d0_w32)

/-- Each column's first place of a value. -/
def placeV : FVec Ideal S8192 .f32 :=
  multiReduction .minimumf [0] S8192 (select (cmpf .oeq v (downV m)) numV (broadcast S192x8192 (Scalar.ofBits .f32 0x43400000#32))) 0x7F800000#32
    reduces_S192x8192_S8192 (.inl rfl) rfl

/-- The columns without the elements at the given places. -/
def dropV : FVec Ideal S192x8192 .f32 := select (cmpf .oeq numV (downV m)) (broadcast S192x8192 (Scalar.ofBits .f32 0xFF800000#32)) v

/-- The quotient of two places and two values. -/
def quotV (m1 m2 p1 p2 : FVec Ideal S8192 .f32) : FVec Ideal S8192 .f32 :=
  divf (addf p1 (mulf p2 (exp (subf m2 m1)))) (addf (broadcast S8192 (Scalar.ofBits .f32 0x3F800000#32)) (exp (subf m2 m1)))

/-- An element of the quotient. -/
theorem quot_apply (m1 m2 p1 p2 : FVec Ideal S8192 .f32) (i : S8192.Idx) : quotV m1 m2 p1 p2 i = val (p1 i) (p2 i) (m1 i) (m2 i) := by
  show Ideal.div (p1 i + p2 i * Ideal.exp (m2 i - m1 i)) (Ideal.ofBits .f32 0x3F800000#32 + Ideal.exp (m2 i - m1 i)) = _
  rw [Ideal.ofBits_one_f32]
  rfl

/-- A block's row, by the two rounds. -/
def rowV : FVec Ideal S8192 .f32 :=
  quotV (topV v) (topV (dropV v (placeV v (topV v)))) (placeV v (topV v))
    (placeV (dropV v (placeV v (topV v))) (topV (dropV v (placeV v (topV v)))))

/-- The kernel's row is it. -/
theorem pay_eq (X : FVec Ideal S1x24x8x8192 .f32) :
    k1_pay1 X = rowV (shapeCast S192x8192 (shapeCast S24x8x8192 X shapeCasts_S1x24x8x8192_S24x8x8192) shapeCasts_S24x8x8192_S192x8192) := rfl

/-- The comparison "equal" as a condition. -/
theorem select_oeq {α : Type} (a b : EReal) (p q : α) : Scalar.select (Ideal.cmp .oeq a b) p q = if a = b then p else q := by
  unfold Scalar.select Ideal.cmp
  by_cases h : a = b <;> simp [h]

/-- The word of 192. -/
theorem ofBits_192 : Ideal.ofBits .f32 0x43400000#32 = (((192 : ℕ) : ℝ) : EReal) := by
  simp [Ideal.ofBits, Ideal.ieee]
  rw [← EReal.coe_mul]
  norm_num

/-- The place of an element. -/
theorem num_apply (k : Fin 192) (n : Fin 8192) : numV (ix2 k n) = ((k.val : ℝ) : EReal) := by
  show wordR (iota .tc S192x8192 32 [0] iota_S192x8192_d0_w32 (ix2 k n)) = _
  rw [iota_single_apply]
  exact wordR_ofNat (k.isLt.trans (by decide))

/-- An element of a repeated row. -/
theorem down_apply (k : Fin 192) (n : Fin 8192) : downV m (ix2 k n) = m (ix1 n) := by
  refine (broadcastTo_apply _ _ _ (ix2 0 n) ?_).trans (shapeCast_apply m shapeCasts_S8192_S1x8192 (ix2 0 n) (ix1 n) ?_)
  · intro a
    match a with
    | ⟨0, _⟩ => rfl
    | ⟨1, _⟩ => rfl
  · rw [Shape.rowMajor_val_one, Shape.rowMajor_val_two]
    show n.val = 0 * _ + n.val
    omega

/-- The element at a place of a column. -/
theorem lift_eq (n : Fin 8192) (k : Fin 192) : reduces_S192x8192_S8192.lift (ix1 n) k = ix2 k n := by
  funext a
  match a with
  | ⟨0, _⟩ => rfl
  | ⟨1, _⟩ => rfl

variable (n : Fin 8192) (x : ℕ → EReal) (hx : ∀ k : Fin 192, v (ix2 k n) = x k.val)

include hx in
/-- A column's greatest value. -/
theorem top_apply : topV v (ix1 n) = top 192 x := by
  refine (Ideal.multiReduction_maximumf_single v _ _ _ _ _).trans ?_
  rw [show (FloatOps.ofBits .f32 0xFF800000#32 : Ideal .f32) = ⊥ from ofBits_neg_inf]
  refine congrArg (fun f => (Finset.univ : Finset (Fin 192)).fold max ⊥ f) (funext fun (k : Fin 192) => ?_)
  exact (congrArg v (lift_eq n k)).trans (hx k)

include hx in
/-- A column's first place of a value. -/
theorem place_apply : placeV v m (ix1 n) = place 192 (((192 : ℕ) : ℝ) : EReal) x (m (ix1 n)) := by
  refine (congrFun (multiReduction_minimumf_eq_reduceFold _ _ _ _ _) _).trans ((reduceFold_eq_fold _ _ _ _ _).trans
    ((Shape.Reduces.fold_filter_drop_single reduces_S192x8192_S8192 _ _ _ _).trans ?_))
  rw [show (FloatOps.ofBits .f32 0x7F800000#32 : Ideal .f32) = ⊤ from ofBits_pos_inf]
  refine congrArg (fun f => (Finset.univ : Finset (Fin 192)).fold min ⊤ f) (funext fun (k : Fin 192) => ?_)
  refine (congrArg (select (cmpf .oeq v (downV m)) numV (broadcast S192x8192 (Scalar.ofBits .f32 0x43400000#32))) (lift_eq n k)).trans ?_
  show Scalar.select (Ideal.cmp .oeq (v (ix2 k n)) (downV m (ix2 k n))) (numV (ix2 k n)) (Ideal.ofBits .f32 0x43400000#32) = _
  rw [select_oeq, num_apply, down_apply, ofBits_192, hx]

include hx in
/-- A column without the element at a place. -/
theorem drop_apply (a : ℕ) (ha : m (ix1 n) = ((a : ℝ) : EReal)) (k : Fin 192) :
    dropV v m (ix2 k n) = dropX a x k.val := by
  show Scalar.select (Ideal.cmp .oeq (numV (ix2 k n)) (downV m (ix2 k n))) (Ideal.ofBits .f32 0xFF800000#32) (v (ix2 k n)) = _
  rw [select_oeq, num_apply, down_apply, ofBits_neg_inf, hx, ha]
  exact if_congr (by rw [EReal.coe_eq_coe_iff, Nat.cast_inj]) rfl rfl

include hx in
/-- A column's disparity. -/
theorem row_apply : ∃ (a : ℕ) (m β : EReal), Top x 192 a m β ∧ rowV v (ix1 n) = val ((a : ℝ) : EReal) β (x a) m := by
  obtain ⟨a, h1, h2, h⟩ := rounds (n := 192) (by decide) x
  refine ⟨a, _, _, h, ?_⟩
  have e1 : topV v (ix1 n) = x a := (top_apply v n x hx).trans h1
  have e2 : placeV v (topV v) (ix1 n) = ((a : ℝ) : EReal) := by rw [place_apply v _ n x hx, e1, h2]
  have hd := drop_apply v (placeV v (topV v)) n x hx a e2
  have e3 := top_apply _ n (dropX a x) hd
  have e4 := place_apply _ (topV (dropV v (placeV v (topV v)))) n (dropX a x) hd
  rw [e3] at e4
  unfold rowV
  rw [quot_apply, e1, e2, e3, e4]

/-- A block's row at a column is its pixel's disparity. -/
theorem pay_apply (X : FVec Ideal S1x24x8x8192 .f32) (n : Fin 8192) (x : ℕ → EReal)
    (hx : ∀ k < 24, ∀ d < 8, x (8 * k + d) = X (ix4 0 (Fin.ofNat 24 k) (Fin.ofNat 8 d) n)) :
    ∃ (a : ℕ) (m β : EReal), Top x 192 a m β ∧ k1_pay1 (F := Ideal) X (ix1 n) = val ((a : ℝ) : EReal) β (x a) m := by
  rw [pay_eq]
  refine row_apply _ n x fun k => ?_
  have hk := k.isLt
  refine (shapeCast_apply _ shapeCasts_S24x8x8192_S192x8192 (ix2 k n) (ix3 (Fin.ofNat 24 (k.val / 8)) (Fin.ofNat 8 (k.val % 8)) n) ?_).trans
    ((shapeCast_apply X shapeCasts_S1x24x8x8192_S24x8x8192 _ (ix4 0 (Fin.ofNat 24 (k.val / 8)) (Fin.ofNat 8 (k.val % 8)) n) ?_).trans ?_)
  · rw [Shape.rowMajor_val_two, Shape.rowMajor_val_three]
    show (k.val / 8 % 24 * 8 + k.val % 8 % 8) * 8192 + n.val = k.val * 8192 + n.val
    omega
  · rw [Shape.rowMajor_val_three, Shape.rowMajor_val_four]
    show ((0 * 24 + k.val / 8 % 24) * 8 + k.val % 8 % 8) * 8192 + n.val = (k.val / 8 % 24 * 8 + k.val % 8 % 8) * 8192 + n.val
    omega
  · rw [← hx _ (by omega) _ (by omega), show 8 * (k.val / 8) + k.val % 8 = k.val by omega]

end Cert.Proof.PixelTC

end
-- ==== Proof.PixelRef.lean ====
/-
  The reference's pixels at the ideal values: the two entries its top-two gives describe a pixel, and the weighted
  sum it forms of them is the pixel's disparity.
-/
module

public import proofs.«01_k».proof.Proof.Pixel
public import proofs.«01_k».proof.Proof.Gen.ReferenceIdeal.Run
public import Idealize.ShloMosaic.Lib.Pipeline.Value
public import Idealize.ShloMosaic.Lib.ValueIdxCore
public import Idealize.ShloMosaic.Lib.IdealHost
public import Idealize.ShloMosaic.PureOps.Ideal.Laws

@[expose] public section

noncomputable section

namespace Cert.Proof.PixelRef

open Idealize.ShloMosaic Idealize.ShloMosaic.ValueIdx Cert.ReferenceIdeal Cert.ReferenceIdeal.Gen Cert.Proof.Pixel

/-! ### The reference's operations -/

/-- The places of each pixel's two greatest values. -/
def topW (A : FVec Ideal S4x65536x192 .f32) : IVec S4x65536x2 32 :=
  (Host.topK S4x65536x2 2 (FloatOps.cmpfTotal (F := Ideal) (φ := .f32) .gt) A sliceFits_S4x65536x192_S4x65536x2).2

/-- The places, a negative one counted from the end. -/
def wrapW (I : IVec S4x65536x2 32) : IVec S4x65536x2x1 32 :=
  shapeCast _ (select (cmpi .slt I (broadcastInDim S4x65536x2 ![] bcast_S_S4x65536x2 (constantI S_ 32 0#32)))
    (addi I (broadcastInDim S4x65536x2 ![] bcast_S_S4x65536x2 (constantI S_ 32 192#32))) I) shapeCasts_S4x65536x2_S4x65536x2x1

/-- Which places lie in the row. -/
def okW (W : IVec S4x65536x2x1 32) : IVec S4x65536x2 1 :=
  Host.reduce IntOp.andi (andi (cmpi .sge W (broadcastInDim S4x65536x2x1 ![] bcast_S_S4x65536x2x1 (constantI S_ 32 0#32)))
    (cmpi .sle W (broadcastInDim S4x65536x2x1 ![0, 1, 2, 3] bcast_S1x1x1x1_S4x65536x2x1_0_1_2_3 (broadcastInDim S1x1x1x1 ![3] bcast_S1_S1x1x1x1_3 (constantI S1 32 191#32)))))
    (constantI S_ 1 1#1) reducesTo_S4x65536x2x1_S4x65536x2_d3 h_S_

/-- The values at the places. -/
def takeW (A : FVec Ideal S4x65536x192 .f32) (W : IVec S4x65536x2x1 32) : FVec Ideal S4x65536x2 .f32 :=
  select (okW W) (Host.gather gather_S4x65536x192_S4x65536x2x1_S4x65536x2_n_2_01_01_2_3_111 A W)
    (broadcastInDim S4x65536x2 ![] bcast_S_S4x65536x2 (constant S_ .f32 0x7FC00000#32))

/-- Each entry's place in its row. -/
def numW : FVec Ideal S4x65536x192 .f32 :=
  broadcastInDim S4x65536x192 ![0, 1, 2] bcast_S1x1x192_S4x65536x192_0_1_2 (shapeCast _ (sitofp .f32 (iotaInDim S192 32 0)) shapeCasts_S192_S1x1x192)

/-- A value per pixel, for both entries. -/
def bothW (p : FVec Ideal S4x65536 .f32) : FVec Ideal S4x65536x2 .f32 :=
  broadcastInDim S4x65536x2 ![0, 1, 2] bcast_S4x65536x1_S4x65536x2_0_1_2 (broadcastInDim S4x65536x1 ![0, 1] bcast_S4x65536_S4x65536x1_0_1 p)

/-- The greater of the two entries. -/
def maxW (C : FVec Ideal S4x65536x2 .f32) : FVec Ideal S4x65536 .f32 :=
  maximumf (broadcastInDim S4x65536 ![] bcast_S_S4x65536 (constant S_ .f32 0xFF800000#32))
    (Host.reduce FloatOps.maximumf C (constant S_ .f32 0xFF800000#32) reducesTo_S4x65536x2_S4x65536_d2 h_S_)

/-- The sum of the two entries. -/
def sumW (C : FVec Ideal S4x65536x2 .f32) : FVec Ideal S4x65536 .f32 :=
  Host.reduceAdd C (constant S_ .f32 0x00000000#32) reducesTo_S4x65536x2_S4x65536_d2 h_S_

/-- The entries' weights before they are normalised. -/
def expW (C : FVec Ideal S4x65536x2 .f32) : FVec Ideal S4x65536x2 .f32 := Host.exp (subf C (bothW (maxW C)))

/-- The reference's result by these operations. -/
def resW (A : FVec Ideal S4x65536x192 .f32) : FVec Ideal S4x65536 .f32 :=
  sumW (mulf (takeW numW (wrapW (topW A)))
    (Host.divf (expW (takeW A (wrapW (topW A)))) (bothW (sumW (expW (takeW A (wrapW (topW A))))))))

set_option maxRecDepth 8192 in
/-- The reference's result is it. -/
theorem res_eq (m : (ℓ : Loc nD τ sig) → Buf (Elt Ideal) ℓ) (c : Dev nD) :
    Value.res_main_v17 (F := Ideal) m c = resW (m ((c.tc : Thread nD τ).loc main_arg0)) := by
  unfold Value.res_main_v17
  rfl

/-! ### The places -/

/-- The order the reference sorts one pixel's values by. -/
def beforeW (A : FVec Ideal S4x65536x192 .f32) (b : Fin 4) (n : Fin 65536) (k k' : Fin 192) : Bool :=
  FloatOps.cmpfTotal (F := Ideal) (φ := .f32) .gt (A (ix3 b n k)) (A (ix3 b n k')) == 1#1

/-- It puts the greater first. -/
theorem beforeW_iff (A : FVec Ideal S4x65536x192 .f32) (b : Fin 4) (n : Fin 65536) (k k' : Fin 192) :
    beforeW A b n k k' = true ↔ A (ix3 b n k') < A (ix3 b n k) := by
  show (Ideal.cmp .ogt (A (ix3 b n k)) (A (ix3 b n k')) == 1#1) = true ↔ _
  unfold Ideal.cmp
  by_cases h : A (ix3 b n k') < A (ix3 b n k) <;> simp [h]

/-- An entry's number, as a place. -/
def upW (e : Fin 2) : Fin 192 := ⟨e.val, e.isLt.trans (by decide)⟩

/-- The place of an entry. -/
def plW (A : FVec Ideal S4x65536x192 .f32) (b : Fin 4) (n : Fin 65536) (e : Fin 2) : Fin 192 :=
  sortedFrom (beforeW A b n) (upW e)

/-- One row of the array, by the coordinate along it. -/
theorem along_eq (b : Fin 4) (n : Fin 65536) (i k : Fin 192) : (ix3 b n i : S4x65536x192.Idx).along 2 k = ix3 b n k := by
  unfold Shape.Idx.along
  funext a
  match a with
  | ⟨0, _⟩ => rfl
  | ⟨1, _⟩ => rfl
  | ⟨2, _⟩ => rfl

/-- The second array of a sort of two. -/
theorem sort2_snd {α β : Type} {s : Shape} {d : ℕ} (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- The places a top-k gives are the sorted places. -/
theorem topK_snd {α : Type} {s t : Shape} {d : ℕ} (hd : d < s.rank) (gt : α → α → BitVec 1) (x : s.Idx → α) (h : s.Slices (fun _ => 0) t)
    (j : t.Idx) (i : s.Idx) (hi : ∀ a : Fin s.rank, (i a).val = 0 + (j (a.cast h.1.symm)).val) :
    (Host.topK t d gt x h).2 j = BitVec.ofNat 32 (sortedFrom (fun k k' => gt (x (i.along ⟨d, hd⟩ k)) (x (i.along ⟨d, hd⟩ k')) == 1#1) (i ⟨d, hd⟩)).val := by
  refine (extractStridedSlice_apply _ _ h j i hi).trans ((sort2_snd hd _ _ _ i).trans ?_)
  rw [dif_pos hd, iotaInDim_apply]
  refine congrArg (fun k : Fin (s.size ⟨d, hd⟩) => BitVec.ofNat 32 k.val) ?_
  unfold Shape.Idx.along
  exact Function.update_self _ _ _

/-- The top-two's word. -/
theorem topW_apply (A : FVec Ideal S4x65536x192 .f32) (b : Fin 4) (n : Fin 65536) (e : Fin 2) :
    topW A (ix3 b n e) = BitVec.ofNat 32 (plW A b n e).val := by
  refine (topK_snd (by decide) _ A sliceFits_S4x65536x192_S4x65536x2 (ix3 b n e) (ix3 b n (upW e)) ?_).trans ?_
  · intro a
    match a with
    | ⟨0, _⟩ => exact (Nat.zero_add _).symm
    | ⟨1, _⟩ => exact (Nat.zero_add _).symm
    | ⟨2, _⟩ => exact (Nat.zero_add _).symm
  · refine congrArg (fun f : Fin 192 → Fin 192 → Bool => BitVec.ofNat 32 (sortedFrom f (upW e)).val) (funext fun k => funext fun k' => ?_)
    unfold beforeW
    exact congrArg₂ (fun i j => FloatOps.cmpfTotal (F := Ideal) (φ := .f32) .gt (A i) (A j) == 1#1) (along_eq b n _ k) (along_eq b n _ k')

/-- A word less than 192, read signed. -/
theorem toInt_word (k : Fin 192) : (BitVec.ofNat 32 k.val).toInt = k.val := by
  have := k.isLt
  rw [BitVec.toInt_eq_toNat_cond, BitVec.toNat_ofNat]
  have e : k.val % 2 ^ 32 = k.val := Nat.mod_eq_of_lt (by omega)
  rw [e, if_pos (by omega)]

/-- A place counted from the start stays. -/
theorem wrapW_apply (I : IVec S4x65536x2 32) (b : Fin 4) (n : Fin 65536) (e : Fin 2) (k : Fin 192) (h : I (ix3 b n e) = BitVec.ofNat 32 k.val) :
    wrapW I (ix4 b n e 0) = BitVec.ofNat 32 k.val := by
  refine (shapeCast_apply _ shapeCasts_S4x65536x2_S4x65536x2x1 (ix4 b n e 0) (ix3 b n e) ?_).trans ?_
  · rw [Shape.rowMajor_val_three, Shape.rowMajor_val_four]
    show (b.val * 65536 + n.val) * 2 + e.val = ((b.val * 65536 + n.val) * 2 + e.val) * 1 + 0
    omega
  · show Scalar.select (IntOp.cmpi .slt (I (ix3 b n e)) 0#32) (IntOp.addi (I (ix3 b n e)) 192#32) (I (ix3 b n e)) = _
    rw [h]
    unfold Scalar.select
    refine if_neg ?_
    show BitVec.ofBool ((BitVec.ofNat 32 k.val).slt 0#32) ≠ 1
    rw [show (BitVec.ofNat 32 k.val).slt 0#32 = false by
      rw [BitVec.slt_eq_decide, toInt_word]
      simp]
    decide

/-- The one entry over a pixel's entry. -/
theorem red3 : Shape.Reduces S4x65536x2x1 [3] S4x65536x2 := by decide

/-- The two entries over a pixel. -/
theorem red2 : Shape.Reduces S4x65536x2 [2] S4x65536 := by decide

/-- A fold over one element. -/
theorem fold_one {α : Type} (f : α → α → α) [Std.Commutative f] [Std.Associative f] (i : α) (g : Fin 1 → α) :
    (Finset.univ : Finset (Fin 1)).fold f i g = f (g 0) i := by
  rw [show (Finset.univ : Finset (Fin 1)) = {0} from rfl, Finset.fold_singleton]

/-- The places lie in the row. -/
theorem okW_apply (W : IVec S4x65536x2x1 32) (b : Fin 4) (n : Fin 65536) (e : Fin 2) (k : Fin 192) (h : W (ix4 b n e 0) = BitVec.ofNat 32 k.val) :
    okW W (ix3 b n e) = 1#1 := by
  haveI : Std.Commutative (IntOp.andi (w := 1)) := ⟨BitVec.and_comm⟩
  haveI : Std.Associative (IntOp.andi (w := 1)) := ⟨BitVec.and_assoc⟩
  refine (Host.reduce_eq_fold_single _ _ _ _ red3 _ _).trans ?_
  have hl : ∀ i : Fin 1, red3.lift (ix3 b n e) i = ix4 b n e 0 := fun i => by
    funext a
    match a with
    | ⟨0, _⟩ => rfl
    | ⟨1, _⟩ => rfl
    | ⟨2, _⟩ => rfl
    | ⟨3, _⟩ => exact Subsingleton.elim (α := Fin 1) _ _
  refine (fold_one _ _ _).trans ((congrArg (IntOp.andi · 1#1) (congrArg _ (hl 0))).trans ?_)
  show IntOp.andi (IntOp.andi (IntOp.cmpi .sge (W (ix4 b n e 0)) 0#32) (IntOp.cmpi .sle (W (ix4 b n e 0)) 191#32)) 1#1 = 1#1
  have hk := k.isLt
  rw [h]
  show (BitVec.ofBool ((0#32).sle (BitVec.ofNat 32 k.val)) &&& BitVec.ofBool ((BitVec.ofNat 32 k.val).sle 191#32)) &&& 1#1 = 1#1
  rw [show (0#32).sle (BitVec.ofNat 32 k.val) = true by
      rw [BitVec.sle_eq_decide, toInt_word]
      simp,
    show (BitVec.ofNat 32 k.val).sle 191#32 = true by
      rw [BitVec.sle_eq_decide, toInt_word]
      simp
      omega]
  decide

/-- An element of a choice. -/
theorem sel_apply {s : Shape} (c : IVec s 1) (x y : FVec Ideal s .f32) (i : s.Idx) : select c x y i = Scalar.select (c i) (x i) (y i) := rfl

/-- An element of a product. -/
theorem mul_apply {s : Shape} (x y : FVec Ideal s .f32) (i : s.Idx) : mulf x y i = ((x i : EReal) * (y i : EReal) : EReal) := rfl

/-- An element of a quotient. -/
theorem div_apply {s : Shape} (x y : FVec Ideal s .f32) (i : s.Idx) : Host.divf x y i = Ideal.div (x i) (y i) := rfl

/-- The value at a place. -/
theorem takeW_apply (A : FVec Ideal S4x65536x192 .f32) (W : IVec S4x65536x2x1 32) (b : Fin 4) (n : Fin 65536) (e : Fin 2) (k : Fin 192)
    (h : W (ix4 b n e 0) = BitVec.ofNat 32 k.val) : takeW A W (ix3 b n e) = A (ix3 b n k) := by
  unfold takeW
  rw [sel_apply, okW_apply W b n e k h]
  refine (if_pos rfl).trans ?_
  unfold Host.gather
  refine congrArg A (funext fun a => Fin.ext ?_)
  have hsi : gather_S4x65536x192_S4x65536x2x1_S4x65536x2_n_2_01_01_2_3_111.siIdx (ix3 b n e) ⟨0, Nat.one_pos⟩ = ix4 b n e 0 := by
    funext c
    match c with
    | ⟨0, _⟩ => rfl
    | ⟨1, _⟩ => rfl
    | ⟨2, _⟩ => rfl
    | ⟨3, _⟩ => rfl
  match a with
  | ⟨0, _⟩ => exact (Nat.zero_add _).trans rfl
  | ⟨1, _⟩ => exact (Nat.zero_add _).trans rfl
  | ⟨2, _⟩ =>
    show min (W (gather_S4x65536x192_S4x65536x2x1_S4x65536x2_n_2_01_01_2_3_111.siIdx (ix3 b n e) ⟨0, Nat.one_pos⟩)).toInt.toNat 191 + 0 + 0 = k.val
    have hk := k.isLt
    rw [hsi, h, toInt_word]
    omega

/-- An entry's place. -/
theorem numW_apply (b : Fin 4) (n : Fin 65536) (k : Fin 192) : numW (ix3 b n k) = ((k.val : ℝ) : EReal) := by
  refine (broadcastInDim_apply _ _ _ (ix3 b n k) (ix3 0 0 k) ?_).trans ((shapeCast_apply _ shapeCasts_S192_S1x1x192 (ix3 0 0 k) (ix1 k) ?_).trans ?_)
  · intro a
    match a with
    | ⟨0, _⟩ => rfl
    | ⟨1, _⟩ => rfl
    | ⟨2, _⟩ => rfl
  · rw [Shape.rowMajor_val_one, Shape.rowMajor_val_three]
    show k.val = (0 * _ + 0) * _ + k.val
    omega
  · show wordR (BitVec.ofNat 32 k.val) = _
    exact wordR_ofNat (k.isLt.trans (by decide))

/-- A pixel's value, for an entry. -/
theorem bothW_apply (p : FVec Ideal S4x65536 .f32) (b : Fin 4) (n : Fin 65536) (e : Fin 2) : bothW p (ix3 b n e) = p (ix2 b n) := by
  refine (broadcastInDim_apply _ _ _ (ix3 b n e) (ix3 b n 0) ?_).trans (broadcastInDim_apply _ _ _ (ix3 b n 0) (ix2 b n) ?_)
  · intro a
    match a with
    | ⟨0, _⟩ => rfl
    | ⟨1, _⟩ => rfl
    | ⟨2, _⟩ => rfl
  · intro a
    match a with
    | ⟨0, _⟩ => rfl
    | ⟨1, _⟩ => rfl

/-- The entry of a pixel, by the pixel. -/
theorem lift2 (b : Fin 4) (n : Fin 65536) (e : Fin 2) : red2.lift (ix2 b n) e = ix3 b n e := by
  funext a
  match a with
  | ⟨0, _⟩ => rfl
  | ⟨1, _⟩ => rfl
  | ⟨2, _⟩ => rfl

/-- The greater of a pixel's entries. -/
theorem maxW_apply (C : FVec Ideal S4x65536x2 .f32) (b : Fin 4) (n : Fin 65536) :
    maxW C (ix2 b n) = max (C (ix3 b n 0)) (C (ix3 b n 1)) := by
  have hb : Ideal.ofBits .f32 0xFF800000#32 = ⊥ := by simp [Ideal.ofBits, Ideal.ieee]
  show max (Ideal.ofBits .f32 0xFF800000#32) (Host.reduce FloatOps.maximumf C (constant S_ .f32 0xFF800000#32) reducesTo_S4x65536x2_S4x65536_d2 h_S_ (ix2 b n)) = _
  rw [Host.reduce_eq_fold_single _ _ _ _ red2 _ _]
  show max (Ideal.ofBits .f32 0xFF800000#32) ((Finset.univ : Finset (Fin 2)).fold max (Ideal.ofBits .f32 0xFF800000#32) (fun e : Fin 2 => C (red2.lift (ix2 b n) e))) = _
  rw [hb, show (fun e : Fin 2 => C (red2.lift (ix2 b n) e)) = fun e => C (ix3 b n e) from funext fun e => congrArg C (lift2 b n e),
    show (Finset.univ : Finset (Fin 2)) = insert 0 {1} from rfl, Finset.fold_insert (by decide), Finset.fold_singleton]
  simp

/-- The sum of a pixel's entries. -/
theorem sumW_apply (C : FVec Ideal S4x65536x2 .f32) (b : Fin 4) (n : Fin 65536) :
    sumW C (ix2 b n) = C (ix3 b n 0) + C (ix3 b n 1) := by
  show Ideal.hostReduceAdd reducesTo_S4x65536x2_S4x65536_d2 C (Ideal.ofBits .f32 0x00000000#32) (ix2 b n) = _
  rw [Ideal.hostReduceAdd_single _ red2]
  show Ideal.ofBits .f32 0x00000000#32 + ∑ e : Fin 2, C (red2.lift (ix2 b n) e) = _
  rw [Fin.sum_univ_two, lift2, lift2, Ideal.ofBits_zero_f32, zero_add]

/-- An entry's weight before it is normalised. -/
theorem expW_apply (C : FVec Ideal S4x65536x2 .f32) (b : Fin 4) (n : Fin 65536) (e : Fin 2) :
    expW C (ix3 b n e) = Ideal.exp (C (ix3 b n e) - max (C (ix3 b n 0)) (C (ix3 b n 1))) := by
  show Ideal.exp (C (ix3 b n e) - bothW (maxW C) (ix3 b n e)) = _
  rw [bothW_apply, maxW_apply]

/-! ### The disparity -/

/-- The weight of the lesser value is a real number that is not negative. -/
theorem exp_real (u : EReal) (v : ℝ) (h : u ≤ (v : EReal)) : ∃ r : ℝ, 0 ≤ r ∧ Ideal.exp (u - v) = (r : EReal) := by
  induction u with
  | bot => exact ⟨0, le_rfl, by rw [EReal.bot_sub]; rfl⟩
  | top => exact absurd h (not_le.2 (EReal.coe_lt_top v))
  | coe u => exact ⟨Real.exp (u - v), (Real.exp_pos _).le, by rw [← EReal.coe_sub]; rfl⟩

/-- The weighted sum is the quotient of sums. -/
theorem weighted (α β r : ℝ) (hr : 0 ≤ r) :
    (α : EReal) * Ideal.div 1 (1 + (r : EReal)) + (β : EReal) * Ideal.div r (1 + (r : EReal)) = Ideal.div (α + β * (r : EReal)) (1 + (r : EReal)) := by
  have h1 : (1 : EReal) + (r : EReal) = ((1 + r : ℝ) : EReal) := by rw [EReal.coe_add]; rfl
  have h0 : ((1 + r : ℝ) : EReal) ≠ 0 := by
    rw [← EReal.coe_zero]
    exact fun e => by
      have := EReal.coe_eq_coe_iff.1 e
      linarith
  unfold Ideal.div
  rw [h1, if_neg h0, if_neg h0, if_neg h0, ← EReal.coe_inv, one_mul, ← EReal.coe_mul, ← EReal.coe_mul, ← EReal.coe_mul, ← EReal.coe_mul,
    ← EReal.coe_add, ← EReal.coe_add, ← EReal.coe_mul]
  refine congrArg _ ?_
  ring

/-- The reference's result at a pixel is the pixel's disparity, where the greatest value is a real number. -/
theorem resW_apply (A : FVec Ideal S4x65536x192 .f32) (b : Fin 4) (n : Fin 65536) (x : ℕ → EReal) (hx : ∀ k : Fin 192, x k.val = A (ix3 b n k))
    (hf : ∃ v : ℝ, (∀ j < 192, x j ≤ (v : EReal)) ∧ ∃ j < 192, x j = (v : EReal)) :
    ∃ (a : ℕ) (m β : EReal), Top x 192 a m β ∧ resW A (ix2 b n) = val ((a : ℝ) : EReal) β (x a) m := by
  have ht := top_sortedFrom (x := x) (fun k : Fin 192 => A (ix3 b n k)) hx (beforeW A b n) (beforeW_iff A b n) (by decide) (by decide)
  refine ⟨_, _, _, ht, ?_⟩
  have hw : ∀ e : Fin 2, wrapW (topW A) (ix4 b n e 0) = BitVec.ofNat 32 (plW A b n e).val := fun e => wrapW_apply _ b n e _ (topW_apply A b n e)
  have hC : ∀ e : Fin 2, takeW A (wrapW (topW A)) (ix3 b n e) = x (plW A b n e).val := fun e => (takeW_apply A _ b n e _ (hw e)).trans (hx _).symm
  have hN : ∀ e : Fin 2, takeW numW (wrapW (topW A)) (ix3 b n e) = (((plW A b n e).val : ℝ) : EReal) := fun e => (takeW_apply numW _ b n e _ (hw e)).trans (numW_apply b n _)
  have hle : x (plW A b n 1).val ≤ x (plW A b n 0).val := ht.le _ (plW A b n 1).isLt
  obtain ⟨v, hv, j, hj, hjv⟩ := hf
  have h0 : x (plW A b n 0).val = (v : EReal) := le_antisymm (hv _ (plW A b n 0).isLt) (hjv ▸ ht.le j hj)
  have hE : ∀ e : Fin 2, expW (takeW A (wrapW (topW A))) (ix3 b n e) = Ideal.exp (x (plW A b n e).val - (v : EReal)) := fun e => by
    rw [expW_apply, hC, hC, hC, max_eq_left hle, h0]
  have h1 : Ideal.exp ((v : EReal) - (v : EReal)) = 1 := by
    rw [← EReal.coe_sub, sub_self]
    show ((Real.exp 0 : ℝ) : EReal) = 1
    rw [Real.exp_zero]
    rfl
  obtain ⟨r, hr, her⟩ := exp_real (x (plW A b n 1).val) v (hv _ (plW A b n 1).isLt)
  show resW A (ix2 b n) = val (((plW A b n 0).val : ℝ) : EReal) (((plW A b n 1).val : ℝ) : EReal) (x (plW A b n 0).val) (x (plW A b n 1).val)
  unfold resW
  rw [sumW_apply, mul_apply, mul_apply, div_apply, div_apply, hN, hN, bothW_apply, bothW_apply, sumW_apply, hE, hE, h0, h1, her, weighted _ _ r hr]
  unfold val
  rw [her]

end Cert.Proof.PixelRef

end
-- ==== Proof.Value.lean ====
/-
  The kernel's result is the reference's: pixel by pixel, both are the disparity of the pixel's values.
-/
module

public import proofs.«01_k».proof.Proof.Values
public import proofs.«01_k».proof.Proof.PixelTC
public import proofs.«01_k».proof.Proof.PixelRef
public import proofs.«01_k».proof.Proof.Gen.Pre_largest_is_finite
public import Idealize.ShloMosaic.Lib.ReduceAll

@[expose] public section

noncomputable section

namespace Cert.Proof.Value

open Idealize.ShloMosaic Idealize.ShloMosaic.ValueIdx Cert.KernelIdeal Cert.KernelIdeal.Gen Cert.Proof.KernelIdeal Cert.Proof.Pixel Cert.Proof.PixelSC Cert.Proof.PixelTC

/-! ### A pixel's values -/

/-- The values of pixel `n` of image `b`. -/
def px (A : FVec Ideal S4x65536x192 .f32) (b : Fin 4) (n : Fin 65536) : ℕ → EReal := fun j => A (ix3 b n (Fin.ofNat 192 j))

/-- A value by its place. -/
theorem px_val (A : FVec Ideal S4x65536x192 .f32) (b : Fin 4) (n : Fin 65536) (k : Fin 192) : px A b n k.val = A (ix3 b n k) :=
  congrArg (fun k => A (ix3 b n k)) (Fin.ext (Nat.mod_eq_of_lt k.isLt))

/-- The input as the two calls read it. -/
def chan (A : FVec Ideal S4x65536x192 .f32) : S4x24x8x65536.Idx → Ideal .f32 :=
  shapeCast S4x24x8x65536 (transpose S4x192x65536 [0, 2, 1] A transposes_S4x65536x192_S4x192x65536_0_2_1) shapeCasts_S4x192x65536_S4x24x8x65536

/-- Each plane and row of it is a value of the pixel. -/
theorem chan_apply (A : FVec Ideal S4x65536x192 .f32) (b : Fin 4) (n : Fin 65536) (k : Fin 24) (d : Fin 8) :
    chan A (ix4 b k d n) = px A b n (8 * k.val + d.val) := by
  have hk := k.isLt
  have hd := d.isLt
  refine (shapeCast_apply _ shapeCasts_S4x192x65536_S4x24x8x65536 (ix4 b k d n) (ix3 b ⟨8 * k.val + d.val, by omega⟩ n) ?_).trans
    ((transpose_apply [0, 2, 1] A _ _ (ix3 b n ⟨8 * k.val + d.val, by omega⟩) ?_).trans (px_val A b n ⟨8 * k.val + d.val, by omega⟩).symm)
  · rw [Shape.rowMajor_val_three, Shape.rowMajor_val_four]
    show (b.val * 192 + (8 * k.val + d.val)) * 65536 + n.val = ((b.val * 24 + k.val) * 8 + d.val) * 65536 + n.val
    omega
  · intro a
    match a with
    | ⟨0, _⟩ => rfl
    | ⟨1, _⟩ => rfl
    | ⟨2, _⟩ => rfl

/-- Two comparisons of an element. -/
theorem both_apply (M U V : FVec Ideal S4x65536 .f32) (i : S4x65536.Idx) :
    andi (cmpf .ogt M U) (cmpf .olt M V) i = IntOp.andi (Ideal.cmp .ogt (M i) (U i)) (Ideal.cmp .olt (M i) (V i)) := rfl

/-- A repeated word. -/
theorem bc_apply (h : S_.BroadcastsInDim S4x65536 (![] : Fin 0 → Fin S4x65536.rank)) (w : BitVec 32) (i : S4x65536.Idx) :
    broadcastInDim S4x65536 ![] h (constant (F := Ideal) S_ .f32 w) i = Ideal.ofBits .f32 w := rfl

/-- The precondition: each pixel's greatest value is a real number. -/
theorem real_top (A : FVec Ideal S4x65536x192 .f32) (h : Cert.Pre_largest_is_finite.fn (F := Ideal) A = fun _ => 1#1) (b : Fin 4) (n : Fin 65536) :
    ∃ v : ℝ, (∀ j < 192, px A b n j ≤ (v : EReal)) ∧ ∃ j < 192, px A b n j = (v : EReal) := by
  have red : Shape.Reduces S4x65536x192 [2] S4x65536 := by decide
  have h0 : Host.reduce IntOp.andi (andi
      (cmpf .ogt (Host.reduce FloatOps.maximumf A (constant S_ .f32 0xFF800000#32) Cert.Pre_largest_is_finite.Gen.reducesTo_S4x65536x192_S4x65536_d2
        Cert.Pre_largest_is_finite.Gen.h_S_) (broadcastInDim S4x65536 ![] Cert.Pre_largest_is_finite.Gen.bcast_S_S4x65536 (constant S_ .f32 0xFF800000#32)))
      (cmpf .olt (Host.reduce FloatOps.maximumf A (constant S_ .f32 0xFF800000#32) Cert.Pre_largest_is_finite.Gen.reducesTo_S4x65536x192_S4x65536_d2
        Cert.Pre_largest_is_finite.Gen.h_S_) (broadcastInDim S4x65536 ![] Cert.Pre_largest_is_finite.Gen.bcast_S_S4x65536 (constant S_ .f32 0x7F800000#32))))
      (constantI S_ 1 1#1) Cert.Pre_largest_is_finite.Gen.reducesTo_S4x65536_S_d0_1 Cert.Pre_largest_is_finite.Gen.h_S_
      (fun a => a.elim0) = 1#1 := by
    have h' := congrFun h (fun a => a.elim0)
    unfold Cert.Pre_largest_is_finite.fn at h'
    exact h'
  haveI : Subsingleton Cert.Pre_largest_is_finite.S_.Idx := ⟨fun _ _ => funext fun a => a.elim0⟩
  have h1 := Host.reduce_andi_all _ _ _ _ _ h0 (ix2 b n)
  have hM : Host.reduce FloatOps.maximumf A (constant S_ .f32 0xFF800000#32) Cert.Pre_largest_is_finite.Gen.reducesTo_S4x65536x192_S4x65536_d2
      Cert.Pre_largest_is_finite.Gen.h_S_ (ix2 b n) = top 192 (px A b n) := by
    rw [Host.reduce_eq_fold_single _ _ _ _ red _ _]
    show (Finset.univ : Finset (Fin 192)).fold max (Ideal.ofBits .f32 0xFF800000#32) (fun k : Fin 192 => A (red.lift (ix2 b n) k)) = _
    rw [ofBits_neg_inf]
    refine congrArg (fun f => (Finset.univ : Finset (Fin 192)).fold max ⊥ f) (funext fun k => ?_)
    refine Eq.trans (congrArg A ?_) (px_val A b n k).symm
    funext a
    match a with
    | ⟨0, _⟩ => rfl
    | ⟨1, _⟩ => rfl
    | ⟨2, _⟩ => rfl
  have h2 : IntOp.andi (Ideal.cmp .ogt (top 192 (px A b n)) (Ideal.ofBits .f32 0xFF800000#32)) (Ideal.cmp .olt (top 192 (px A b n)) (Ideal.ofBits .f32 0x7F800000#32)) = 1#1 := by
    rw [both_apply, bc_apply, bc_apply, hM] at h1
    exact h1
  rw [ofBits_neg_inf, ofBits_pos_inf] at h2
  obtain ⟨a, ha, h3, h4, -⟩ := place_top (n := 192) (by decide) (px A b n)
  rw [h3] at h2
  have h5 : ⊥ < px A b n a ∧ px A b n a < ⊤ := by
    unfold Ideal.cmp IntOp.andi at h2
    by_cases e : ⊥ < px A b n a <;> by_cases e' : px A b n a < ⊤ <;> simp_all
  refine ⟨(px A b n a).toReal, fun j hj => ?_, a, ha, ?_⟩
  · rw [EReal.coe_toReal h5.2.ne h5.1.ne']
    exact h4 j hj
  · exact (EReal.coe_toReal h5.2.ne h5.1.ne').symm

/-! ### The kernel's pixels -/

variable (A : FVec Ideal S4x65536x192 .f32) (b : Fin 4) (n : Fin 65536)

/-- The column a lane reads is its pixel. -/
theorem sc_col (b n y : ℕ) (hb : b < 4) (hn : n < 24576) (hy : y = b * 24576 + n) :
    n = ((y / 3072 % 8 * 24 + y % 3072 / 128) * 128 + (16 * (y % 3072 % 128 / 16) + y % 3072 % 16 % 16) % 128) % 65536 := by
  have h1 : y / 3072 % 8 = n / 3072 := by omega
  have h2 : y % 3072 = n % 3072 := by omega
  have h3 : 16 * (n % 3072 % 128 / 16) + n % 3072 % 16 = n % 3072 % 128 := by omega
  rw [h1, h2, Nat.mod_mod, h3, Nat.mod_mod]
  omega

/-- A pixel the SparseCores compute. -/
theorem sc_apply (hn : n.val < 24576) (hne : ∃ j < 192, px A b n j ≠ ⊥) (i : S98304.Idx) (hi : (i 0).val = b.val * 24576 + n.val) :
    ∃ (a : ℕ) (m β : EReal), Top (px A b n) 192 a m β ∧ resG (chan A) i = val ((a : ℝ) : EReal) β (px A b n a) m := by
  have hb := b.isLt
  unfold resG
  refine disp_eq _ _ _ (fun k hk d hd => ?_) hne
  refine Eq.trans ?_ ((chan_apply A b n (Fin.ofNat 24 k) (Fin.ofNat 8 d)).symm.trans ?_)
  · rw [show (Fin.ofNat 24 k).val = k from Nat.mod_eq_of_lt hk, show (Fin.ofNat 8 d).val = d from Nat.mod_eq_of_lt hd]
  · unfold chunkX
    refine congrArg (chan A) (funext fun a => Fin.ext ?_)
    match a with
    | ⟨0, _⟩ =>
      show b.val = (i 0).val / 3072 / 8 % 4
      omega
    | ⟨1, _⟩ => rfl
    | ⟨2, _⟩ => rfl
    | ⟨3, _⟩ =>
      exact sc_col b.val n.val _ hb hn hi

/-- A pixel the TensorCore computes. -/
theorem tc_apply (hn : 24576 ≤ n.val) (i : S163840.Idx) (hi : (i 0).val = b.val * 40960 + (n.val - 24576)) :
    ∃ (a : ℕ) (m β : EReal), Top (px A b n) 192 a m β ∧ tcG (chan A) i = val ((a : ℝ) : EReal) β (px A b n a) m := by
  have hb := b.isLt
  have hlt := n.isLt
  have hc : tcG (chan A) i = k1_pay1 (blkX (chan A) ((i 0).val / 40960) ((i 0).val % 40960 / 8192)) (ix1 (Fin.ofNat 8192 ((i 0).val % 8192))) := by
    unfold tcG
    refine congrArg _ (funext fun a => ?_)
    match a with
    | ⟨0, _⟩ => rfl
  rw [hc]
  refine pay_apply _ _ _ fun k hk d hd => ?_
  refine Eq.trans ?_ ((chan_apply A b n (Fin.ofNat 24 k) (Fin.ofNat 8 d)).symm.trans ?_)
  · rw [show (Fin.ofNat 24 k).val = k from Nat.mod_eq_of_lt hk, show (Fin.ofNat 8 d).val = d from Nat.mod_eq_of_lt hd]
  · unfold blkX
    refine congrArg (chan A) (funext fun a => Fin.ext ?_)
    match a with
    | ⟨0, _⟩ =>
      show b.val = (i 0).val / 40960 % 4
      omega
    | ⟨1, _⟩ => exact (Nat.mod_mod k 24).symm
    | ⟨2, _⟩ => exact (Nat.mod_mod d 8).symm
    | ⟨3, _⟩ =>
      show n.val = ((3 + (i 0).val % 40960 / 8192) * 8192 + (i 0).val % 8192 % 8192) % 65536
      omega

/-- The kernel's result, of the input. -/
def outK : FVec Ideal S4x65536 .f32 :=
  concatenate S4x65536 1 [⟨S4x24576, shapeCast S4x24576 (resG (chan A)) shapeCasts_S98304_S4x24576⟩,
    ⟨S4x40960, shapeCast S4x40960 (tcG (chan A)) shapeCasts_S163840_S4x40960⟩] concatenates_S4x24576_S4x40960_S4x65536_d1

/-- Each pixel of the kernel's result is the pixel's disparity. -/
theorem outK_apply (hne : ∃ j < 192, px A b n j ≠ ⊥) :
    ∃ (a : ℕ) (m β : EReal), Top (px A b n) 192 a m β ∧ outK A (ix2 b n) = val ((a : ℝ) : EReal) β (px A b n a) m := by
  have hb := b.isLt
  have hlt := n.isLt
  by_cases hn : n.val < 24576
  · have hi : b.val * 24576 + n.val < 98304 := by omega
    obtain ⟨a, m, β, h, e⟩ := sc_apply A b n hn hne (ix1 ⟨b.val * 24576 + n.val, hi⟩) rfl
    refine ⟨a, m, β, h, Eq.trans ?_ e⟩
    refine (concatenate_pair_apply_left 1 _ _ concatenates_S4x24576_S4x40960_S4x65536_d1 (ix2 b n) rfl (ix2 b ⟨n.val, hn⟩) ?_).trans
      (shapeCast_apply (resG (chan A)) shapeCasts_S98304_S4x24576 (ix2 b ⟨n.val, hn⟩) (ix1 ⟨b.val * 24576 + n.val, hi⟩) ?_)
    · intro a
      match a with
      | ⟨0, _⟩ => rfl
      | ⟨1, _⟩ => rfl
    · rw [Shape.rowMajor_val_one, Shape.rowMajor_val_two]
      exact Eq.refl (b.val * 24576 + n.val)
  · have hi : b.val * 40960 + (n.val - 24576) < 163840 := by omega
    have hn' : n.val - 24576 < 40960 := by omega
    obtain ⟨a, m, β, h, e⟩ := tc_apply A b n (not_lt.1 hn) (ix1 ⟨b.val * 40960 + (n.val - 24576), hi⟩) rfl
    refine ⟨a, m, β, h, Eq.trans ?_ e⟩
    refine (concatenate_pair_apply_right 1 _ _ concatenates_S4x24576_S4x40960_S4x65536_d1 (ix2 b n) rfl rfl (ix2 b ⟨n.val - 24576, hn'⟩) ?_ ?_).trans
      (shapeCast_apply (tcG (chan A)) shapeCasts_S163840_S4x40960 (ix2 b ⟨n.val - 24576, hn'⟩) (ix1 ⟨b.val * 40960 + (n.val - 24576), hi⟩) ?_)
    · have key : ∀ a : Fin 2, a ≠ 1 → (ix2 b (⟨n.val - 24576, hn'⟩ : Fin 40960) a).val = (ix2 b n a).val :=
        Fin.forall_fin_two.2 ⟨fun _ => rfl, fun h => absurd rfl h⟩
      exact key
    · exact Nat.sub_add_cancel (not_lt.1 hn)
    · rw [Shape.rowMajor_val_one, Shape.rowMajor_val_two]
      exact Eq.refl (b.val * 40960 + (n.val - 24576))

/-- The kernel's result is the reference's. -/
theorem outK_eq (h : Cert.Pre_largest_is_finite.fn (F := Ideal) A = fun _ => 1#1) : outK A = PixelRef.resW A := by
  funext i
  obtain ⟨b, n, rfl⟩ : ∃ b n, i = ix2 b n := ⟨i 0, i 1, eq_ix2 i⟩
  have hr := real_top A h b n
  obtain ⟨v, hv, j, hj, hjv⟩ := hr
  obtain ⟨a, m, β, h1, e1⟩ := outK_apply A b n ⟨j, hj, by rw [hjv]; exact EReal.coe_ne_bot v⟩
  obtain ⟨a', m', β', h2, e2⟩ := PixelRef.resW_apply A b n (px A b n) (px_val A b n) ⟨v, hv, j, hj, hjv⟩
  rw [e1, e2]
  exact Top.val_eq h1 h2

end Cert.Proof.Value

end
-- ==== Proof.lean ====
/-
  The certificate of the top-two disparity kernel: the frames of the kernel as printed, of its ideal reading and of
  the reference, and that the last two end with the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Bits.Run
public import proofs.«01_k».proof.Proof.Gen.Pre_largest_is_finite
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- Every element type has a value at the bit-exact instance. -/
theorem bits_nonempty : ∀ e, Nonempty (Elt Bits e) := fun e => by cases e <;> exact ⟨0⟩

/-- Every element type has a value at the ideal instance. -/
theorem ideal_nonempty : ∀ e, Nonempty (Elt Ideal e) := fun e => by
  cases e <;> first | exact ⟨(0 : EReal)⟩ | exact ⟨0⟩

/-- The kernel as printed runs to completion, leaves its argument alone and ends with every counter at zero. -/
theorem frame_p : Cert.quiescent_Kernel := fun m ρ _ =>
  haveI := bits_nonempty
  (θ_run Cert.Kernel.defs _ _).mono (fun _ h => ⟨fun c => (h.1 c).1, h.2⟩) (Kernel.run_main (F := Bits) m ρ)

/-- The kernel's ideal reading runs to completion, leaves its argument alone and ends with every counter at zero. -/
theorem frame_pi : Cert.quiescent_KernelIdeal := fun m ρ _ =>
  haveI := ideal_nonempty
  (θ_run Cert.KernelIdeal.defs _ _).mono (fun _ h => ⟨fun c => (h.1 c).1, h.2⟩) (KernelIdeal.run_main (F := Ideal) m ρ)

/-- The reference runs to completion, leaves its argument alone and ends with every counter at zero. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's ideal reading and the reference end with the same result, where each pixel's greatest value is a real number. -/
theorem algebraic : Cert.algebraic_KernelIdeal_ReferenceIdeal_pre_largest_is_finite := fun m g m' g' hpre hm =>
  haveI := ideal_nonempty
  ⟨fun c => Value.outK (m ((c.tc : Thread Cert.KernelIdeal.nD Cert.KernelIdeal.τ).loc Cert.KernelIdeal.main_arg0)),
    (θ_run Cert.KernelIdeal.defs _ _).mono (fun _ h c => ⟨(h.1 c).2, (h.1 c).1⟩) (KernelIdeal.run_main (F := Ideal) m g),
    (θ_run Cert.ReferenceIdeal.defs _ _).mono
      (fun _ h c => ⟨(h c).1.trans ((PixelRef.res_eq m' c).trans ((congrArg PixelRef.resW (hm c)).trans (Value.outK_eq _ (hpre c)).symm)), (h c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_largest_is_finite.Gen.facts,
    frame_p, frame_pi, fun m g _ => frame_pi m g trivial, frame_ri, fun m g _ => frame_ri m g trivial, trivial, algebraic⟩

end Cert.Proof

end
